-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_RefDxIdeal (m : (ℓ : Loc Cert.RefDxIdeal.nD Cert.RefDxIdeal.τ Cert.RefDxIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1)
      ∧ r.2.mem ((c.tc : Thread Cert.RefDwIdeal.nD Cert.RefDwIdeal.τ).loc Cert.RefDwIdeal.main_arg2) = m ((c.tc : Thread Cert.RefDwIdeal.nD Cert.RefDwIdeal.τ).loc Cert.RefDwIdeal.main_arg2)
      ∧ r.2.mem ((c.tc : Thread Cert.RefDwIdeal.nD Cert.RefDwIdeal.τ).loc Cert.RefDwIdeal.main_arg3) = m ((c.tc : Thread Cert.RefDwIdeal.nD Cert.RefDwIdeal.τ).loc Cert.RefDwIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1)
      ∧ r.2.mem ((c.tc : Thread Cert.RefDxIdeal.nD Cert.RefDxIdeal.τ).loc Cert.RefDxIdeal.main_arg2) = m ((c.tc : Thread Cert.RefDxIdeal.nD Cert.RefDxIdeal.τ).loc Cert.RefDxIdeal.main_arg2)
      ∧ r.2.mem ((c.tc : Thread Cert.RefDxIdeal.nD Cert.RefDxIdeal.τ).loc Cert.RefDxIdeal.main_arg3) = m ((c.tc : Thread Cert.RefDxIdeal.nD Cert.RefDxIdeal.τ).loc Cert.RefDxIdeal.main_arg3)
      ∧ r.2.mem ((c.tc : Thread Cert.RefDxIdeal.nD Cert.RefDxIdeal.τ).loc Cert.RefDxIdeal.main_arg4) = m ((c.tc : Thread Cert.RefDxIdeal.nD Cert.RefDxIdeal.τ).loc Cert.RefDxIdeal.main_arg4)
      ∧ r.2.mem ((c.tc : Thread Cert.RefDxIdeal.nD Cert.RefDxIdeal.τ).loc Cert.RefDxIdeal.main_arg5) = m ((c.tc : Thread Cert.RefDxIdeal.nD Cert.RefDxIdeal.τ).loc Cert.RefDxIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4))
      ∧ r.2.sem = fun _ => 0)

def preserves_Dw_DwIdeal : Prop :=
  True

def algebraic_DwIdeal_RefDwIdeal [hDwIdeal : Cert.DwIdeal.Facts] [hRefDwIdeal : Cert.RefDwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_DwIdeal m →
    (∀ c : Dev Cert.DwIdeal.nD,
      m' ((c.tc : Thread Cert.RefDwIdeal.nD Cert.RefDwIdeal.τ).loc Cert.RefDwIdeal.main_arg0) = m ((c.tc : Thread Cert.DwIdeal.nD Cert.DwIdeal.τ).loc Cert.DwIdeal.main_arg0)
      ∧ m' ((c.tc : Thread Cert.RefDwIdeal.nD Cert.RefDwIdeal.τ).loc Cert.RefDwIdeal.main_arg1) = m ((c.tc : Thread Cert.DwIdeal.nD Cert.DwIdeal.τ).loc Cert.DwIdeal.main_arg1)
      ∧ m' ((c.tc : Thread Cert.RefDwIdeal.nD Cert.RefDwIdeal.τ).loc Cert.RefDwIdeal.main_arg2) = m ((c.tc : Thread Cert.DwIdeal.nD Cert.DwIdeal.τ).loc Cert.DwIdeal.main_arg2)
      ∧ m' ((c.tc : Thread Cert.RefDwIdeal.nD Cert.RefDwIdeal.τ).loc Cert.RefDwIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v4)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v4) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v0) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1)
          ∧ r.2.mem ((c.tc : Thread Cert.RefDwIdeal.nD Cert.RefDwIdeal.τ).loc Cert.RefDwIdeal.main_arg2) = m' ((c.tc : Thread Cert.RefDwIdeal.nD Cert.RefDwIdeal.τ).loc Cert.RefDwIdeal.main_arg2)
          ∧ r.2.mem ((c.tc : Thread Cert.RefDwIdeal.nD Cert.RefDwIdeal.τ).loc Cert.RefDwIdeal.main_arg3) = m' ((c.tc : Thread Cert.RefDwIdeal.nD Cert.RefDwIdeal.τ).loc Cert.RefDwIdeal.main_arg3))

def preserves_Dx_DxIdeal : Prop :=
  True

def algebraic_DxIdeal_RefDxIdeal [hDxIdeal : Cert.DxIdeal.Facts] [hRefDxIdeal : Cert.RefDxIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_DxIdeal m →
    (∀ c : Dev Cert.DxIdeal.nD,
      m' ((c.tc : Thread Cert.RefDxIdeal.nD Cert.RefDxIdeal.τ).loc Cert.RefDxIdeal.main_arg0) = m ((c.tc : Thread Cert.DxIdeal.nD Cert.DxIdeal.τ).loc Cert.DxIdeal.main_arg0)
      ∧ m' ((c.tc : Thread Cert.RefDxIdeal.nD Cert.RefDxIdeal.τ).loc Cert.RefDxIdeal.main_arg1) = m ((c.tc : Thread Cert.DxIdeal.nD Cert.DxIdeal.τ).loc Cert.DxIdeal.main_arg1)
      ∧ m' ((c.tc : Thread Cert.RefDxIdeal.nD Cert.RefDxIdeal.τ).loc Cert.RefDxIdeal.main_arg2) = m ((c.tc : Thread Cert.DxIdeal.nD Cert.DxIdeal.τ).loc Cert.DxIdeal.main_arg2)
      ∧ m' ((c.tc : Thread Cert.RefDxIdeal.nD Cert.RefDxIdeal.τ).loc Cert.RefDxIdeal.main_arg3) = m ((c.tc : Thread Cert.DxIdeal.nD Cert.DxIdeal.τ).loc Cert.DxIdeal.main_arg3)
      ∧ m' ((c.tc : Thread Cert.RefDxIdeal.nD Cert.RefDxIdeal.τ).loc Cert.RefDxIdeal.main_arg4) = m ((c.tc : Thread Cert.DxIdeal.nD Cert.DxIdeal.τ).loc Cert.DxIdeal.main_arg4)
      ∧ m' ((c.tc : Thread Cert.RefDxIdeal.nD Cert.RefDxIdeal.τ).loc Cert.RefDxIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v6_0)) (v1 : (c : Dev Cert.DxIdeal.nD) → Buf (Elt Ideal) ((c.tc : Thread Cert.DxIdeal.nD Cert.DxIdeal.τ).loc Cert.DxIdeal.main_v6_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v6_0) = v0 c
          ∧ r.2.mem ((c.tc : Thread Cert.DxIdeal.nD Cert.DxIdeal.τ).loc Cert.DxIdeal.main_v6_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v0_0) = v0 c
          ∧ r.2.mem ((c.tc : Thread Cert.RefDxIdeal.nD Cert.RefDxIdeal.τ).loc Cert.RefDxIdeal.main_v0_1) = v1 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1)
          ∧ r.2.mem ((c.tc : Thread Cert.RefDxIdeal.nD Cert.RefDxIdeal.τ).loc Cert.RefDxIdeal.main_arg2) = m' ((c.tc : Thread Cert.RefDxIdeal.nD Cert.RefDxIdeal.τ).loc Cert.RefDxIdeal.main_arg2)
          ∧ r.2.mem ((c.tc : Thread Cert.RefDxIdeal.nD Cert.RefDxIdeal.τ).loc Cert.RefDxIdeal.main_arg3) = m' ((c.tc : Thread Cert.RefDxIdeal.nD Cert.RefDxIdeal.τ).loc Cert.RefDxIdeal.main_arg3)
          ∧ r.2.mem ((c.tc : Thread Cert.RefDxIdeal.nD Cert.RefDxIdeal.τ).loc Cert.RefDxIdeal.main_arg4) = m' ((c.tc : Thread Cert.RefDxIdeal.nD Cert.RefDxIdeal.τ).loc Cert.RefDxIdeal.main_arg4)
          ∧ r.2.mem ((c.tc : Thread Cert.RefDxIdeal.nD Cert.RefDxIdeal.τ).loc Cert.RefDxIdeal.main_arg5) = m' ((c.tc : Thread Cert.RefDxIdeal.nD Cert.RefDxIdeal.τ).loc Cert.RefDxIdeal.main_arg5))

def preserves_Fwd_FwdIdeal : Prop :=
  True

def algebraic_FwdIdeal_RefFwdIdeal [hFwdIdeal : Cert.FwdIdeal.Facts] [hRefFwdIdeal : Cert.RefFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)
      ∧ m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3)
      ∧ m' ((c.tc : Thread Cert.RefFwdIdeal.nD Cert.RefFwdIdeal.τ).loc Cert.RefFwdIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v3_0)) (v1 : (c : Dev Cert.FwdIdeal.nD) → Buf (Elt Ideal) ((c.tc : Thread Cert.FwdIdeal.nD Cert.FwdIdeal.τ).loc Cert.FwdIdeal.main_v3_1)) (v2 : (c : Dev Cert.FwdIdeal.nD) → Buf (Elt Ideal) ((c.tc : Thread Cert.FwdIdeal.nD Cert.FwdIdeal.τ).loc Cert.FwdIdeal.main_v3_2)) (v3 : (c : Dev Cert.FwdIdeal.nD) → Buf (Elt Ideal) ((c.tc : Thread Cert.FwdIdeal.nD Cert.FwdIdeal.τ).loc Cert.FwdIdeal.main_v3_3)) (v4 : (c : Dev Cert.FwdIdeal.nD) → Buf (Elt Ideal) ((c.tc : Thread Cert.FwdIdeal.nD Cert.FwdIdeal.τ).loc Cert.FwdIdeal.main_v3_4)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_v3_1) = v1 c
          ∧ r.2.mem ((c.tc : Thread Cert.FwdIdeal.nD Cert.FwdIdeal.τ).loc Cert.FwdIdeal.main_v3_2) = v2 c
          ∧ r.2.mem ((c.tc : Thread Cert.FwdIdeal.nD Cert.FwdIdeal.τ).loc Cert.FwdIdeal.main_v3_3) = v3 c
          ∧ r.2.mem ((c.tc : Thread Cert.FwdIdeal.nD Cert.FwdIdeal.τ).loc Cert.FwdIdeal.main_v3_4) = v4 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v0_0) = v0 c
          ∧ r.2.mem ((c.tc : Thread Cert.RefFwdIdeal.nD Cert.RefFwdIdeal.τ).loc Cert.RefFwdIdeal.main_v0_1) = v1 c
          ∧ r.2.mem ((c.tc : Thread Cert.RefFwdIdeal.nD Cert.RefFwdIdeal.τ).loc Cert.RefFwdIdeal.main_v0_2) = v2 c
          ∧ r.2.mem ((c.tc : Thread Cert.RefFwdIdeal.nD Cert.RefFwdIdeal.τ).loc Cert.RefFwdIdeal.main_v0_3) = v3 c
          ∧ r.2.mem ((c.tc : Thread Cert.RefFwdIdeal.nD Cert.RefFwdIdeal.τ).loc Cert.RefFwdIdeal.main_v0_4) = v4 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3)
          ∧ r.2.mem ((c.tc : Thread Cert.RefFwdIdeal.nD Cert.RefFwdIdeal.τ).loc Cert.RefFwdIdeal.main_arg4) = m' ((c.tc : Thread Cert.RefFwdIdeal.nD Cert.RefFwdIdeal.τ).loc Cert.RefFwdIdeal.main_arg4))

def Claim : Prop :=
  ∃ (hDw : Cert.Dw.Facts) (hDwIdeal : Cert.DwIdeal.Facts) (hRefDwIdeal : Cert.RefDwIdeal.Facts) (hDx : Cert.Dx.Facts) (hDxIdeal : Cert.DxIdeal.Facts) (hRefDxIdeal : Cert.RefDxIdeal.Facts) (hFwd : Cert.Fwd.Facts) (hFwdIdeal : Cert.FwdIdeal.Facts) (hRefFwdIdeal : Cert.RefFwdIdeal.Facts),
    quiescent_Dw (hDw := hDw)
    ∧ quiescent_DwIdeal (hDwIdeal := hDwIdeal)
    ∧ quiescent_RefDwIdeal (hRefDwIdeal := hRefDwIdeal)
    ∧ quiescent_Dx (hDx := hDx)
    ∧ quiescent_DxIdeal (hDxIdeal := hDxIdeal)
    ∧ quiescent_RefDxIdeal (hRefDxIdeal := hRefDxIdeal)
    ∧ quiescent_Fwd (hFwd := hFwd)
    ∧ quiescent_FwdIdeal (hFwdIdeal := hFwdIdeal)
    ∧ quiescent_RefFwdIdeal (hRefFwdIdeal := hRefFwdIdeal)
    ∧ preserves_Dw_DwIdeal
    ∧ algebraic_DwIdeal_RefDwIdeal (hDwIdeal := hDwIdeal) (hRefDwIdeal := hRefDwIdeal)
    ∧ preserves_Dx_DxIdeal
    ∧ algebraic_DxIdeal_RefDxIdeal (hDxIdeal := hDxIdeal) (hRefDxIdeal := hRefDxIdeal)
    ∧ preserves_Fwd_FwdIdeal
    ∧ algebraic_FwdIdeal_RefFwdIdeal (hFwdIdeal := hFwdIdeal) (hRefFwdIdeal := hRefFwdIdeal)
-- ==== Dw.lean ====
abbrev S2048x16384 : Shape := ⟨2, ![2048, 16384]⟩
abbrev S2048x5120 : Shape := ⟨2, ![2048, 5120]⟩
abbrev S2048x8 : Shape := ⟨2, ![2048, 8]⟩
abbrev S2048x1 : Shape := ⟨2, ![2048, 1]⟩
abbrev S2048x128 : Shape := ⟨2, ![2048, 128]⟩
abbrev S8x2048 : Shape := ⟨2, ![8, 2048]⟩
abbrev S8x2048x1 : Shape := ⟨3, ![8, 2048, 1]⟩
abbrev S8x2048x128 : Shape := ⟨3, ![8, 2048, 128]⟩
abbrev S16384x5120 : Shape := ⟨2, ![16384, 5120]⟩
abbrev S2048x256 : Shape := ⟨2, ![2048, 256]⟩
abbrev S1x2048x128 : Shape := ⟨3, ![1, 2048, 128]⟩
abbrev S256x5120 : Shape := ⟨2, ![256, 5120]⟩

abbrev nBuf : Space → Nat
  | .hbm => 9
  | .vmem => 8
  | .smem => 0
  | _ => 0

abbrev bufTy : (tb : Table) → Fin (tcTables nBuf tb) → BufTy
  | .hbm, ⟨0, _⟩ => ⟨S2048x16384, .fp8e5m2⟩
  | .hbm, ⟨1, _⟩ => ⟨S2048x5120, .fp8e4m3⟩
  | .hbm, ⟨2, _⟩ => ⟨S2048x8, .f32⟩
  | .hbm, ⟨3, _⟩ => ⟨S2048x1, .f32⟩
  | .hbm, ⟨4, _⟩ => ⟨S2048x128, .f32⟩
  | .hbm, ⟨5, _⟩ => ⟨S8x2048, .f32⟩
  | .hbm, ⟨6, _⟩ => ⟨S8x2048x1, .f32⟩
  | .hbm, ⟨7, _⟩ => ⟨S8x2048x128, .f32⟩
  | .hbm, ⟨8, _⟩ => ⟨S16384x5120, .f32⟩
  | .local _ .vmem, ⟨0, _⟩ => ⟨S2048x256, .fp8e5m2⟩
  | .local _ .vmem, ⟨1, _⟩ => ⟨S2048x256, .fp8e5m2⟩
  | .local _ .vmem, ⟨2, _⟩ => ⟨S2048x5120, .fp8e4m3⟩
  | .local _ .vmem, ⟨3, _⟩ => ⟨S1x2048x128, .f32⟩
  | .local _ .vmem, ⟨4, _⟩ => ⟨S1x2048x128, .f32⟩
  | .local _ .vmem, ⟨5, _⟩ => ⟨S2048x128, .f32⟩
  | .local _ .vmem, ⟨6, _⟩ => ⟨S256x5120, .f32⟩
  | .local _ .vmem, ⟨7, _⟩ => ⟨S256x5120, .f32⟩
  | _, _ => ⟨S2048x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwIdeal.lean ====
abbrev S2048x16384 : Shape := ⟨2, ![2048, 16384]⟩
abbrev S2048x5120 : Shape := ⟨2, ![2048, 5120]⟩
abbrev S2048x8 : Shape := ⟨2, ![2048, 8]⟩
abbrev S2048x1 : Shape := ⟨2, ![2048, 1]⟩
abbrev S16384x5120 : Shape := ⟨2, ![16384, 5120]⟩
abbrev S2048x8x2048 : Shape := ⟨3, ![2048, 8, 2048]⟩
abbrev S2048x8x1 : Shape := ⟨3, ![2048, 8, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x16384, .fp8e5m2⟩
  | .hbm, ⟨1, _⟩ => ⟨S2048x5120, .fp8e4m3⟩
  | .hbm, ⟨2, _⟩ => ⟨S2048x8, .f32⟩
  | .hbm, ⟨3, _⟩ => ⟨S2048x1, .f32⟩
  | .hbm, ⟨4, _⟩ => ⟨S16384x5120, .f32⟩
  | .local _ .vmem, ⟨0, _⟩ => ⟨S2048x16384, .fp8e5m2⟩
  | .local _ .vmem, ⟨1, _⟩ => ⟨S2048x5120, .fp8e4m3⟩
  | .local _ .vmem, ⟨2, _⟩ => ⟨S2048x8, .f32⟩
  | .local _ .vmem, ⟨3, _⟩ => ⟨S2048x1, .f32⟩
  | .local _ .vmem, ⟨4, _⟩ => ⟨S16384x5120, .f32⟩
  | _, _ => ⟨S2048x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x16384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dx.lean ====
abbrev S2048x16384 : Shape := ⟨2, ![2048, 16384]⟩
abbrev S16384x5120 : Shape := ⟨2, ![16384, 5120]⟩
abbrev S16384 : Shape := ⟨1, ![16384]⟩
abbrev S2048x1 : Shape := ⟨2, ![2048, 1]⟩
abbrev S2048x8 : Shape := ⟨2, ![2048, 8]⟩
abbrev S2048x128 : Shape := ⟨2, ![2048, 128]⟩
abbrev S8x2048 : Shape := ⟨2, ![8, 2048]⟩
abbrev S8x2048x1 : Shape := ⟨3, ![8, 2048, 1]⟩
abbrev S8x2048x128 : Shape := ⟨3, ![8, 2048, 128]⟩
abbrev S1x16384 : Shape := ⟨2, ![1, 16384]⟩
abbrev S2048x5120 : Shape := ⟨2, ![2048, 5120]⟩
abbrev S1024x512 : Shape := ⟨2, ![1024, 512]⟩
abbrev S512x5120 : Shape := ⟨2, ![512, 5120]⟩
abbrev S1x512 : Shape := ⟨2, ![1, 512]⟩
abbrev S1024x128 : Shape := ⟨2, ![1024, 128]⟩
abbrev S1x1024x128 : Shape := ⟨3, ![1, 1024, 128]⟩
abbrev S1024x5120 : Shape := ⟨2, ![1024, 5120]⟩
abbrev S1x128 : Shape := ⟨2, ![1, 128]⟩

abbrev nBuf : Space → Nat
  | .hbm => 14
  | .vmem => 17
  | .smem => 0
  | _ => 0

abbrev bufTy : (tb : Table) → Fin (tcTables nBuf tb) → BufTy
  | .hbm, ⟨0, _⟩ => ⟨S2048x16384, .f32⟩
  | .hbm, ⟨1, _⟩ => ⟨S16384x5120, .fp8e4m3⟩
  | .hbm, ⟨2, _⟩ => ⟨S16384, .f32⟩
  | .hbm, ⟨3, _⟩ => ⟨S2048x1, .f32⟩
  | .hbm, ⟨4, _⟩ => ⟨S2048x8, .f32⟩
  | .hbm, ⟨5, _⟩ => ⟨S2048x1, .i32⟩
  | .hbm, ⟨6, _⟩ => ⟨S2048x128, .f32⟩
  | .hbm, ⟨7, _⟩ => ⟨S2048x128, .i32⟩
  | .hbm, ⟨8, _⟩ => ⟨S8x2048, .f32⟩
  | .hbm, ⟨9, _⟩ => ⟨S8x2048x1, .f32⟩
  | .hbm, ⟨10, _⟩ => ⟨S8x2048x128, .f32⟩
  | .hbm, ⟨11, _⟩ => ⟨S1x16384, .f32⟩
  | .hbm, ⟨12, _⟩ => ⟨S2048x16384, .fp8e5m2⟩
  | .hbm, ⟨13, _⟩ => ⟨S2048x5120, .bf16⟩
  | .local _ .vmem, ⟨0, _⟩ => ⟨S1024x512, .f32⟩
  | .local _ .vmem, ⟨1, _⟩ => ⟨S1024x512, .f32⟩
  | .local _ .vmem, ⟨2, _⟩ => ⟨S512x5120, .fp8e4m3⟩
  | .local _ .vmem, ⟨3, _⟩ => ⟨S512x5120, .fp8e4m3⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .i32⟩
  | .local _ .vmem, ⟨11, _⟩ => ⟨S1024x128, .i32⟩
  | .local _ .vmem, ⟨12, _⟩ => ⟨S1024x512, .fp8e5m2⟩
  | .local _ .vmem, ⟨13, _⟩ => ⟨S1024x512, .fp8e5m2⟩
  | .local _ .vmem, ⟨14, _⟩ => ⟨S1024x5120, .bf16⟩
  | .local _ .vmem, ⟨15, _⟩ => ⟨S1024x5120, .bf16⟩
  | .local _ .vmem, ⟨16, _⟩ => ⟨S1024x5120, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v137 : BitVec 1 := Scalar.cmpi .eq arg1 c31_i32
  let v138 : BitVec 32 := Scalar.extui v137
  let c0_i32_56 : BitVec 32 := 0#32
  let v139 : BitVec 1 := Scalar.cmpi .ne v138 c0_i32_56
  v139

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefDxIdeal.lean ====
abbrev S2048x16384 : Shape := ⟨2, ![2048, 16384]⟩
abbrev S16384x5120 : Shape := ⟨2, ![16384, 5120]⟩
abbrev S16384 : Shape := ⟨1, ![16384]⟩
abbrev S2048x1 : Shape := ⟨2, ![2048, 1]⟩
abbrev S2048x8 : Shape := ⟨2, ![2048, 8]⟩
abbrev S2048x5120 : Shape := ⟨2, ![2048, 5120]⟩
abbrev S2048x8x2048 : Shape := ⟨3, ![2048, 8, 2048]⟩
abbrev S2048x8x1 : Shape := ⟨3, ![2048, 8, 1]⟩
abbrev S16384x1 : Shape := ⟨2, ![16384, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x16384, .f32⟩
  | .hbm, ⟨1, _⟩ => ⟨S16384x5120, .fp8e4m3⟩
  | .hbm, ⟨2, _⟩ => ⟨S16384, .f32⟩
  | .hbm, ⟨3, _⟩ => ⟨S2048x1, .f32⟩
  | .hbm, ⟨4, _⟩ => ⟨S2048x8, .f32⟩
  | .hbm, ⟨5, _⟩ => ⟨S2048x1, .i32⟩
  | .hbm, ⟨6, _⟩ => ⟨S2048x16384, .fp8e5m2⟩
  | .hbm, ⟨7, _⟩ => ⟨S2048x5120, .bf16⟩
  | .local _ .vmem, ⟨0, _⟩ => ⟨S2048x16384, .f32⟩
  | .local _ .vmem, ⟨1, _⟩ => ⟨S16384x5120, .fp8e4m3⟩
  | .local _ .vmem, ⟨2, _⟩ => ⟨S16384, .f32⟩
  | .local _ .vmem, ⟨3, _⟩ => ⟨S2048x1, .f32⟩
  | .local _ .vmem, ⟨4, _⟩ => ⟨S2048x8, .f32⟩
  | .local _ .vmem, ⟨5, _⟩ => ⟨S2048x1, .i32⟩
  | .local _ .vmem, ⟨6, _⟩ => ⟨S2048x16384, .fp8e5m2⟩
  | .local _ .vmem, ⟨7, _⟩ => ⟨S2048x5120, .bf16⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16384 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Fwd.lean ====
abbrev S2048x5120 : Shape := ⟨2, ![2048, 5120]⟩
abbrev S16384x5120 : Shape := ⟨2, ![16384, 5120]⟩
abbrev S2048x1 : Shape := ⟨2, ![2048, 1]⟩
abbrev S16384 : Shape := ⟨1, ![16384]⟩
abbrev S2048x128 : Shape := ⟨2, ![2048, 128]⟩
abbrev S1x16384 : Shape := ⟨2, ![1, 16384]⟩
abbrev S2048x16384 : Shape := ⟨2, ![2048, 16384]⟩
abbrev S8x2048x128 : Shape := ⟨3, ![8, 2048, 128]⟩
abbrev S16x128 : Shape := ⟨2, ![16, 128]⟩
abbrev S2048x8 : Shape := ⟨2, ![2048, 8]⟩
abbrev S512x5120 : Shape := ⟨2, ![512, 5120]⟩
abbrev S1x512 : Shape := ⟨2, ![1, 512]⟩
abbrev S2048x512 : Shape := ⟨2, ![2048, 512]⟩
abbrev S512x128 : Shape := ⟨2, ![512, 128]⟩
abbrev S1x512x128 : Shape := ⟨3, ![1, 512, 128]⟩
abbrev S512x512 : Shape := ⟨2, ![512, 512]⟩
abbrev S1x128 : Shape := ⟨2, ![1, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x8 : Shape := ⟨2, ![128, 8]⟩

abbrev nBuf : Space → Nat
  | .hbm => 13
  | .vmem => 15
  | .smem => 0
  | _ => 0

abbrev bufTy : (tb : Table) → Fin (tcTables nBuf tb) → BufTy
  | .hbm, ⟨0, _⟩ => ⟨S2048x5120, .fp8e4m3⟩
  | .hbm, ⟨1, _⟩ => ⟨S16384x5120, .fp8e4m3⟩
  | .hbm, ⟨2, _⟩ => ⟨S2048x1, .f32⟩
  | .hbm, ⟨3, _⟩ => ⟨S16384, .f32⟩
  | .hbm, ⟨4, _⟩ => ⟨S2048x1, .i32⟩
  | .hbm, ⟨5, _⟩ => ⟨S2048x128, .f32⟩
  | .hbm, ⟨6, _⟩ => ⟨S2048x128, .i32⟩
  | .hbm, ⟨7, _⟩ => ⟨S1x16384, .f32⟩
  | .hbm, ⟨8, _⟩ => ⟨S2048x16384, .f32⟩
  | .hbm, ⟨9, _⟩ => ⟨S2048x128, .f32⟩
  | .hbm, ⟨10, _⟩ => ⟨S8x2048x128, .f32⟩
  | .hbm, ⟨11, _⟩ => ⟨S16x128, .f32⟩
  | .hbm, ⟨12, _⟩ => ⟨S2048x8, .f32⟩
  | .local _ .vmem, ⟨0, _⟩ => ⟨S2048x5120, .fp8e4m3⟩
  | .local _ .vmem, ⟨1, _⟩ => ⟨S512x5120, .fp8e4m3⟩
  | .local _ .vmem, ⟨2, _⟩ => ⟨S512x5120, .fp8e4m3⟩
  | .local _ .vmem, ⟨3, _⟩ => ⟨S2048x128, .f32⟩
  | .local _ .vmem, ⟨4, _⟩ => ⟨S1x512, .f32⟩
  | .local _ .vmem, ⟨5, _⟩ => ⟨S1x512, .f32⟩
  | .local _ .vmem, ⟨6, _⟩ => ⟨S2048x128, .i32⟩
  | .local _ .vmem, ⟨7, _⟩ => ⟨S2048x512, .f32⟩
  | .local _ .vmem, ⟨8, _⟩ => ⟨S2048x512, .f32⟩
  | .local _ .vmem, ⟨9, _⟩ => ⟨S2048x128, .f32⟩
  | .local _ .vmem, ⟨10, _⟩ => ⟨S8x2048x128, .f32⟩
  | .local _ .vmem, ⟨11, _⟩ => ⟨S16x128, .f32⟩
  | .local _ .vmem, ⟨12, _⟩ => ⟨S2048x8, .f32⟩
  | .local _ .vmem, ⟨13, _⟩ => ⟨S2048x128, .f32⟩
  | .local _ .vmem, ⟨14, _⟩ => ⟨S2048x128, .f32⟩
  | _, _ => ⟨S2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c4_i32 : BitVec 32 := 4#32
  let v3 : BitVec 32 := Scalar.divsi arg0 c4_i32
  let v5 : Index := Scalar.indexCast v3
  let c0 : Index := 0#32
  let c0_1 : Index := 0#32
  ![v5.toNat, 0, 0]
def k0_off2 (i : grid0.Coords) : Fin 3 → Nat :=
  let arg0 : BitVec 32 := BitVec.ofNat 32 (i 0).val
  let c4_i32 : BitVec 32 := 4#32
  let v3 : BitVec 32 := Scalar.divsi arg0 c4_i32
  let v8 : Index := Scalar.indexCast v3
  let c512 : Index := 512#32
  let c0_2 : Index := 0#32
  ![v8.toNat, 512, 0]
def k0_off3 (i : grid0.Coords) : Fin 3 → Nat :=
  let arg0 : BitVec 32 := BitVec.ofNat 32 (i 0).val
  let c4_i32 : BitVec 32 := 4#32
  let v3 : BitVec 32 := Scalar.divsi arg0 c4_i32
  let v11 : Index := Scalar.indexCast v3
  let c1024 : Index := 1024#32
  let c0_3 : Index := 0#32
  ![v11.toNat, 1024, 0]
def k0_off4 (i : grid0.Coords) : Fin 3 → Nat :=
  let arg0 : BitVec 32 := BitVec.ofNat 32 (i 0).val
  let c4_i32 : BitVec 32 := 4#32
  let v3 : BitVec 32 := Scalar.divsi arg0 c4_i32
  let v14 : Index := Scalar.indexCast v3
  let c1536 : Index := 1536#32
  let c0_4 : Index := 0#32
  ![v14.toNat, 1536, 0]
def k0_cond2 (i : grid0.Coords) : BitVec 1 :=
  let arg0 : BitVec 32 := BitVec.ofNat 32 (i 0).val
  let c31_i32 : BitVec 32 := 31#32
  let v493 : BitVec 1 := Scalar.cmpi .eq arg0 c31_i32
  let v494 : BitVec 32 := Scalar.extui v493
  let c0_i32_221 : BitVec 32 := 0#32
  let v495 : BitVec 1 := Scalar.cmpi .ne v494 c0_i32_221
  v495

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefFwdIdeal.lean ====
abbrev S2048x5120 : Shape := ⟨2, ![2048, 5120]⟩
abbrev S16384x5120 : Shape := ⟨2, ![16384, 5120]⟩
abbrev S2048x1 : Shape := ⟨2, ![2048, 1]⟩
abbrev S16384 : Shape := ⟨1, ![16384]⟩
abbrev S2048x16384 : Shape := ⟨2, ![2048, 16384]⟩
abbrev S2048x128 : Shape := ⟨2, ![2048, 128]⟩
abbrev S8x2048x128 : Shape := ⟨3, ![8, 2048, 128]⟩
abbrev S16x128 : Shape := ⟨2, ![16, 128]⟩
abbrev S2048x8 : Shape := ⟨2, ![2048, 8]⟩
abbrev S1x16384 : Shape := ⟨2, ![1, 16384]⟩
abbrev S2048 : Shape := ⟨1, ![2048]⟩
abbrev S2048x8x2048 : Shape := ⟨3, ![2048, 8, 2048]⟩
abbrev S8x2048 : Shape := ⟨2, ![8, 2048]⟩
abbrev S8x2048x1 : Shape := ⟨3, ![8, 2048, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x5120, .fp8e4m3⟩
  | .hbm, ⟨1, _⟩ => ⟨S16384x5120, .fp8e4m3⟩
  | .hbm, ⟨2, _⟩ => ⟨S2048x1, .f32⟩
  | .hbm, ⟨3, _⟩ => ⟨S16384, .f32⟩
  | .hbm, ⟨4, _⟩ => ⟨S2048x1, .i32⟩
  | .hbm, ⟨5, _⟩ => ⟨S2048x16384, .f32⟩
  | .hbm, ⟨6, _⟩ => ⟨S2048x128, .f32⟩
  | .hbm, ⟨7, _⟩ => ⟨S8x2048x128, .f32⟩
  | .hbm, ⟨8, _⟩ => ⟨S16x128, .f32⟩
  | .hbm, ⟨9, _⟩ => ⟨S2048x8, .f32⟩
  | .local _ .vmem, ⟨0, _⟩ => ⟨S2048x5120, .fp8e4m3⟩
  | .local _ .vmem, ⟨1, _⟩ => ⟨S16384x5120, .fp8e4m3⟩
  | .local _ .vmem, ⟨2, _⟩ => ⟨S2048x1, .f32⟩
  | .local _ .vmem, ⟨3, _⟩ => ⟨S16384, .f32⟩
  | .local _ .vmem, ⟨4, _⟩ => ⟨S2048x1, .i32⟩
  | .local _ .vmem, ⟨5, _⟩ => ⟨S2048x16384, .f32⟩
  | .local _ .vmem, ⟨6, _⟩ => ⟨S2048x128, .f32⟩
  | .local _ .vmem, ⟨7, _⟩ => ⟨S8x2048x128, .f32⟩
  | .local _ .vmem, ⟨8, _⟩ => ⟨S16x128, .f32⟩
  | .local _ .vmem, ⟨9, _⟩ => ⟨S2048x8, .f32⟩
  | _, _ => ⟨S2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.DwValue.lean ====
/- What the weight-gradient call leaves in its result, over the extended reals: the product of the plain reference. -/
module

public import proofs.«01_k».proof.Proof.Gen.DwIdeal.Value
public import proofs.«01_k».proof.Proof.Gen.RefDwIdeal.Value
public import Idealize.ShloMosaic.Lib.Pipeline.ValueKit

@[expose] public section

set_option maxRecDepth 16384

noncomputable section

namespace Cert.DwIdeal.Hand

open Cert.DwIdeal Cert.DwIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the codes, the quantised activations and their scales. -/
abbrev REF (a0 : FVec Ideal S2048x16384 .fp8e5m2) (a1 : FVec Ideal S2048x5120 .fp8e4m3) (a2 : FVec Ideal S2048x8 .f32)
    (a3 : FVec Ideal S2048x1 .f32) : FVec Ideal S16384x5120 .f32 :=
  Cert.RefDwIdeal.Gen.k0_pay1 (F := Ideal) a0 a2 a1 a3

/-- Which block each window holds at grid point `t`: column block `t` of the codes, group `t / 8` of the scales, row block `t`
    of the result; the activations and their scales are whole. -/
theorem idx : ∀ t : Fin cfg0.N, win0_0.index t = ![0, t.val] ∧ win0_1.index t = ![0, 0] ∧ win0_2.index t = ![t.val / 8, 0, 0]
    ∧ win0_3.index t = ![0, 0] ∧ win0_4.index t = ![t.val, 0] ∧ t.val < 64 :=
  (by decide +kernel : ∀ t : Fin grid0.N, _)

/-- The four factors of a term in the other order. -/
theorem mul_order (a b c d : EReal) : a * (b * c) * d = a * b * (d * c) := by ac_rfl

/-- What the body stores at index `y` of its block at point `t` is the reference at the array index where `y` lies. -/
theorem point (c : Dev nD) (t : Fin cfg0.N) (y : S256x5120.Idx) :
    k0_pay1 (F := Ideal) (iblk m c 2 t) (iblk m c 3 t) (iblk m c 0 t) (iblk m c 1 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, REF, Cert.RefDwIdeal.Gen.k0_pay1]
  refine Finset.sum_congr rfl fun k _ => ?_
  split <;> refine (mul_order _ _ _ _).trans ?_ <;> blk_point [iblk, V, idx t]

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.DwIdeal.Hand

end
-- ==== Proof.DxValue.lean ====
module

public import proofs.«01_k».proof.Proof.Gen.DxIdeal.Value
public import proofs.«01_k».proof.Proof.Gen.RefDxIdeal.Value
public import Idealize.ShloMosaic.Lib.Pipeline.ValueKit

@[expose] public section

set_option maxRecDepth 16384

noncomputable section

namespace Cert.DxIdeal.Hand

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ)

/-- Which block each window holds at grid point `t`, whose row block is `t / 32` and whose column block is `t % 32`. -/
theorem idx : ∀ t : Fin cfg0.N, win0_0.index t = ![t.val / 32, t.val % 32] ∧ win0_1.index t = ![t.val % 32, 0]
    ∧ win0_2.index t = ![0, t.val % 32] ∧ win0_3.index t = ![t.val / 32, 0] ∧ win0_4.index t = ![t.val % 32 / 4, t.val / 32, 0]
    ∧ win0_5.index t = ![t.val / 32, 0] ∧ win0_6.index t = ![t.val / 32, t.val % 32] ∧ win0_7.index t = ![t.val / 32, 0]
    ∧ (grid0.coords t 1).val = t.val % 32 ∧ t.val < 64 :=
  (by decide +kernel : ∀ t : Fin grid0.N, _)

/-- The quantised gradient of one logit: `x` is the tanh of its scaled value, `l` the row's log-sum-exp, `s` the group's scale and
    `b` says whether the column is the row's label. -/
def cd (b : BitVec 1) (x l s : EReal) : EReal :=
  min (Ideal.ofBits FTy.f32 1197473792#32)
    (max (Ideal.ofBits FTy.f32 3344957440#32)
      (Scalar.select b (Ideal.exp (Ideal.ofBits FTy.f32 1106247680#32 * x - l) - 1)
          (Ideal.exp (Ideal.ofBits FTy.f32 1106247680#32 * x - l)) * (1 - x * x) * Ideal.div 1 s))

/-- Column `k` of a block of 512 columns, within its tile of 128. -/
abbrev lane (k : Fin 512) : Fin 128 := ⟨k.val % 128, Nat.mod_lt _ (by decide)⟩

/-- The codes of one block, from the block of tanh values, the rows' log-sum-exp, scales and labels (each repeated over 128 lanes). -/
def codeB (i : grid0.Coords) (X : Vec Ideal S1024x512 .f32) (L : Vec Ideal S1024x128 .f32) (S : Vec Ideal S1x1024x128 .f32)
    (Y : Vec Ideal S1024x128 .i32) : Vec Ideal S1024x512 .fp8e5m2 := fun y =>
  cd (IntOp.cmpi .eq (IntOp.subi (IntOp.subi (Y (ix2 (y 0) (lane (y 1)))) (BitVec.ofNat 32 (lane (y 1)).val))
      (Scalar.muli (BitVec.ofNat 32 (i 1).val) 512#32)) (BitVec.ofNat 32 ((y 1).val / 128 * 128)))
    (X y) (L (ix2 (y 0) (lane (y 1)))) (S (ix3 0 (y 0) (lane (y 1))))

/-- The four tiles of codes stored at one point are the block's codes. -/
theorem codes_block (i : grid0.Coords) (X : Vec Ideal S1024x512 .f32) (L : Vec Ideal S1024x128 .f32) (S : Vec Ideal S1x1024x128 .f32)
    (Y : Vec Ideal S1024x128 .i32) (y : S1024x512.Idx) :
    View.canon
      [⟨Rect.unit ![0, 384] ![1024, 128] inb_S1024x512_S1024x128_0_384,
          k0_pay1
            (k0_pay17 (k0_pay5 L) (k0_pay7 S) (k0_pay9 i Y)
              (View.ld X (Rect.unit ![0, 384] ![1024, 128] inb_S1024x512_S1024x128_0_384)))
            k0_pay18⟩,
        ⟨Rect.unit ![0, 256] ![1024, 128] inb_S1024x512_S1024x128_0_256,
          k0_pay15 (k0_pay7 S) (k0_pay9 i Y)
            (View.ld X (Rect.unit ![0, 256] ![1024, 128] inb_S1024x512_S1024x128_0_256))
            (k0_pay14 (k0_pay5 L)
              (View.ld X (Rect.unit ![0, 256] ![1024, 128] inb_S1024x512_S1024x128_0_256)))⟩,
        ⟨Rect.unit ![0, 128] ![1024, 128] inb_S1024x512_S1024x128_0_128,
          k0_pay12 (k0_pay5 L) (k0_pay7 S) (k0_pay9 i Y)
            (View.ld X (Rect.unit ![0, 128] ![1024, 128] inb_S1024x512_S1024x128_0_128))⟩,
        ⟨Rect.unit ![0, 0] ![1024, 128] inb_S1024x512_S1024x128_0_0,
          k0_pay10 i L S Y
            (View.ld X (Rect.unit ![0, 0] ![1024, 128] inb_S1024x512_S1024x128_0_0))⟩]
      y = codeB i X L S Y y := by
  canon_tiles x h
  all_goals
    have e1 : lane (y 1) = x 1 := Fin.ext (by show (y 1).val % 128 = _; omega)
    have e2 : (y 1).val % 128 = (x 1).val := by omega
    first
    | have e3 : (y 1).val / 128 * 128 = 384 := by omega
    | have e3 : (y 1).val / 128 * 128 = 256 := by omega
    | have e3 : (y 1).val / 128 * 128 = 128 := by omega
    | have e3 : (y 1).val / 128 * 128 = 0 := by omega
    open_payloads
    pointwise [codeB, cd]
    rw [e1, e2, e3]
    blk_point []

/-- The product added at one point. -/
theorem step_block (i : grid0.Coords) (X : Vec Ideal S1024x512 .f32) (L : Vec Ideal S1024x128 .f32) (S : Vec Ideal S1x1024x128 .f32)
    (Y : Vec Ideal S1024x128 .i32) (Z : Vec Ideal S1x512 .f32) (A : Vec Ideal S1024x5120 .f32) (W : Vec Ideal S512x5120 .fp8e4m3)
    (y : S1024x5120.Idx) :
    k0_pay2 (F := Ideal) (k0_pay8 S)
      (k0_pay11 (k0_pay8 S)
        (k0_pay10 i L S Y
          (View.ld X (Rect.unit ![0, 0] ![1024, 128] inb_S1024x512_S1024x128_0_0)))
        (View.ld Z (Rect.unit ![0, 0] ![1, 128] inb_S1x512_S1x128_0_0)))
      (k0_pay13 (k0_pay5 L) (k0_pay7 S) (k0_pay8 S)
        (k0_pay9 i Y)
        (View.ld X (Rect.unit ![0, 128] ![1024, 128] inb_S1024x512_S1024x128_0_128))
        (View.ld Z (Rect.unit ![0, 128] ![1, 128] inb_S1x512_S1x128_0_128)))
      (k0_pay16 (k0_pay7 S) (k0_pay8 S) (k0_pay9 i Y)
        (View.ld X (Rect.unit ![0, 256] ![1024, 128] inb_S1024x512_S1024x128_0_256))
        (k0_pay14 (k0_pay5 L)
          (View.ld X (Rect.unit ![0, 256] ![1024, 128] inb_S1024x512_S1024x128_0_256)))
        (View.ld Z (Rect.unit ![0, 256] ![1, 128] inb_S1x512_S1x128_0_256)))
      (k0_pay17 (k0_pay5 L) (k0_pay7 S) (k0_pay9 i Y)
        (View.ld X (Rect.unit ![0, 384] ![1024, 128] inb_S1024x512_S1024x128_0_384)))
      k0_pay18 (View.ld Z (Rect.unit ![0, 384] ![1, 128] inb_S1x512_S1x128_0_384)) A W y
    = A y + ∑ k : Fin 512, codeB i X L S Y (ix2 (y 0) k) * S (ix3 0 (y 0) (lane k)) * Z (ix2 0 k) * W (ix2 k (y 1)) := by
  pointwise [k0_pay2]
  refine congrArg (A y + ·) (Fin.sum_fin_congr fun k => ?_)
  refine congrArg (· * W _) ?_
  split
  · have e1 : k.val / 128 * 128 = 0 := by omega
    pointwise [k0_pay11, k0_pay10, k0_pay8, k0_pay5, k0_pay7, k0_pay9, k0_pay6, codeB, cd]
    rw [e1]
    blk_point []
    exact congrArg (BitVec.ofNat 32) (by omega)
  · split
    · have e1 : k.val / 128 * 128 = 128 := by omega
      pointwise [k0_pay13, k0_pay12, k0_pay8, k0_pay5, k0_pay7, k0_pay9, k0_pay6, codeB, cd]
      rw [e1]
      blk_point []
      exact congrArg (BitVec.ofNat 32) (by omega)
    · split
      · have e1 : k.val / 128 * 128 = 256 := by omega
        pointwise [k0_pay16, k0_pay15, k0_pay14, k0_pay8, k0_pay5, k0_pay7, k0_pay9, k0_pay6, codeB, cd]
        rw [e1]
        blk_point []
        exact congrArg (BitVec.ofNat 32) (by omega)
      · have e1 : k.val / 128 * 128 = 384 := by omega
        pointwise [k0_pay1, k0_pay17, k0_pay18, k0_pay8, k0_pay5, k0_pay7, k0_pay9, k0_pay6, codeB, cd]
        rw [e1]
        blk_point []
        exact congrArg (BitVec.ofNat 32) (by omega)

/-- The kernel's test for the label (its distance from the tile's first column is the lane) is the reference's (the column is
    the label): both are equations of 32-bit words. -/
theorem bit (a : BitVec 32) (l j d n : ℕ) (hn : n = j * 512 + d + l) :
    IntOp.cmpi .eq (IntOp.subi (IntOp.subi a (BitVec.ofNat 32 l)) (Scalar.muli (BitVec.ofNat 32 j) 512#32)) (BitVec.ofNat 32 d)
      = IntOp.cmpi .eq (BitVec.ofNat 32 n) a := by
  have e : (a - BitVec.ofNat 32 l - BitVec.ofNat 32 j * 512#32 = BitVec.ofNat 32 d) ↔ BitVec.ofNat 32 n = a := by
    rw [hn, BitVec.ofNat_add, BitVec.ofNat_add, BitVec.ofNat_mul]
    generalize BitVec.ofNat 32 j * 512#32 = x
    generalize BitVec.ofNat 32 d = y
    generalize BitVec.ofNat 32 l = z
    bv_omega
  show BitVec.ofBool (_ == _) = BitVec.ofBool (_ == _)
  exact congrArg BitVec.ofBool (by rw [Bool.eq_iff_iff, beq_iff_eq, beq_iff_eq]; exact e)

/-- The reference's codes, and its gradient dx, as functions of its arguments. -/
abbrev RC (a0 : FVec Ideal S2048x16384 .f32) (a3 : FVec Ideal S2048x1 .f32) (a4 : FVec Ideal S2048x8 .f32) (a5 : Vec Ideal S2048x1 .i32) :
    FVec Ideal S2048x16384 .fp8e5m2 := Cert.RefDxIdeal.Gen.k0_pay3 (F := Ideal) a0 a3 a5 a4

/-- The codes of the block at point `t` are the reference's codes at the array index `j` where `y` lies. -/
theorem core (c : Dev nD) (t : Fin cfg0.N) (y : S1024x512.Idx) (j : S2048x16384.Idx)
    (hj0 : (j 0 : ℕ) = t.val / 32 * 1024 + y 0) (hj1 : (j 1 : ℕ) = t.val % 32 * 512 + y 1) :
    codeB (grid0.coords t) (iblk m c 0 t) (iblk m c 3 t) (iblk m c 4 t) (iblk m c 5 t) y
      = RC (m ((c : Thread nD τ).loc main_arg0)) (m ((c : Thread nD τ).loc main_arg3)) (m ((c : Thread nD τ).loc main_arg4))
          (m ((c : Thread nD τ).loc main_arg5)) j := by
  have e : (j 1 : ℕ) = (grid0.coords t 1).val * 512 + (y 1).val / 128 * 128 + (lane (y 1)).val := by
    rw [(idx t).2.2.2.2.2.2.2.2.1]; show _ = _ + _ + (y 1).val % 128; omega
  unfold codeB
  rw [bit _ _ _ _ _ e]
  pointwise [cd, RC, Cert.RefDxIdeal.Gen.k0_pay3, Cert.RefDxIdeal.Gen.k0_pay2]
  blk_point [iblk, V, idx t]

/-- The codes after the run are the reference's. -/
theorem final_codes (c : Dev nD) : (dats m 0 c).arrAt 6 (cfgs 0).N
    = RC (m ((c : Thread nD τ).loc main_arg0)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  refine Eq.trans ?_ (core m c t y _ (by blk_simp [idx t]) (by blk_simp [idx t]))
  by_cases h0 : t.val % 32 = 0
  · rw [outsAt0_A m c t h0 (by omega)]; frame_out
    exact codes_block _ _ _ _ _ y
  · by_cases h1 : t.val % 32 = 31
    · rw [outsAt0_C m c t h0 h1]; frame_out
      exact codes_block _ _ _ _ _ y
    · rw [outsAt0_B m c t h0 h1]; frame_out
      exact codes_block _ _ _ _ _ y

/-- The reference's gradient dx as a function of its arguments. -/
abbrev RX (a0 : FVec Ideal S2048x16384 .f32) (a1 : FVec Ideal S16384x5120 .fp8e4m3) (a2 : FVec Ideal S16384 .f32)
    (a3 : FVec Ideal S2048x1 .f32) (a4 : FVec Ideal S2048x8 .f32) (a5 : Vec Ideal S2048x1 .i32) : FVec Ideal S2048x5120 .bf16 :=
  Cert.RefDxIdeal.Gen.k0_pay1 (F := Ideal) (Cert.RefDxIdeal.Gen.k0_pay4 (F := Ideal) a0 a3 a5 a4 a4) a1 a2

/-- What point `t` adds to the accumulator. -/
def part (c : Dev nD) (t : Fin cfg0.N) (y : S1024x5120.Idx) : EReal :=
  ∑ k : Fin 512, codeB (grid0.coords t) (iblk m c 0 t) (iblk m c 3 t) (iblk m c 4 t) (iblk m c 5 t) (ix2 (y 0) k)
    * (iblk (F := Ideal) m c 4 t) (ix3 0 (y 0) (lane k)) * (iblk (F := Ideal) m c 2 t) (ix2 0 k) * (iblk (F := Ideal) m c 1 t) (ix2 k (y 1))

/-- The accumulator after a row block's 32 points is the sum of their parts. -/
theorem acc_run (c : Dev nD) (t : Fin cfg0.N) (h1 : t.val % 32 = 31) (y : S1024x5120.Idx) :
    (outsAt0 (F := Ideal) m c t.val t.isLt).2.2 y
      = ∑ s : Fin 32, part m c ⟨32 * (t.val / 32) + s.val, Pipeline.run_point_lt_of_flush t h1 s⟩ y := by
  refine (Pipeline.eq_sum_fin_of_reset_step_apply_of_flush (fun n h => (outsAt0 (F := Ideal) m c n h).2.2) 32 (fun _ => (0 : EReal))
    (fun t y => part m c t y) (fun t h j => ?_) (fun t h j => ?_) t h1 y).trans (zero_add _)
  · show (outsAt0 (F := Ideal) m c t.val t.isLt).2.2 j = _
    rw [outsAt0_A m c t h (by omega)]; frame_out
    refine (step_block _ _ _ _ _ _ _ _ j).trans ?_
    refine congrArg (· + _) ?_
    pointwise [k0_pay4]
  · show (outsAt0 (F := Ideal) m c t.val t.isLt).2.2 j = _
    by_cases h1 : t.val % 32 = 31
    · rw [outsAt0_C m c t h h1]; frame_out
      refine (step_block _ _ _ _ _ _ _ _ j).trans ?_
      exact congrArg (· + _) (congrFun (Memref.IsWhole.read_unread _ _) j)
    · rw [outsAt0_B m c t h h1]; frame_out
      refine (step_block _ _ _ _ _ _ _ _ j).trans ?_
      exact congrArg (· + _) (congrFun (Memref.IsWhole.read_unread _ _) j)

/-- The write-back of dx keeps every entry. -/
theorem pay3 (A : Vec Ideal S1024x5120 .f32) (y : S1024x5120.Idx) : k0_pay3 (F := Ideal) A y = A y := by
  pointwise [k0_pay3]

/-- One row block's point that writes dx back leaves the accumulator there. -/
theorem dx_block (c : Dev nD) (t : Fin cfg0.N) (h1 : t.val % 32 = 31) (y : S1024x5120.Idx) :
    (outsAt0 (F := Ideal) m c t.val t.isLt).2.1 y = (outsAt0 (F := Ideal) m c t.val t.isLt).2.2 y := by
  rw [outsAt0_C m c t (by omega) h1]; frame_out
  exact pay3 _ y

/-- The three factors of a term in the other order. -/
theorem mul_order (a b c d : EReal) : a * b * c * d = a * b * (d * c) := by ac_rfl

/-- dx after the run is the reference's. -/
theorem final_dx (c : Dev nD) : (dats m 0 c).arrAt 7 (cfgs 0).N
    = RX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  have h1 : t.val % 32 = 31 := (flush0_7 t).mp hf
  blk_simp
  rw [after0_7, dx_block m c t h1, acc_run m c t h1]
  unfold part
  pointwise [RX, Cert.RefDxIdeal.Gen.k0_pay1, Cert.RefDxIdeal.Gen.k0_pay4]
  refine Fin.sum_mul_add_congr fun s k hl => ?_
  refine (mul_order _ _ _ _).trans ?_
  rw [core m c _ _ (ix2 ((((cfg0.win 7).blk t).view.emb y) 0) ⟨s.val * 512 + k.val, hl⟩)
    (by
      have : (32 * (t.val / 32) + s.val) / 32 = t.val / 32 := by omega
      blk_simp [idx t, this])
    (by
      show s.val * 512 + k.val = (32 * (t.val / 32) + s.val) % 32 * 512 + k.val
      omega)]
  pointwise [RC, Cert.RefDxIdeal.Gen.k0_pay3]
  blk_point [iblk, V, idx t, idx ⟨_, Pipeline.run_point_lt_of_flush t h1 s⟩]

end Cert.DxIdeal.Hand

end
-- ==== Proof.RefFwdValue.lean ====
module

public import proofs.«01_k».proof.Proof.Gen.RefFwdIdeal.Frame
public import Idealize.ShloMosaic.Lib.Pipeline.Value

@[expose] public section

noncomputable section

namespace Cert.RefFwdIdeal.Hand

open Cert.RefFwdIdeal Cert.RefFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! # The reference's five result arrays as functions of its arguments, and its run read with them -/

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2048x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2048x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x2048x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2048x8.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S2048x5120.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x5120.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 5120 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2048x1.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 1 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S16384.Idx) : ((cfg0.win 3).blk t).view.emb j = j := by
  have e0 := idx_zero3 t
  funext a; apply Fin.ext
  match a with
  | ⟨0, _⟩ => show win0_3.index t (0 : Fin 1) * 16384 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2048x1.Idx) : ((cfg0.win 4).blk t).view.emb j = j := by
  obtain ⟨e0, e1⟩ := idx_zero4 t
  funext a; apply Fin.ext
  match a with
  | ⟨0, _⟩ => show win0_4.index t (0 : Fin 2) * 2048 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2048x16384.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 16384 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2048x128.Idx) : ((cfg0.win 6).blk t).view.emb j = j := by
  obtain ⟨e0, e1⟩ := idx_zero6 t
  funext a; apply Fin.ext
  match a with
  | ⟨0, _⟩ => show win0_6.index t (0 : Fin 2) * 2048 + 1 * (j 0).val = (j 0).val; omega
  | ⟨1, _⟩ => show win0_6.index t (1 : Fin 2) * 128 + 1 * (j 1).val = (j 1).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x2048x128.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 2048 + 1 * (j 1).val = (j 1).val; omega
  | ⟨2, _⟩ => show win0_7.index t (2 : Fin 3) * 128 + 1 * (j 2).val = (j 2).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S16x128.Idx) : ((cfg0.win 8).blk t).view.emb j = j := by
  obtain ⟨e0, e1⟩ := idx_zero8 t
  funext a; apply Fin.ext
  match a with
  | ⟨0, _⟩ => show win0_8.index t (0 : Fin 2) * 16 + 1 * (j 0).val = (j 0).val; omega
  | ⟨1, _⟩ => show win0_8.index t (1 : Fin 2) * 128 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2048x8.Idx) : ((cfg0.win 9).blk t).view.emb j = j := by
  obtain ⟨e0, e1⟩ := idx_zero9 t
  funext a; apply Fin.ext
  match a with
  | ⟨0, _⟩ => show win0_9.index t (0 : Fin 2) * 2048 + 1 * (j 0).val = (j 0).val; omega
  | ⟨1, _⟩ => show win0_9.index t (1 : Fin 2) * 8 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S2048x5120 .fp8e4m3) (a1 : Vec F S16384x5120 .fp8e4m3) (a2 : Vec F S2048x1 .f32) (a3 : Vec F S16384 .f32) (a4 : Vec F S2048x1 .i32) : Vec F S2048x16384 .f32 :=
  k0_pay3 a0 a1 a2 a3

/-- A load of the whole of a block reads the block, and the one store through the whole rectangle leaves its payload. -/
theorem out5_eq (a0 : Vec F S2048x5120 .fp8e4m3) (a1 : Vec F S16384x5120 .fp8e4m3) (a2 : Vec F S2048x1 .f32) (a3 : Vec F S16384 .f32) (a4 : Vec F S2048x1 .i32) : out0_5 (F := F) a0 a1 a2 a3 a4 = G5 a0 a1 a2 a3 a4 := by
  unfold out0_5
  rw [View.canon_unit_zero hz5, View.ld_unit_zero (S := S2048x5120) hz0 _ a0, View.ld_unit_zero (S := S16384x5120) hz1 _ a1, View.ld_unit_zero (S := S2048x1) hz2 _ a2, View.ld_unit_zero (S := S16384) hz3 _ a3]

/-- Cutting the point's block out of `X` and reading `X` through the block's view give the same. -/
theorem cut5_eq (t : Fin cfg0.N) (X : Vec F S2048x16384 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S2048x16384.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S2048x5120 .fp8e4m3) (a1 : Vec F S16384x5120 .fp8e4m3) (a2 : Vec F S2048x1 .f32) (a3 : Vec F S16384 .f32) (a4 : Vec F S2048x1 .i32) : Vec F S2048x128 .f32 :=
  k0_pay9 a0 a1 a2 a3

/-- A load of the whole of a block reads the block, and the one store through the whole rectangle leaves its payload. -/
theorem out6_eq (a0 : Vec F S2048x5120 .fp8e4m3) (a1 : Vec F S16384x5120 .fp8e4m3) (a2 : Vec F S2048x1 .f32) (a3 : Vec F S16384 .f32) (a4 : Vec F S2048x1 .i32) : out0_6 (F := F) a0 a1 a2 a3 a4 = G6 a0 a1 a2 a3 a4 := by
  unfold out0_6
  rw [View.canon_unit_zero hz6, View.ld_unit_zero (S := S2048x5120) hz0 _ a0, View.ld_unit_zero (S := S16384x5120) hz1 _ a1, View.ld_unit_zero (S := S2048x1) hz2 _ a2, View.ld_unit_zero (S := S16384) hz3 _ a3]

/-- Cutting the point's block out of `X` and reading `X` through the block's view give the same. -/
theorem cut6_eq (t : Fin cfg0.N) (X : Vec F S2048x128 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S2048x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S2048x5120 .fp8e4m3) (a1 : Vec F S16384x5120 .fp8e4m3) (a2 : Vec F S2048x1 .f32) (a3 : Vec F S16384 .f32) (a4 : Vec F S2048x1 .i32) : Vec F S8x2048x128 .f32 :=
  k0_pay2 (k0_pay12 a0 a1 a2 a3 a4) (k0_pay13 a0 a1 a2 a3 a4) (k0_pay14 a0 a1 a2 a3 a4) (k0_pay15 a0 a1 a2 a3 a4)

/-- The one store through the whole rectangle leaves its payload. -/
theorem out7_eq (a0 : Vec F S2048x5120 .fp8e4m3) (a1 : Vec F S16384x5120 .fp8e4m3) (a2 : Vec F S2048x1 .f32) (a3 : Vec F S16384 .f32) (a4 : Vec F S2048x1 .i32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S8x2048x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S8x2048x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S2048x5120 .fp8e4m3) (a1 : Vec F S16384x5120 .fp8e4m3) (a2 : Vec F S2048x1 .f32) (a3 : Vec F S16384 .f32) (a4 : Vec F S2048x1 .i32) : Vec F S16x128 .f32 :=
  k0_pay11 a0 a1 a2 a3 a4

/-- A load of the whole of a block reads the block, and the one store through the whole rectangle leaves its payload. -/
theorem out8_eq (a0 : Vec F S2048x5120 .fp8e4m3) (a1 : Vec F S16384x5120 .fp8e4m3) (a2 : Vec F S2048x1 .f32) (a3 : Vec F S16384 .f32) (a4 : Vec F S2048x1 .i32) : out0_8 (F := F) a0 a1 a2 a3 a4 = G8 a0 a1 a2 a3 a4 := by
  unfold out0_8
  rw [View.canon_unit_zero hz8, View.ld_unit_zero (S := S2048x5120) hz0 _ a0, View.ld_unit_zero (S := S16384x5120) hz1 _ a1, View.ld_unit_zero (S := S2048x1) hz2 _ a2, View.ld_unit_zero (S := S16384) hz3 _ a3, View.ld_unit_zero (S := S2048x1) hz4 _ a4]

/-- Cutting the point's block out of `X` and reading `X` through the block's view give the same. -/
theorem cut8_eq (t : Fin cfg0.N) (X : Vec F S16x128 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S16x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ### Output window 9: the array after the run -/

/-- What the window's array ends holding: `out0_9` applied to the argument arrays in place of the input blocks (a value that the
    frame states apart, `kK_payN a…`, keeps its loads inside its own definition). -/
abbrev G9 (a0 : Vec F S2048x5120 .fp8e4m3) (a1 : Vec F S16384x5120 .fp8e4m3) (a2 : Vec F S2048x1 .f32) (a3 : Vec F S16384 .f32) (a4 : Vec F S2048x1 .i32) : Vec F S2048x8 .f32 :=
  k0_pay1 (k0_pay12 a0 a1 a2 a3 a4) (k0_pay13 a0 a1 a2 a3 a4) (k0_pay14 a0 a1 a2 a3 a4) (k0_pay15 a0 a1 a2 a3 a4)

/-- The one store through the whole rectangle leaves its payload. -/
theorem out9_eq (a0 : Vec F S2048x5120 .fp8e4m3) (a1 : Vec F S16384x5120 .fp8e4m3) (a2 : Vec F S2048x1 .f32) (a3 : Vec F S16384 .f32) (a4 : Vec F S2048x1 .i32) : out0_9 (F := F) a0 a1 a2 a3 a4 = G9 a0 a1 a2 a3 a4 := by
  unfold out0_9
  rw [View.canon_unit_zero hz9]

/-- Cutting the point's block out of `X` and reading `X` through the block's view give the same. -/
theorem cut9_eq (t : Fin cfg0.N) (X : Vec F S2048x8 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4)) := by
  show (cfg0.win 9).cut (grid0.coords t) ((dats m 0 c).after 9 t) = _
  rw [after0_9, out9_eq, iblk0_eq, iblk1_eq, iblk2_eq, iblk3_eq, iblk4_eq]
  exact cut9_eq t _

/-- Every index of the array is in the point's block. -/
theorem covered9 (i : S2048x8.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 9 (G9 (V m c main_arg0) (V m c main_arg1) (V m c main_arg2) (V m c main_arg3) (V m c main_arg4)) (fun t _ => flushed9_eq m c t) covered9).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c⟩)
    (run_main m ρ)

end Cert.RefFwdIdeal.Hand

end
-- ==== Proof.FwdMath.lean ====
module

public import Idealize.ShloMosaic.Lib.Pipeline.ValueKit
public import Idealize.ShloMosaic.Lib.IdealHost
public import Mathlib.Analysis.SpecialFunctions.Log.Basic
public import Mathlib.Analysis.SpecialFunctions.Pow.Real
public import Mathlib.Tactic.Linarith
public import Mathlib.Tactic.Positivity
public import Mathlib.Tactic.FieldSimp
public import Mathlib.Tactic.NormNum
public import Mathlib.Tactic.Ring

@[expose] public section

noncomputable section

namespace Cert.FwdMath

open Idealize.ShloMosaic

/-! ## The power of two above a value, built from bits and by `exp2` -/

/-- The float pattern with exponent field `j` and no fraction denotes `2 ^ (j - 127)`. -/
theorem ofBits_pow (j : ℕ) (h0 : 1 ≤ j) (h1 : j ≤ 254) :
    Ideal.ofBits .f32 (BitVec.ofNat 32 j <<< 23) = (((2 : ℝ) ^ ((j : ℤ) - 127) : ℝ) : EReal) := by
  have hd : ∀ j : Fin 255, ((BitVec.ofNat 32 j.val <<< 23).extractLsb' (8 + 23) 1 == 1#1) = false
      ∧ ((BitVec.ofNat 32 j.val <<< 23).extractLsb' 23 8).toNat = j.val
      ∧ ((BitVec.ofNat 32 j.val <<< 23).extractLsb' 0 23).toNat = 0 := by decide +kernel
  obtain ⟨e1, e2, e3⟩ := hd ⟨j, by omega⟩
  simp only at e1 e2 e3
  have h : ∀ b : BitVec 32, (b.extractLsb' (8 + 23) 1 == 1#1) = false → (b.extractLsb' 23 8).toNat = j →
      (b.extractLsb' 0 23).toNat = 0 → Ideal.ieee 8 23 b = (((2 : ℝ) ^ ((j : ℤ) - 127) : ℝ) : EReal) := by
    intro b e1 e2 e3
    unfold Ideal.ieee
    rw [e1, e2, e3]
    have n1 : ¬ j = 2 ^ 8 - 1 := by omega
    have n2 : ¬ j = 0 := by omega
    simp only [n1, n2, if_false]
    have e : ((j : ℤ) - (2 ^ (8 - 1) - 1) - ((23 : ℕ) : ℤ)) = ((j : ℤ) - 127) - 23 := by norm_num
    rw [e, zpow_sub₀ (by norm_num)]
    refine congrArg _ ?_
    norm_num
    ring
  exact h _ e1 e2 e3

theorem ofBits_two : Ideal.ofBits .f32 1073741824#32 = ((2 : ℝ) : EReal) := by
  have := ofBits_pow 128 (by decide) (by decide)
  norm_num at this
  exact this

theorem ofBits_tiny : Ideal.ofBits .f32 8388608#32 = (((2 : ℝ) ^ (-126 : ℤ) : ℝ) : EReal) := by
  have := ofBits_pow 1 (by decide) (by decide)
  norm_num at this ⊢
  exact this

/-- The scale as the kernel builds it: the exponent from a quotient of logarithms, corrected by one, put into a float's bits. -/
def scaleK (v : EReal) : EReal :=
  Ideal.ofBits FTy.f32
      (IntOp.shli ArithUnit.vector
        (IntOp.addi
          (Scalar.select
            (IntOp.cmpi CmpIPredicate.eq
              (if v < Ideal.ofBits FTy.f32 8388608#32 then 0#32
              else
                IntOp.addi
                  (if
                      v <
                        Ideal.ofBits FTy.f32
                          (IntOp.shli ArithUnit.vector
                            (IntOp.addi
                              (FloatOps.fptosi (F := Ideal) (φ := .f32) 32
                                (Ideal.liftRound Int.floor
                                  (Ideal.div (Ideal.log v) (Ideal.log (Ideal.ofBits FTy.f32 1073741824#32)))))
                              127#32)
                            23#32) then
                    IntOp.subi
                      (FloatOps.fptosi (F := Ideal) (φ := .f32) 32
                        (Ideal.liftRound Int.floor
                          (Ideal.div (Ideal.log v) (Ideal.log (Ideal.ofBits FTy.f32 1073741824#32)))))
                      1#32
                  else
                    if
                        Ideal.ofBits FTy.f32
                              (IntOp.shli ArithUnit.vector
                                (IntOp.addi
                                  (FloatOps.fptosi (F := Ideal) (φ := .f32) 32
                                    (Ideal.liftRound Int.floor
                                      (Ideal.div (Ideal.log v) (Ideal.log (Ideal.ofBits FTy.f32 1073741824#32)))))
                                  127#32)
                                23#32) +
                            Ideal.ofBits FTy.f32
                              (IntOp.shli ArithUnit.vector
                                (IntOp.addi
                                  (FloatOps.fptosi (F := Ideal) (φ := .f32) 32
                                    (Ideal.liftRound Int.floor
                                      (Ideal.div (Ideal.log v) (Ideal.log (Ideal.ofBits FTy.f32 1073741824#32)))))
                                  127#32)
                                23#32) ≤
                          v then
                      IntOp.addi
                        (FloatOps.fptosi (F := Ideal) (φ := .f32) 32
                          (Ideal.liftRound Int.floor
                            (Ideal.div (Ideal.log v) (Ideal.log (Ideal.ofBits FTy.f32 1073741824#32)))))
                        1#32
                    else
                      FloatOps.fptosi (F := Ideal) (φ := .f32) 32
                        (Ideal.liftRound Int.floor
                          (Ideal.div (Ideal.log v) (Ideal.log (Ideal.ofBits FTy.f32 1073741824#32)))))
                  127#32)
              0#32)
            (0#32)
            (IntOp.subi
              (if v < Ideal.ofBits FTy.f32 8388608#32 then 0#32
              else
                IntOp.addi
                  (if
                      v <
                        Ideal.ofBits FTy.f32
                          (IntOp.shli ArithUnit.vector
                            (IntOp.addi
                              (FloatOps.fptosi (F := Ideal) (φ := .f32) 32
                                (Ideal.liftRound Int.floor
                                  (Ideal.div (Ideal.log v) (Ideal.log (Ideal.ofBits FTy.f32 1073741824#32)))))
                              127#32)
                            23#32) then
                    IntOp.subi
                      (FloatOps.fptosi (F := Ideal) (φ := .f32) 32
                        (Ideal.liftRound Int.floor
                          (Ideal.div (Ideal.log v) (Ideal.log (Ideal.ofBits FTy.f32 1073741824#32)))))
                      1#32
                  else
                    if
                        Ideal.ofBits FTy.f32
                              (IntOp.shli ArithUnit.vector
                                (IntOp.addi
                                  (FloatOps.fptosi (F := Ideal) (φ := .f32) 32
                                    (Ideal.liftRound Int.floor
                                      (Ideal.div (Ideal.log v) (Ideal.log (Ideal.ofBits FTy.f32 1073741824#32)))))
                                  127#32)
                                23#32) +
                            Ideal.ofBits FTy.f32
                              (IntOp.shli ArithUnit.vector
                                (IntOp.addi
                                  (FloatOps.fptosi (F := Ideal) (φ := .f32) 32
                                    (Ideal.liftRound Int.floor
                                      (Ideal.div (Ideal.log v) (Ideal.log (Ideal.ofBits FTy.f32 1073741824#32)))))
                                  127#32)
                                23#32) ≤
                          v then
                      IntOp.addi
                        (FloatOps.fptosi (F := Ideal) (φ := .f32) 32
                          (Ideal.liftRound Int.floor
                            (Ideal.div (Ideal.log v) (Ideal.log (Ideal.ofBits FTy.f32 1073741824#32)))))
                        1#32
                    else
                      FloatOps.fptosi (F := Ideal) (φ := .f32) 32
                        (Ideal.liftRound Int.floor
                          (Ideal.div (Ideal.log v) (Ideal.log (Ideal.ofBits FTy.f32 1073741824#32)))))
                  127#32)
              126#32))
          127#32)
        23#32)

/-- The scale as the reference writes it: 1 below the least normal number, else the power of two next above. -/
def scaleR (v : EReal) : EReal :=
  if v < Ideal.ofBits FTy.f32 8388608#32 then 1
  else Ideal.exp2 (Ideal.liftRound Int.floor (Ideal.div (Ideal.log v) (Ideal.log (Ideal.ofBits FTy.f32 1073741824#32))) + 1)

theorem le_logq (r : ℝ) (hr : 0 < r) (n : ℤ) : (n : ℝ) ≤ Real.log r * (Real.log 2)⁻¹ ↔ (2 : ℝ) ^ n ≤ r := by
  have hl2 : 0 < Real.log 2 := Real.log_pos (by norm_num)
  rw [← div_eq_mul_inv, le_div_iff₀ hl2, ← Real.log_zpow, Real.log_le_log_iff (by positivity) hr]

/-- The floor of the quotient of logarithms, for a value between the least normal number and 1. -/
theorem floorLog (r : ℝ) (h0 : (2 : ℝ) ^ (-126 : ℤ) ≤ r) (h1 : r ≤ 1) :
    ∃ j : ℕ, 1 ≤ j ∧ j ≤ 127 ∧ (2 : ℝ) ^ ((j : ℤ) - 127) ≤ r ∧ r < (2 : ℝ) ^ ((j : ℤ) - 126) ∧
      Ideal.liftRound Int.floor (Ideal.div (Ideal.log (r : EReal)) (Ideal.log (Ideal.ofBits FTy.f32 1073741824#32)))
        = ((((j : ℤ) - 127 : ℤ) : ℝ) : EReal) := by
  have hr : 0 < r := lt_of_lt_of_le (by positivity) h0
  have hl2 : Real.log 2 ≠ 0 := (Real.log_pos (by norm_num)).ne'
  have e1 : Ideal.div (Ideal.log (r : EReal)) (Ideal.log (Ideal.ofBits FTy.f32 1073741824#32)) = ((Real.log r * (Real.log 2)⁻¹ : ℝ) : EReal) := by
    rw [ofBits_two, Ideal.log_coe, Ideal.log_coe, if_neg (not_le.mpr hr), if_neg (by norm_num)]
    first
      | exact Ideal.div_coe hl2
      | (rw [Ideal.div_coe hl2, ← EReal.coe_mul]; congr 1; ring)
      | (rw [Ideal.div_coe hl2]; congr 1; ring)
  generalize hq : Real.log r * (Real.log 2)⁻¹ = q at e1
  have hL : ∀ n : ℤ, (n : ℝ) ≤ q ↔ (2 : ℝ) ^ n ≤ r := fun n => hq ▸ le_logq r hr n
  have f1 : (-126 : ℤ) ≤ ⌊q⌋ := by
    rw [Int.le_floor, hL]; exact h0
  have f2 : ⌊q⌋ ≤ 0 := by
    by_contra hc
    have : (1 : ℤ) ≤ ⌊q⌋ := by omega
    rw [Int.le_floor, hL] at this
    norm_num at this
    linarith
  refine ⟨(⌊q⌋ + 127).toNat, by omega, by omega, ?_, ?_, ?_⟩
  · have e : (((⌊q⌋ + 127).toNat : ℕ) : ℤ) - 127 = ⌊q⌋ := by omega
    rw [e, ← hL]; exact Int.floor_le _
  · have e : (((⌊q⌋ + 127).toNat : ℕ) : ℤ) - 126 = ⌊q⌋ + 1 := by omega
    rw [e]
    by_contra hc
    have := (hL _).mpr (not_lt.mp hc)
    rw [← Int.le_floor] at this
    omega
  · have e : (((⌊q⌋ + 127).toNat : ℕ) : ℤ) - 127 = ⌊q⌋ := by omega
    rw [e1, e]; rfl

theorem fptosi_int (n : ℤ) (h0 : -126 ≤ n) (h1 : n ≤ 0) :
    FloatOps.fptosi (F := Ideal) (φ := .f32) 32 (((n : ℤ) : ℝ) : EReal) = BitVec.ofInt 32 n := by
  show BitVec.ofInt 32 (max _ (min _ (if (0 : ℝ) ≤ (n : ℝ) then ⌊(n : ℝ)⌋ else ⌈(n : ℝ)⌉))) = _
  rw [Int.floor_intCast, Int.ceil_intCast, ite_self]
  congr 1
  norm_num
  omega

/-- The two scales agree on the values that occur. -/
theorem scale_eq (r : ℝ) (h0 : 0 ≤ r) (h1 : r ≤ 1) : scaleK (r : EReal) = scaleR (r : EReal) := by
  unfold scaleK scaleR
  by_cases ht : (r : EReal) < Ideal.ofBits FTy.f32 8388608#32
  · simp only [if_pos ht]
    exact Ideal.ofBits_one_f32
  · have hr : (2 : ℝ) ^ (-126 : ℤ) ≤ r := by
      rw [ofBits_tiny] at ht
      exact EReal.coe_le_coe_iff.mp (not_lt.mp ht)
    obtain ⟨j, j0, j1, l0, l1, e⟩ := floorLog r hr h1
    have eb : IntOp.shli ArithUnit.vector (IntOp.addi (BitVec.ofInt 32 ((j : ℤ) - 127)) 127#32) 23#32
        = BitVec.ofNat 32 j <<< 23 := by
      have : ∀ j : Fin 128, IntOp.shli ArithUnit.vector (IntOp.addi (BitVec.ofInt 32 ((j.val : ℤ) - 127)) 127#32) 23#32
        = BitVec.ofNat 32 j.val <<< 23 := by decide +kernel
      exact this ⟨j, by omega⟩
    have ea : IntOp.shli ArithUnit.vector (IntOp.addi (Scalar.select (IntOp.cmpi CmpIPredicate.eq (IntOp.addi (BitVec.ofInt 32 ((j : ℤ) - 127)) 127#32) 0#32) (0#32)
          (IntOp.subi (IntOp.addi (BitVec.ofInt 32 ((j : ℤ) - 127)) 127#32) 126#32)) 127#32) 23#32
        = BitVec.ofNat 32 (j + 1) <<< 23 := by
      have : ∀ j : Fin 127, IntOp.shli ArithUnit.vector (IntOp.addi (Scalar.select (IntOp.cmpi CmpIPredicate.eq (IntOp.addi (BitVec.ofInt 32 (((j.val + 1 : ℕ) : ℤ) - 127)) 127#32) 0#32) (0#32)
          (IntOp.subi (IntOp.addi (BitVec.ofInt 32 (((j.val + 1 : ℕ) : ℤ) - 127)) 127#32) 126#32)) 127#32) 23#32
        = BitVec.ofNat 32 (j.val + 1 + 1) <<< 23 := by decide +kernel
      have h := this ⟨j - 1, by omega⟩
      have e : j - 1 + 1 = j := by omega
      simp only [e] at h
      exact h
    rw [e, fptosi_int _ (by omega) (by omega)]
    simp only [if_neg ht]
    rw [eb, ofBits_pow j j0 (by omega)]
    have c1 : ¬ ((r : EReal) < (((2 : ℝ) ^ ((j : ℤ) - 127) : ℝ) : EReal)) := not_lt.mpr (EReal.coe_le_coe_iff.mpr l0)
    have c2 : ¬ ((((2 : ℝ) ^ ((j : ℤ) - 127) : ℝ) : EReal) + (((2 : ℝ) ^ ((j : ℤ) - 127) : ℝ) : EReal) ≤ (r : EReal)) := by
      rw [← EReal.coe_add, not_le]
      refine EReal.coe_lt_coe_iff.mpr (lt_of_lt_of_eq l1 ?_)
      rw [show ((j : ℤ) - 126) = ((j : ℤ) - 127) + 1 by ring, zpow_add₀ (by norm_num)]
      ring
    rw [if_neg c1, if_neg c2, ea, ofBits_pow (j + 1) (by omega) (by omega)]
    rw [show ((((j : ℤ) - 127 : ℤ) : ℝ) : EReal) + 1 = ((((j : ℤ) - 127 + 1 : ℤ) : ℝ) : EReal) by push_cast; rfl]
    rw [Ideal.exp2_coe]
    congr 1
    show _ = (2 : ℝ) ^ ((((j : ℤ) - 127 + 1 : ℤ) : ℝ))
    rw [Real.rpow_intCast]
    congr 1
    push_cast; ring

end Cert.FwdMath

end
-- ==== Proof.FwdRow.lean ====
module

public import proofs.«01_k».proof.Proof.FwdMath
public import Mathlib.Analysis.SpecialFunctions.Exp

@[expose] public section

noncomputable section

namespace Cert.FwdMath

open Idealize.ShloMosaic

/-! # One row of the vocabulary

`T n` is the tanh value of column `n`, `y` the row's label. The kernel visits the columns in tiles of 128 and keeps, per lane, a sum
of exponentials, the tanh value at the label and a maximum per group of 2048 columns. The reference reads the whole row at once. -/

abbrev C30 : EReal := Ideal.ofBits FTy.f32 1106247680#32
abbrev NInf : EReal := Ideal.ofBits FTy.f32 4286578688#32
abbrev CInv : EReal := Ideal.ofBits FTy.f32 932333861#32

theorem c30_eq : C30 = ((30 : ℝ) : EReal) := by
  simp [C30, Ideal.ofBits, Ideal.ieee, -EReal.coe_mul]; norm_num

theorem ninf_eq : NInf = ⊥ := by
  simp [NInf, Ideal.ofBits, Ideal.ieee]

theorem cinv_eq : CInv = ((9586981 * (2 : ℝ) ^ (-39 : ℤ) : ℝ) : EReal) := by
  simp [CInv, Ideal.ofBits, Ideal.ieee, -EReal.coe_mul]

/-- The test "this column is the label", as a choice. -/
theorem sel_label {α : Type} (n : ℕ) (hn : n < 2 ^ 32) (a : BitVec 32) (x z : α) :
    Scalar.select (IntOp.cmpi .eq (BitVec.ofNat 32 n) a) x z = if n = a.toNat then x else z := by
  have : (BitVec.ofNat 32 n = a) ↔ n = a.toNat := by
    constructor
    · intro h; rw [← h, BitVec.toNat_ofNat, Nat.mod_eq_of_lt hn]
    · intro h; rw [h, BitVec.ofNat_toNat, BitVec.setWidth_eq]
  show (if BitVec.ofBool (BitVec.ofNat 32 n == a) = 1 then x else z) = _
  by_cases h : BitVec.ofNat 32 n = a
  · rw [if_pos (this.mp h), beq_iff_eq.mpr h]; rfl
  · rw [if_neg (fun h' => h (this.mpr h')), beq_eq_false_iff_ne.mpr h]; rfl

/-- The test "the label lies in group `g`", as a choice. -/
theorem sel_group {α : Type} (g : ℕ) (hg : g < 8) (a : BitVec 32) (x z : α) :
    Scalar.select (IntOp.cmpi .eq (IntOp.shrui ArithUnit.vector a 11#32) (BitVec.ofNat 32 g)) x z = if a.toNat / 2048 = g then x else z := by
  have e : (IntOp.shrui ArithUnit.vector a 11#32) = BitVec.ofNat 32 (a.toNat / 2048) := by
    have : (a >>> (11 : ℕ)) = BitVec.ofNat 32 (a.toNat / 2048) := by
      apply BitVec.eq_of_toNat_eq
      rw [BitVec.toNat_ushiftRight, BitVec.toNat_ofNat, Nat.shiftRight_eq_div_pow,
        Nat.mod_eq_of_lt (lt_of_le_of_lt (Nat.div_le_self _ _) a.isLt)]
    exact this
  have hd : a.toNat / 2048 < 2 ^ 32 := lt_of_le_of_lt (Nat.div_le_self _ _) a.isLt
  rw [e, sel_label _ hd, BitVec.toNat_ofNat, Nat.mod_eq_of_lt (by omega)]

/-- The running sum of exponentials of lane `l` after `K` tiles. -/
def eS (T : ℕ → EReal) (l : ℕ) : ℕ → EReal
  | 0 => 0
  | K + 1 => eS T l K + Ideal.exp (C30 * T (128 * K + l))

/-- The tanh value at the label, in lane `l` after `K` tiles: zero until the label is met. -/
def eL (T : ℕ → EReal) (y l : ℕ) : ℕ → EReal
  | 0 => 0
  | K + 1 => if 128 * K + l = y then T (128 * K + l) else eL T y l K

/-- What a column other than the label gives to its group's maximum. -/
def eW (T : ℕ → EReal) (y n : ℕ) : EReal :=
  if n = y then 0 else Ideal.exp (C30 * T n) * (1 - T n * T n)

/-- The running maximum of group `g` in lane `l` after `K` tiles. -/
def eM (T : ℕ → EReal) (y g l : ℕ) : ℕ → EReal
  | 0 => 0
  | K + 1 => if K / 16 = g then max (eM T y g l K) (eW T y (128 * K + l)) else eM T y g l K

/-- A maximum over finitely many reals is a real, and is below `x` when they all are. -/
theorem fold_max_real {n : ℕ} (hn : 0 < n) (f : Fin n → EReal) (φ : Fin n → ℝ) (h : ∀ k, f k = (φ k : EReal)) :
    ∃ r : ℝ, Finset.fold max NInf f Finset.univ = (r : EReal) ∧ ∀ x : ℝ, r ≤ x ↔ ∀ k, φ k ≤ x := by
  haveI : Nonempty (Fin n) := ⟨⟨0, hn⟩⟩
  obtain ⟨k0, -, hk⟩ := Finset.exists_max_image (Finset.univ : Finset (Fin n)) φ Finset.univ_nonempty
  refine ⟨φ k0, ?_, fun x => ⟨fun hx k => (hk k (Finset.mem_univ _)).trans hx, fun hx => hx k0⟩⟩
  rw [ninf_eq]
  apply le_antisymm
  · rw [Finset.fold_max_le]
    exact ⟨bot_le, fun k _ => by rw [h]; exact EReal.coe_le_coe_iff.mpr (hk k (Finset.mem_univ _))⟩
  · rw [Finset.le_fold_max]
    exact Or.inr ⟨k0, Finset.mem_univ _, by rw [h]⟩

/-- A sum of reals, as an extended real. -/
theorem coe_sum {ι : Type} (s : Finset ι) (f : ι → EReal) (φ : ι → ℝ) (h : ∀ k ∈ s, f k = (φ k : EReal)) :
    ∑ k ∈ s, f k = ((∑ k ∈ s, φ k : ℝ) : EReal) := by
  classical
  induction s using Finset.induction_on with
  | empty => simp
  | insert a s ha ih =>
    rw [Finset.sum_insert ha, Finset.sum_insert ha, h a (Finset.mem_insert_self _ _),
      ih fun k hk => h k (Finset.mem_insert_of_mem hk), EReal.coe_add]

/-- The columns tile by tile. -/
theorem sum_tiles (f : ℕ → ℝ) (K : ℕ) :
    ∑ n ∈ Finset.range (128 * K), f n = ∑ k ∈ Finset.range K, ∑ l ∈ Finset.range 128, f (128 * k + l) := by
  induction K with
  | zero => simp
  | succ K ih => rw [Nat.mul_succ, Finset.sum_range_add, ih, Finset.sum_range_succ _ K]

section
variable (T : ℕ → EReal) (τ : ℕ → ℝ) (hT : ∀ n, T n = (τ n : EReal)) (hτ : ∀ n, |τ n| ≤ 1) (y : ℕ)

include hT

theorem exp_real (n : ℕ) : Ideal.exp (C30 * T n) = (Real.exp (30 * τ n) : EReal) := by
  rw [hT, c30_eq, ← EReal.coe_mul, Ideal.exp_coe]

theorem eS_real (l K : ℕ) : eS T l K = ((∑ k ∈ Finset.range K, Real.exp (30 * τ (128 * k + l)) : ℝ) : EReal) := by
  induction K with
  | zero => simp [eS]
  | succ K ih => rw [eS, ih, exp_real T τ hT, Finset.sum_range_succ, EReal.coe_add]

/-- The sum of a row's exponentials. -/
def Z (τ : ℕ → ℝ) : ℝ := ∑ n ∈ Finset.range 16384, Real.exp (30 * τ n)

omit hT in
theorem Z_pos (τ : ℕ → ℝ) : 0 < Z τ :=
  Finset.sum_pos (fun _ _ => Real.exp_pos _) ⟨0, Finset.mem_range.mpr (by norm_num)⟩

/-- The lanes' sums together. -/
theorem total_eq : ∑ l : Fin 128, eS T l.val 128 = ((Z τ : ℝ) : EReal) := by
  rw [coe_sum Finset.univ _ (fun l : Fin 128 => ∑ k ∈ Finset.range 128, Real.exp (30 * τ (128 * k + l.val)))
    fun l _ => eS_real T τ hT l.val 128]
  refine congrArg Real.toEReal ?_
  rw [Fin.sum_univ_eq_sum_range (fun l => ∑ k ∈ Finset.range 128, Real.exp (30 * τ (128 * k + l))) 128, Finset.sum_comm,
    ← sum_tiles (fun n => Real.exp (30 * τ n)) 128, Z]

theorem eL_real (l : ℕ) (hl : l < 128) (K : ℕ) :
    eL T y l K = ((if y < 128 * K ∧ y % 128 = l then τ y else 0 : ℝ) : EReal) := by
  induction K with
  | zero => simp [eL]
  | succ K ih =>
    rw [eL, ih, hT]
    by_cases h : 128 * K + l = y
    · rw [if_pos h, h, if_pos (by omega)]
    · rw [if_neg h]
      refine congrArg Real.toEReal ?_
      by_cases h' : y < 128 * K ∧ y % 128 = l
      · rw [if_pos h', if_pos (by omega)]
      · rw [if_neg h', if_neg (by omega)]

/-- The tanh value at the label; zero when no column is the label. -/
def tl (τ : ℕ → ℝ) (y : ℕ) : ℝ := if y < 16384 then τ y else 0

theorem tl_eq : ∑ l : Fin 128, eL T y l.val 128 = ((tl τ y : ℝ) : EReal) := by
  rw [coe_sum Finset.univ _ (fun l : Fin 128 => if y < 128 * 128 ∧ y % 128 = l.val then τ y else 0)
    fun l _ => eL_real T τ hT y l.val l.isLt 128]
  refine congrArg Real.toEReal ?_
  rw [Finset.sum_eq_single (⟨y % 128, Nat.mod_lt _ (by norm_num)⟩ : Fin 128)]
  · unfold tl
    by_cases h : y < 16384
    · rw [if_pos h, if_pos ⟨h, rfl⟩]
    · rw [if_neg h, if_neg fun h' => h h'.1]
  · intro l _ hl
    rw [if_neg]
    rintro ⟨-, h⟩
    exact hl (Fin.ext h.symm)
  · intro h; exact absurd (Finset.mem_univ _) h

/-- The largest of a row's capped logits, and the exponentials taken relative to it. -/
theorem zmax_real : ∃ M : ℝ, Finset.fold max NInf (fun k : Fin 16384 => C30 * T k.val) Finset.univ = (M : EReal) ∧
    (∀ n, Ideal.exp (C30 * T n - (M : EReal)) = ((Real.exp (30 * τ n) * Real.exp (-M) : ℝ) : EReal)) ∧
    ∑ k : Fin 16384, Ideal.exp (C30 * T k.val - (M : EReal)) = ((Z τ * Real.exp (-M) : ℝ) : EReal) := by
  obtain ⟨M, hM, -⟩ := fold_max_real (n := 16384) (by norm_num) (fun k : Fin 16384 => C30 * T k.val) (fun k => 30 * τ k.val)
    fun k => by rw [hT, c30_eq, ← EReal.coe_mul]
  have hx : ∀ n, Ideal.exp (C30 * T n - (M : EReal)) = ((Real.exp (30 * τ n) * Real.exp (-M) : ℝ) : EReal) := by
    intro n
    rw [hT, c30_eq, ← EReal.coe_mul, ← EReal.coe_sub, Ideal.exp_coe, ← Real.exp_add]
    rfl
  refine ⟨M, hM, hx, ?_⟩
  rw [coe_sum Finset.univ _ (fun k : Fin 16384 => Real.exp (30 * τ k.val) * Real.exp (-M)) fun k _ => hx k.val]
  refine congrArg Real.toEReal ?_
  rw [Fin.sum_univ_eq_sum_range (fun n => Real.exp (30 * τ n) * Real.exp (-M)) 16384, ← Finset.sum_mul, Z]

/-- The log-sum-exp: taken relative to the maximum, or directly from the lanes' sums. -/
theorem lse_eq (zm : EReal) (hz : zm = Finset.fold max NInf (fun k : Fin 16384 => C30 * T k.val) Finset.univ) :
    zm + Ideal.log (∑ k : Fin 16384, Ideal.exp (C30 * T k.val - zm)) = Ideal.log (∑ l : Fin 128, eS T l.val 128) := by
  obtain ⟨M, hM, -, hs⟩ := zmax_real T τ hT
  rw [hz, hM, hs, total_eq T τ hT, Ideal.log_coe, Ideal.log_coe, if_neg (not_le.mpr (Z_pos τ)),
    if_neg (not_le.mpr (mul_pos (Z_pos τ) (Real.exp_pos _))), ← EReal.coe_add]
  refine congrArg Real.toEReal ?_
  rw [Real.log_mul (Z_pos τ).ne' (Real.exp_pos _).ne', Real.log_exp]
  ring

/-- The label's capped logit, summed over the row or found lane by lane. -/
theorem zl_eq : ∑ k : Fin 16384, (if k.val = y then C30 * T k.val else 0) = C30 * ∑ l : Fin 128, eL T y l.val 128 := by
  rw [tl_eq T τ hT]
  unfold tl
  by_cases h : y < 16384
  · rw [if_pos h, Finset.sum_eq_single (⟨y, h⟩ : Fin 16384)]
    · rw [if_pos rfl, hT]
    · intro k _ hk
      rw [if_neg fun e => hk (Fin.ext e)]
    · intro h; exact absurd (Finset.mem_univ _) h
  · rw [if_neg h, EReal.coe_zero, mul_zero]
    exact Finset.sum_eq_zero fun k _ => by rw [if_neg (fun e : k.val = y => h (e ▸ k.isLt))]

/-- What a column other than the label gives to its group's maximum, as a real. -/
def w (τ : ℕ → ℝ) (y n : ℕ) : ℝ := if n = y then 0 else Real.exp (30 * τ n) * (1 - τ n * τ n)

theorem eW_real (n : ℕ) : eW T y n = ((w τ y n : ℝ) : EReal) := by
  unfold eW w
  split
  · rfl
  · rw [exp_real T τ hT, hT, ← EReal.coe_mul, ← EReal.coe_one, ← EReal.coe_sub, ← EReal.coe_mul]

theorem eM_real (g l K : ℕ) : ∃ r : ℝ, eM T y g l K = (r : EReal) ∧
    ∀ x : ℝ, r ≤ x ↔ 0 ≤ x ∧ ∀ k < K, k / 16 = g → w τ y (128 * k + l) ≤ x := by
  induction K with
  | zero => exact ⟨0, by simp [eM], fun x => by simp⟩
  | succ K ih =>
    obtain ⟨r, hr, hx⟩ := ih
    rw [eM, hr, eW_real T τ hT]
    by_cases h : K / 16 = g
    · refine ⟨max r (w τ y (128 * K + l)), ?_, fun x => ?_⟩
      · rw [if_pos h]
        exact (EReal.coe_strictMono.monotone.map_max).symm
      · rw [max_le_iff, hx]
        constructor
        · rintro ⟨⟨h0, h1⟩, h2⟩
          refine ⟨h0, fun k hk hg => ?_⟩
          rcases Nat.lt_succ_iff_lt_or_eq.mp hk with hk | rfl
          · exact h1 k hk hg
          · exact h2
        · rintro ⟨h0, h1⟩
          exact ⟨⟨h0, fun k hk hg => h1 k (by omega) hg⟩, h1 K (by omega) h⟩
    · refine ⟨r, by rw [if_neg h], fun x => ?_⟩
      rw [hx]
      constructor
      · rintro ⟨h0, h1⟩
        refine ⟨h0, fun k hk hg => ?_⟩
        rcases Nat.lt_succ_iff_lt_or_eq.mp hk with hk | rfl
        · exact h1 k hk hg
        · exact absurd hg h
      · rintro ⟨h0, h1⟩
        exact ⟨h0, fun k hk hg => h1 k (by omega) hg⟩

/-- The maximum of a group over the lanes. -/
theorem group_max_real (g : ℕ) (hg : g < 8) : ∃ r : ℝ,
    Finset.fold max NInf (fun l : Fin 128 => eM T y g l.val 128) Finset.univ = (r : EReal) ∧
    ∀ x : ℝ, r ≤ x ↔ 0 ≤ x ∧ ∀ k < 2048, w τ y (g * 2048 + k) ≤ x := by
  choose φ h1 h2 using fun l : Fin 128 => eM_real T τ hT y g l.val 128
  obtain ⟨r, hr, hx⟩ := fold_max_real (n := 128) (by norm_num) _ φ h1
  refine ⟨r, hr, fun x => ?_⟩
  rw [hx]
  constructor
  · intro h
    refine ⟨((h2 ⟨0, by norm_num⟩ x).mp (h _)).1, fun k hk => ?_⟩
    have := ((h2 ⟨k % 128, Nat.mod_lt _ (by norm_num)⟩ x).mp (h _)).2 (g * 16 + k / 128) (by omega) (by omega)
    rwa [show 128 * (g * 16 + k / 128) + k % 128 = g * 2048 + k by omega] at this
  · rintro ⟨h0, h1⟩ l
    refine (h2 l x).mpr ⟨h0, fun k hk hg => ?_⟩
    have := h1 (128 * k + l.val - g * 2048) (by have := l.isLt; omega)
    rwa [show g * 2048 + (128 * k + l.val - g * 2048) = 128 * k + l.val by omega] at this

include hτ

omit hT in
theorem one_sub_nonneg (n : ℕ) : 0 ≤ 1 - τ n * τ n := by
  have h := abs_le.mp (hτ n)
  nlinarith [h.1, h.2]

/-- The size of a group's logit gradients, as the kernel combines it: the maximum over the columns other than the label,
    divided by the sum, joined by the label's own where the label lies in the group. -/
def kA (T : ℕ → EReal) (y g : ℕ) : EReal :=
  if y / 2048 = g then
    max (Ideal.div (Finset.fold max NInf (fun l : Fin 128 => eM T y g l.val 128) Finset.univ) (∑ l : Fin 128, eS T l.val 128))
      (FloatOps.absf (F := Ideal) (φ := .f32) (Ideal.exp (C30 * (∑ l : Fin 128, eL T y l.val 128) - Ideal.log (∑ l : Fin 128, eS T l.val 128)) - 1)
        * (1 - (∑ l : Fin 128, eL T y l.val 128) * (∑ l : Fin 128, eL T y l.val 128)))
  else Ideal.div (Finset.fold max NInf (fun l : Fin 128 => eM T y g l.val 128) Finset.univ) (∑ l : Fin 128, eS T l.val 128)

/-- One logit gradient, as the reference writes it. -/
def rG (T : ℕ → EReal) (y : ℕ) (zm se : EReal) (n : ℕ) : EReal :=
  (if n = y then Ideal.div (Ideal.exp (C30 * T n - zm)) se - 1 else Ideal.div (Ideal.exp (C30 * T n - zm)) se) * (1 - T n * T n)

/-- The group's largest gradient is the same both ways, and lies between 0 and 1. -/
theorem group_eq (g : ℕ) (hg : g < 8) (zm se : EReal)
    (hz : zm = Finset.fold max NInf (fun k : Fin 16384 => C30 * T k.val) Finset.univ)
    (hs : se = ∑ k : Fin 16384, Ideal.exp (C30 * T k.val - zm)) :
    ∃ r : ℝ, 0 ≤ r ∧ r ≤ 1 ∧ kA T y g = (r : EReal) ∧
      Finset.fold max NInf (fun k : Fin 2048 => FloatOps.absf (F := Ideal) (φ := .f32) (rG T y zm se (g * 2048 + k.val))) Finset.univ = (r : EReal) := by
  have hZ := Z_pos τ
  -- the reference's side
  obtain ⟨M, hM, he, hse⟩ := zmax_real T τ hT
  have hp : ∀ n, Ideal.div (Ideal.exp (C30 * T n - zm)) se = ((Real.exp (30 * τ n) / Z τ : ℝ) : EReal) := by
    intro n
    rw [hs, hz, hM, he, hse, Ideal.div_coe (mul_pos hZ (Real.exp_pos _)).ne', ← EReal.coe_mul]
    refine congrArg Real.toEReal ?_
    have := (Real.exp_pos (-M)).ne'
    field_simp
  let h : ℕ → ℝ := fun n => |(if n = y then Real.exp (30 * τ n) / Z τ - 1 else Real.exp (30 * τ n) / Z τ) * (1 - τ n * τ n)|
  have hG : ∀ n, FloatOps.absf (F := Ideal) (φ := .f32) (rG T y zm se n) = ((h n : ℝ) : EReal) := by
    intro n
    have e : rG T y zm se n = (((if n = y then Real.exp (30 * τ n) / Z τ - 1 else Real.exp (30 * τ n) / Z τ) * (1 - τ n * τ n) : ℝ) : EReal) := by
      unfold rG
      rw [hp, hT]
      split
      · rw [← EReal.coe_one, ← EReal.coe_sub, ← EReal.coe_mul, ← EReal.coe_sub, ← EReal.coe_mul]
      · rw [← EReal.coe_one, ← EReal.coe_mul, ← EReal.coe_sub, ← EReal.coe_mul]
    rw [e]
    show max _ (-_) = _
    rw [← EReal.coe_neg]
    exact (EReal.coe_strictMono.monotone.map_max).symm
  have hnn := one_sub_nonneg τ hτ
  have hle : ∀ n < 16384, Real.exp (30 * τ n) / Z τ ≤ 1 := by
    intro n hn
    rw [div_le_one hZ]
    exact Finset.single_le_sum (f := fun n => Real.exp (30 * τ n)) (fun _ _ => (Real.exp_pos _).le) (Finset.mem_range.mpr hn)
  have hpos : ∀ n, 0 ≤ Real.exp (30 * τ n) / Z τ := fun n => (div_pos (Real.exp_pos _) hZ).le
  obtain ⟨r, hr, hrx⟩ := fold_max_real (n := 2048) (by norm_num) (fun k : Fin 2048 => FloatOps.absf (F := Ideal) (φ := .f32) (rG T y zm se (g * 2048 + k.val)))
    (fun k => h (g * 2048 + k.val)) fun k => hG _
  have hh0 : ∀ n, 0 ≤ h n := fun n => abs_nonneg _
  have hh1 : ∀ n < 16384, h n ≤ 1 := by
    intro n hn
    show |_ * _| ≤ 1
    rw [abs_mul, abs_of_nonneg (hnn n)]
    have a1 : |if n = y then Real.exp (30 * τ n) / Z τ - 1 else Real.exp (30 * τ n) / Z τ| ≤ 1 := by
      have p0 := hpos n
      have p1 := hle n hn
      split <;> rw [abs_le] <;> constructor <;> linarith
    have a2 : 1 - τ n * τ n ≤ 1 := by nlinarith [mul_self_nonneg (τ n)]
    calc _ ≤ 1 * 1 := mul_le_mul a1 a2 (hnn n) (by norm_num)
      _ = 1 := by norm_num
  have hwn : ∀ n, w τ y n / Z τ = if n = y then 0 else h n := by
    intro n
    unfold w
    by_cases e : n = y
    · rw [if_pos e, if_pos e, zero_div]
    · rw [if_neg e, if_neg e]
      show _ = |_ * _|
      rw [if_neg e, abs_of_nonneg (mul_nonneg (hpos n) (hnn n))]
      ring
  -- the kernel's side
  obtain ⟨q, hq, hqx⟩ := group_max_real T τ hT y g hg
  have hA : Ideal.div (Finset.fold max NInf (fun l : Fin 128 => eM T y g l.val 128) Finset.univ) (∑ l : Fin 128, eS T l.val 128)
      = ((q / Z τ : ℝ) : EReal) := by
    rw [hq, total_eq T τ hT, Ideal.div_coe hZ.ne', ← EReal.coe_mul]
    refine congrArg Real.toEReal ?_; ring
  have hAx : ∀ x : ℝ, q / Z τ ≤ x ↔ 0 ≤ x ∧ ∀ k < 2048, g * 2048 + k ≠ y → h (g * 2048 + k) ≤ x := by
    intro x
    rw [div_le_iff₀ hZ, hqx]
    constructor
    · rintro ⟨h0, h1⟩
      have hx0 : 0 ≤ x := nonneg_of_mul_nonneg_left h0 hZ
      refine ⟨hx0, fun k hk hne => ?_⟩
      have := hwn (g * 2048 + k)
      rw [if_neg hne] at this
      rw [← this, div_le_iff₀ hZ]
      exact h1 k hk
    · rintro ⟨h0, h1⟩
      refine ⟨mul_nonneg h0 hZ.le, fun k hk => ?_⟩
      rw [← div_le_iff₀ hZ, hwn]
      split
      · exact h0
      · exact h1 k hk (by assumption)
  have hr0 : 0 ≤ r := (hh0 _).trans ((hrx r).mp le_rfl ⟨0, by norm_num⟩)
  have hr1 : r ≤ 1 := (hrx 1).mpr fun k => hh1 _ (by have := k.isLt; omega)
  refine ⟨r, hr0, hr1, ?_, hr⟩
  unfold kA
  by_cases hy : y / 2048 = g
  · rw [if_pos hy, hA]
    have hyl : y < 16384 := by omega
    have hL : FloatOps.absf (F := Ideal) (φ := .f32) (Ideal.exp (C30 * (∑ l : Fin 128, eL T y l.val 128) - Ideal.log (∑ l : Fin 128, eS T l.val 128)) - 1)
        * (1 - (∑ l : Fin 128, eL T y l.val 128) * (∑ l : Fin 128, eL T y l.val 128)) = ((h y : ℝ) : EReal) := by
      have et : tl τ y = τ y := if_pos hyl
      rw [tl_eq T τ hT, total_eq T τ hT, et, c30_eq, Ideal.log_coe, if_neg (not_le.mpr hZ), ← EReal.coe_mul, ← EReal.coe_sub,
        Ideal.exp_coe, ← EReal.coe_one, ← EReal.coe_sub, ← EReal.coe_mul, ← EReal.coe_sub, Real.exp_sub, Real.exp_log hZ]
      show max _ (-_) * _ = _
      rw [← EReal.coe_neg, ← EReal.coe_strictMono.monotone.map_max, ← EReal.coe_mul]
      refine congrArg Real.toEReal ?_
      show _ = |(if y = y then _ else _) * _|
      rw [if_pos rfl, abs_mul, abs_of_nonneg (hnn y)]
      rfl
    rw [hL, ← EReal.coe_strictMono.monotone.map_max]
    refine congrArg Real.toEReal ?_
    refine eq_of_forall_ge_iff fun x => ?_
    rw [max_le_iff, hAx, hrx]
    constructor
    · rintro ⟨⟨h0, h1⟩, h2⟩ k
      by_cases e : g * 2048 + k.val = y
      · rw [e]; exact h2
      · exact h1 k.val k.isLt e
    · intro hx
      refine ⟨⟨(hh0 _).trans (hx ⟨0, by norm_num⟩), fun k hk _ => hx ⟨k, hk⟩⟩, ?_⟩
      have := hx ⟨y - g * 2048, by omega⟩
      rwa [show g * 2048 + (y - g * 2048) = y by omega] at this
  · rw [if_neg hy, hA]
    refine congrArg Real.toEReal ?_
    refine eq_of_forall_ge_iff fun x => ?_
    rw [hAx, hrx]
    constructor
    · rintro ⟨h0, h1⟩ k
      exact h1 k.val k.isLt (by have := k.isLt; omega)
    · intro hx
      exact ⟨(hh0 _).trans (hx ⟨0, by norm_num⟩), fun k hk _ => hx ⟨k, hk⟩⟩

/-- So the scales are the same: the kernel's, built from bits, and the reference's. -/
theorem scale_row (g : ℕ) (hg : g < 8) (zm se : EReal)
    (hz : zm = Finset.fold max NInf (fun k : Fin 16384 => C30 * T k.val) Finset.univ)
    (hs : se = ∑ k : Fin 16384, Ideal.exp (C30 * T k.val - zm)) :
    scaleK (kA T y g * CInv)
      = scaleR (Finset.fold max NInf (fun k : Fin 2048 => FloatOps.absf (F := Ideal) (φ := .f32) (rG T y zm se (g * 2048 + k.val))) Finset.univ * CInv) := by
  obtain ⟨r, h0, h1, e1, e2⟩ := group_eq T τ hT hτ y g hg zm se hz hs
  rw [e1, e2, cinv_eq, ← EReal.coe_mul]
  have c0 : (0 : ℝ) ≤ 9586981 * (2 : ℝ) ^ (-39 : ℤ) := by positivity
  have c1 : 9586981 * (2 : ℝ) ^ (-39 : ℤ) ≤ 1 := by norm_num
  exact scale_eq _ (mul_nonneg h0 c0) (by nlinarith)

end

/-- A tanh is a real between -1 and 1. -/
theorem tanh_real (x : EReal) : ∃ r : ℝ, Ideal.tanh x = (r : EReal) ∧ |r| ≤ 1 := by
  induction x using EReal.rec with
  | bot => exact ⟨-1, by rw [Ideal.tanh_bot]; rfl, by norm_num⟩
  | top => exact ⟨1, by rw [Ideal.tanh_top]; rfl, by norm_num⟩
  | coe r =>
    refine ⟨Real.tanh r, Ideal.tanh_coe r, ?_⟩
    rw [Real.tanh_eq_sinh_div_cosh, abs_div, abs_of_pos (Real.cosh_pos r), div_le_one (Real.cosh_pos r), abs_le]
    have e := Real.exp_pos r
    have e' := Real.exp_pos (-r)
    rw [Real.sinh_eq, Real.cosh_eq]
    constructor <;> linarith

end Cert.FwdMath

end
-- ==== Proof.FwdTiles.lean ====
module

public import proofs.«01_k».proof.Proof.Gen.FwdIdeal.Value
public import proofs.«01_k».proof.Proof.FwdRow
public import Idealize.ShloMosaic.Lib.Pipeline.ValueKit

@[expose] public section

set_option maxRecDepth 16384

noncomputable section

namespace Cert.FwdIdeal.Hand

open Cert.FwdIdeal Cert.FwdIdeal.Gen Idealize.ShloMosaic Idealize.ShloMosaic.TcCoe Idealize.SL.Sem
open Cert.FwdMath

/-! # What one grid point computes, from the blocks it reads -/

/-- Column `k` of a block of 512 columns, within its tile of 128. -/
abbrev lane (k : Fin 512) : Fin 128 := ⟨k.val % 128, Nat.mod_lt _ (by decide)⟩

variable (i : grid0.Coords) (X : Vec Ideal S2048x5120 .fp8e4m3) (W : Vec Ideal S512x5120 .fp8e4m3) (H : Vec Ideal S2048x128 .f32)
  (U : Vec Ideal S1x512 .f32) (Y : Vec Ideal S2048x128 .i32) (S0 : Vec Ideal S2048x128 .f32)

/-- The tanh value of one row and one column of the block. -/
def tB (r : Fin 2048) (k : Fin 512) : EReal :=
  Ideal.tanh ((∑ j : Fin 5120, X (ix2 r j) * W (ix2 k j)) * H (ix2 r (lane k)) * U (ix2 0 k) * Ideal.ofBits FTy.f32 1023969417#32)

/-- Whether column `128 d + l` of the block is the row's label. -/
def bB (r : Fin 2048) (l : Fin 128) (d : ℕ) : BitVec 1 :=
  IntOp.cmpi .eq (IntOp.subi (IntOp.subi (Y (ix2 r l)) (BitVec.ofNat 32 l.val)) (Scalar.muli (BitVec.ofNat 32 (i 0).val) 512#32))
    (BitVec.ofNat 32 d)

/-- Lane `l` of a block's tile `d`. -/
abbrev at4 (l : Fin 128) (d : ℕ) (hd : d < 4) : Fin 512 := ⟨d * 128 + l.val, by have := l.isLt; omega⟩

/-- The block of tanh values. -/
def tNew : Vec Ideal S2048x512 .f32 := fun y => tB X W H U (y 0) (y 1)

/-- The lanes' sums after the block. -/
def sNew : Vec Ideal S2048x128 .f32 := fun y =>
  (S0 y : EReal) + Ideal.exp (C30 * tB X W H U (y 0) (at4 (y 1) 0 (by decide))) + Ideal.exp (C30 * tB X W H U (y 0) (at4 (y 1) 1 (by decide)))
    + Ideal.exp (C30 * tB X W H U (y 0) (at4 (y 1) 2 (by decide))) + Ideal.exp (C30 * tB X W H U (y 0) (at4 (y 1) 3 (by decide)))

/-- The lanes' tanh values at the label after the block. -/
def lNew : Vec Ideal S2048x128 .f32 := fun y =>
  Scalar.select (bB i Y (y 0) (y 1) 384) (tB X W H U (y 0) (at4 (y 1) 3 (by decide)))
    (Scalar.select (bB i Y (y 0) (y 1) 256) (tB X W H U (y 0) (at4 (y 1) 2 (by decide)))
      (Scalar.select (bB i Y (y 0) (y 1) 128) (tB X W H U (y 0) (at4 (y 1) 1 (by decide)))
        (Scalar.select (bB i Y (y 0) (y 1) 0) (tB X W H U (y 0) (at4 (y 1) 0 (by decide))) (S0 y : EReal))))

/-- What one column gives to its group's maximum. -/
def wB (r : Fin 2048) (l : Fin 128) (d : ℕ) (hd : d < 4) : EReal :=
  Scalar.select (bB i Y r l (d * 128)) (0 : EReal)
    (Ideal.exp (C30 * tB X W H U r (at4 l d hd)) * (1 - tB X W H U r (at4 l d hd) * tB X W H U r (at4 l d hd)))

/-- A group's maximum in one lane after the block, from the maximum before. -/
def gNew (v : EReal) (r : Fin 2048) (l : Fin 128) : EReal :=
  max (max (max (max v (wB i X W H U Y r l 0 (by decide))) (wB i X W H U Y r l 1 (by decide))) (wB i X W H U Y r l 2 (by decide)))
    (wB i X W H U Y r l 3 (by decide))

/-- The sixteen tiles of tanh values stored at one point are the block's values. -/
theorem t_block (y : S2048x512.Idx) :
    View.canon [⟨Rect.unit ![1536, 384] ![512, 128] inb_S2048x512_S512x128_1536_384, k0_pay1150 (k0_pay1131 (View.ld X (Rect.unit ![1536, 0] ![512, 5120]
    inb_S2048x5120_S512x5120_1536_0)) W) (k0_pay1132 (View.ld H (Rect.unit ![1536, 0] ![512, 128] inb_S2048x128_S512x128_1536_0))) (View.ld U (Rect.unit
    ![0, 384] ![1, 128] inb_S1x512_S1x128_0_384))⟩, ⟨Rect.unit ![1536, 256] ![512, 128] inb_S2048x512_S512x128_1536_256, k0_pay1144 (k0_pay1131 (View.ld X
    (Rect.unit ![1536, 0] ![512, 5120] inb_S2048x5120_S512x5120_1536_0)) W) (k0_pay1132 (View.ld H (Rect.unit ![1536, 0] ![512, 128]
    inb_S2048x128_S512x128_1536_0))) (View.ld U (Rect.unit ![0, 256] ![1, 128] inb_S1x512_S1x128_0_256))⟩, ⟨Rect.unit ![1536, 128] ![512, 128]
    inb_S2048x512_S512x128_1536_128, k0_pay1139 (k0_pay1131 (View.ld X (Rect.unit ![1536, 0] ![512, 5120] inb_S2048x5120_S512x5120_1536_0)) W) (k0_pay1132
    (View.ld H (Rect.unit ![1536, 0] ![512, 128] inb_S2048x128_S512x128_1536_0))) (View.ld U (Rect.unit ![0, 128] ![1, 128] inb_S1x512_S1x128_0_128))⟩,
    ⟨Rect.unit ![1536, 0] ![512, 128] inb_S2048x512_S512x128_1536_0, k0_pay1134 (k0_pay1131 (View.ld X (Rect.unit ![1536, 0] ![512, 5120]
    inb_S2048x5120_S512x5120_1536_0)) W) (k0_pay1132 (View.ld H (Rect.unit ![1536, 0] ![512, 128] inb_S2048x128_S512x128_1536_0))) (View.ld U (Rect.unit
    ![0, 0] ![1, 128] inb_S1x512_S1x128_0_0))⟩, ⟨Rect.unit ![1024, 384] ![512, 128] inb_S2048x512_S512x128_1024_384, k0_pay1125 (k0_pay1106 (View.ld X
    (Rect.unit ![1024, 0] ![512, 5120] inb_S2048x5120_S512x5120_1024_0)) W) (k0_pay1107 (View.ld H (Rect.unit ![1024, 0] ![512, 128]
    inb_S2048x128_S512x128_1024_0))) (View.ld U (Rect.unit ![0, 384] ![1, 128] inb_S1x512_S1x128_0_384))⟩, ⟨Rect.unit ![1024, 256] ![512, 128]
    inb_S2048x512_S512x128_1024_256, k0_pay1119 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 256] ![1, 128] inb_S1x512_S1x128_0_256))⟩,
    ⟨Rect.unit ![1024, 128] ![512, 128] inb_S2048x512_S512x128_1024_128, k0_pay1114 (k0_pay1106 (View.ld X (Rect.unit ![1024, 0] ![512, 5120]
    inb_S2048x5120_S512x5120_1024_0)) W) (k0_pay1107 (View.ld H (Rect.unit ![1024, 0] ![512, 128] inb_S2048x128_S512x128_1024_0))) (View.ld U (Rect.unit
    ![0, 128] ![1, 128] inb_S1x512_S1x128_0_128))⟩, ⟨Rect.unit ![1024, 0] ![512, 128] inb_S2048x512_S512x128_1024_0, k0_pay1109 (k0_pay1106 (View.ld X
    (Rect.unit ![1024, 0] ![512, 5120] inb_S2048x5120_S512x5120_1024_0)) W) (k0_pay1107 (View.ld H (Rect.unit ![1024, 0] ![512, 128]
    inb_S2048x128_S512x128_1024_0))) (View.ld U (Rect.unit ![0, 0] ![1, 128] inb_S1x512_S1x128_0_0))⟩, ⟨Rect.unit ![512, 384] ![512, 128]
    inb_S2048x512_S512x128_512_384, k0_pay1099 (k0_pay1078 (View.ld X (Rect.unit ![512, 0] ![512, 5120] inb_S2048x5120_S512x5120_512_0)) W) (k0_pay1079
    (View.ld H (Rect.unit ![512, 0] ![512, 128] inb_S2048x128_S512x128_512_0))) (View.ld U (Rect.unit ![0, 384] ![1, 128] inb_S1x512_S1x128_0_384))⟩,
    ⟨Rect.unit ![512, 256] ![512, 128] inb_S2048x512_S512x128_512_256, k0_pay1093 (k0_pay1078 (View.ld X (Rect.unit ![512, 0] ![512, 5120]
    inb_S2048x5120_S512x5120_512_0)) W) (k0_pay1079 (View.ld H (Rect.unit ![512, 0] ![512, 128] inb_S2048x128_S512x128_512_0))) (View.ld U (Rect.unit ![0,
    256] ![1, 128] inb_S1x512_S1x128_0_256))⟩, ⟨Rect.unit ![512, 128] ![512, 128] inb_S2048x512_S512x128_512_128, k0_pay1087 (k0_pay1078 (View.ld X
    (Rect.unit ![512, 0] ![512, 5120] inb_S2048x5120_S512x5120_512_0)) W) (k0_pay1079 (View.ld H (Rect.unit ![512, 0] ![512, 128]
    inb_S2048x128_S512x128_512_0))) (View.ld U (Rect.unit ![0, 128] ![1, 128] inb_S1x512_S1x128_0_128))⟩, ⟨Rect.unit ![512, 0] ![512, 128]
    inb_S2048x512_S512x128_512_0, k0_pay1082 (k0_pay1079 (View.ld H (Rect.unit ![512, 0] ![512, 128] inb_S2048x128_S512x128_512_0))) (k0_pay1081 (View.ld
    X (Rect.unit ![512, 0] ![512, 5120] inb_S2048x5120_S512x5120_512_0)) W) (View.ld U (Rect.unit ![0, 0] ![1, 128] inb_S1x512_S1x128_0_0))⟩, ⟨Rect.unit
    ![0, 384] ![512, 128] inb_S2048x512_S512x128_0_384, k0_pay1071 (k0_pay1052 (View.ld X (Rect.unit ![0, 0] ![512, 5120] inb_S2048x5120_S512x5120_0_0))
    W) (k0_pay1053 (View.ld H (Rect.unit ![0, 0] ![512, 128] inb_S2048x128_S512x128_0_0))) (View.ld U (Rect.unit ![0, 384] ![1, 128]
    inb_S1x512_S1x128_0_384))⟩, ⟨Rect.unit ![0, 256] ![512, 128] inb_S2048x512_S512x128_0_256, k0_pay1066 (k0_pay1052 (View.ld X (Rect.unit ![0, 0] ![512,
    5120] inb_S2048x5120_S512x5120_0_0)) W) (k0_pay1053 (View.ld H (Rect.unit ![0, 0] ![512, 128] inb_S2048x128_S512x128_0_0))) (View.ld U (Rect.unit ![0,
    256] ![1, 128] inb_S1x512_S1x128_0_256))⟩, ⟨Rect.unit ![0, 128] ![512, 128] inb_S2048x512_S512x128_0_128, k0_pay1061 (k0_pay1052 (View.ld X (Rect.unit
    ![0, 0] ![512, 5120] inb_S2048x5120_S512x5120_0_0)) W) (k0_pay1053 (View.ld H (Rect.unit ![0, 0] ![512, 128] inb_S2048x128_S512x128_0_0))) (View.ld U
    (Rect.unit ![0, 128] ![1, 128] inb_S1x512_S1x128_0_128))⟩, ⟨Rect.unit ![0, 0] ![512, 128] inb_S2048x512_S512x128_0_0, k0_pay1056 (k0_pay1055 (View.ld
    X (Rect.unit ![0, 0] ![512, 5120] inb_S2048x5120_S512x5120_0_0)) W (View.ld H (Rect.unit ![0, 0] ![512, 128] inb_S2048x128_S512x128_0_0))) (View.ld U
    (Rect.unit ![0, 0] ![1, 128] inb_S1x512_S1x128_0_0))⟩]
      y = tNew X W H U y := by
  canon_tiles x h
  all_goals
    open_payloads
    pointwise [tNew, tB]
    blk_point []
    try exact h1.symm

/-- The sums stored at one point. -/
theorem s_block (y : S2048x128.Idx) :
    View.canon [⟨Rect.unit ![1536, 0] ![512, 128] inb_S2048x128_S512x128_1536_0, k0_pay3 (k0_pay1146 (k0_pay1131 (View.ld X (Rect.unit ![1536, 0] ![512,
    5120] inb_S2048x5120_S512x5120_1536_0)) W) (k0_pay1132 (View.ld H (Rect.unit ![1536, 0] ![512, 128] inb_S2048x128_S512x128_1536_0))) (k0_pay1141
    (k0_pay1131 (View.ld X (Rect.unit ![1536, 0] ![512, 5120] inb_S2048x5120_S512x5120_1536_0)) W) (k0_pay1132 (View.ld H (Rect.unit ![1536, 0] ![512,
    128] inb_S2048x128_S512x128_1536_0))) (View.ld S0 (Rect.unit ![1536, 0] ![512, 128] inb_S2048x128_S512x128_1536_0)) (View.ld U (Rect.unit ![0, 0] ![1,
    128] inb_S1x512_S1x128_0_0)) (View.ld U (Rect.unit ![0, 128] ![1, 128] inb_S1x512_S1x128_0_128))) (View.ld U (Rect.unit ![0, 256] ![1, 128]
    inb_S1x512_S1x128_0_256))) (k0_pay1150 (k0_pay1131 (View.ld X (Rect.unit ![1536, 0] ![512, 5120] inb_S2048x5120_S512x5120_1536_0)) W) (k0_pay1132
    (View.ld H (Rect.unit ![1536, 0] ![512, 128] inb_S2048x128_S512x128_1536_0))) (View.ld U (Rect.unit ![0, 384] ![1, 128] inb_S1x512_S1x128_0_384)))⟩,
    ⟨Rect.unit ![1024, 0] ![512, 128] inb_S2048x128_S512x128_1024_0, k0_pay1128 (k0_pay1121 (k0_pay1106 (View.ld X (Rect.unit ![1024, 0] ![512, 5120]
    inb_S2048x5120_S512x5120_1024_0)) W) (k0_pay1107 (View.ld H (Rect.unit ![1024, 0] ![512, 128] inb_S2048x128_S512x128_1024_0))) (k0_pay1116 (k0_pay1106
    (View.ld X (Rect.unit ![1024, 0] ![512, 5120] inb_S2048x5120_S512x5120_1024_0)) W) (k0_pay1107 (View.ld H (Rect.unit ![1024, 0] ![512, 128]
    inb_S2048x128_S512x128_1024_0))) (View.ld S0 (Rect.unit ![1024, 0] ![512, 128] inb_S2048x128_S512x128_1024_0)) (View.ld U (Rect.unit ![0, 0] ![1, 128]
    inb_S1x512_S1x128_0_0)) (View.ld U (Rect.unit ![0, 128] ![1, 128] inb_S1x512_S1x128_0_128))) (View.ld U (Rect.unit ![0, 256] ![1, 128]
    inb_S1x512_S1x128_0_256))) (k0_pay1125 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 384] ![1, 128] inb_S1x512_S1x128_0_384)))
    (FloatOps.ofBits FTy.f32 1106247680#32)⟩, ⟨Rect.unit ![512, 0] ![512, 128] inb_S2048x128_S512x128_512_0, k0_pay1103 (k0_pay1095 (k0_pay1078 (View.ld X
    (Rect.unit ![512, 0] ![512, 5120] inb_S2048x5120_S512x5120_512_0)) W) (k0_pay1079 (View.ld H (Rect.unit ![512, 0] ![512, 128]
    inb_S2048x128_S512x128_512_0))) (k0_pay1089 (k0_pay1078 (View.ld X (Rect.unit ![512, 0] ![512, 5120] inb_S2048x5120_S512x5120_512_0)) W) (k0_pay1079
    (View.ld H (Rect.unit ![512, 0] ![512, 128] inb_S2048x128_S512x128_512_0))) (View.ld S0 (Rect.unit ![512, 0] ![512, 128]
    inb_S2048x128_S512x128_512_0)) (k0_pay1081 (View.ld X (Rect.unit ![512, 0] ![512, 5120] inb_S2048x5120_S512x5120_512_0)) W) (View.ld U (Rect.unit ![0,
    0] ![1, 128] inb_S1x512_S1x128_0_0)) (View.ld U (Rect.unit ![0, 128] ![1, 128] inb_S1x512_S1x128_0_128))) (View.ld U (Rect.unit ![0, 256] ![1, 128]
    inb_S1x512_S1x128_0_256))) (k0_pay1100 (k0_pay1078 (View.ld X (Rect.unit ![512, 0] ![512, 5120] inb_S2048x5120_S512x5120_512_0)) W) (k0_pay1079
    (View.ld H (Rect.unit ![512, 0] ![512, 128] inb_S2048x128_S512x128_512_0))) (View.ld U (Rect.unit ![0, 384] ![1, 128] inb_S1x512_S1x128_0_384)))⟩,
    ⟨Rect.unit ![0, 0] ![512, 128] inb_S2048x128_S512x128_0_0, k0_pay1075 (k0_pay1073 (k0_pay1052 (View.ld X (Rect.unit ![0, 0] ![512, 5120]
    inb_S2048x5120_S512x5120_0_0)) W) (k0_pay1053 (View.ld H (Rect.unit ![0, 0] ![512, 128] inb_S2048x128_S512x128_0_0))) (k0_pay1063 (k0_pay1052 (View.ld
    X (Rect.unit ![0, 0] ![512, 5120] inb_S2048x5120_S512x5120_0_0)) W) (k0_pay1053 (View.ld H (Rect.unit ![0, 0] ![512, 128]
    inb_S2048x128_S512x128_0_0))) (View.ld S0 (Rect.unit ![0, 0] ![512, 128] inb_S2048x128_S512x128_0_0)) (k0_pay1055 (View.ld X (Rect.unit ![0, 0] ![512,
    5120] inb_S2048x5120_S512x5120_0_0)) W (View.ld H (Rect.unit ![0, 0] ![512, 128] inb_S2048x128_S512x128_0_0))) (View.ld U (Rect.unit ![0, 0] ![1, 128]
    inb_S1x512_S1x128_0_0)) (View.ld U (Rect.unit ![0, 128] ![1, 128] inb_S1x512_S1x128_0_128))) (View.ld U (Rect.unit ![0, 256] ![1, 128]
    inb_S1x512_S1x128_0_256)) (View.ld U (Rect.unit ![0, 384] ![1, 128] inb_S1x512_S1x128_0_384)))⟩]
      y = sNew X W H U S0 y := by
  canon_tiles x h
  all_goals
    open_payloads
    pointwise [sNew, tB]
    blk_point []
    try exact h1.symm

/-- The tanh values at the label stored at one point. -/
theorem l_block (y : S2048x128.Idx) :
    View.canon [⟨Rect.unit ![1536, 0] ![512, 128] inb_S2048x128_S512x128_1536_0, k0_pay4 (k0_pay1133 (BitVec.ofNat 32 (i 0).val) (iota .tc S512x128 32 [1]
    iota_S512x128_d1_w32) (View.ld Y (Rect.unit ![1536, 0] ![512, 128] inb_S2048x128_S512x128_1536_0))) (k0_pay1149 (k0_pay1131 (View.ld X (Rect.unit
    ![1536, 0] ![512, 5120] inb_S2048x5120_S512x5120_1536_0)) W) (k0_pay1132 (View.ld H (Rect.unit ![1536, 0] ![512, 128] inb_S2048x128_S512x128_1536_0)))
    (k0_pay1133 (BitVec.ofNat 32 (i 0).val) (iota .tc S512x128 32 [1] iota_S512x128_d1_w32) (View.ld Y (Rect.unit ![1536, 0] ![512, 128]
    inb_S2048x128_S512x128_1536_0))) (k0_pay1138 (k0_pay1131 (View.ld X (Rect.unit ![1536, 0] ![512, 5120] inb_S2048x5120_S512x5120_1536_0)) W)
    (k0_pay1132 (View.ld H (Rect.unit ![1536, 0] ![512, 128] inb_S2048x128_S512x128_1536_0))) (k0_pay1133 (BitVec.ofNat 32 (i 0).val) (iota .tc S512x128
    32 [1] iota_S512x128_d1_w32) (View.ld Y (Rect.unit ![1536, 0] ![512, 128] inb_S2048x128_S512x128_1536_0))) (View.ld S0 (Rect.unit ![1536, 0] ![512,
    128] inb_S2048x128_S512x128_1536_0)) (View.ld U (Rect.unit ![0, 0] ![1, 128] inb_S1x512_S1x128_0_0))) (k0_pay1139 (k0_pay1131 (View.ld X (Rect.unit
    ![1536, 0] ![512, 5120] inb_S2048x5120_S512x5120_1536_0)) W) (k0_pay1132 (View.ld H (Rect.unit ![1536, 0] ![512, 128] inb_S2048x128_S512x128_1536_0)))
    (View.ld U (Rect.unit ![0, 128] ![1, 128] inb_S1x512_S1x128_0_128))) k0_pay1142 (View.ld U (Rect.unit ![0, 256] ![1, 128] inb_S1x512_S1x128_0_256)))
    (k0_pay1150 (k0_pay1131 (View.ld X (Rect.unit ![1536, 0] ![512, 5120] inb_S2048x5120_S512x5120_1536_0)) W) (k0_pay1132 (View.ld H (Rect.unit ![1536,
    0] ![512, 128] inb_S2048x128_S512x128_1536_0))) (View.ld U (Rect.unit ![0, 384] ![1, 128] inb_S1x512_S1x128_0_384)))⟩, ⟨Rect.unit ![1024, 0] ![512,
    128] inb_S2048x128_S512x128_1024_0, k0_pay1129 (k0_pay1108 (BitVec.ofNat 32 (i 0).val) (iota .tc S512x128 32 [1] iota_S512x128_d1_w32) (View.ld Y
    (Rect.unit ![1024, 0] ![512, 128] inb_S2048x128_S512x128_1024_0))) (k0_pay1124 (k0_pay1106 (View.ld X (Rect.unit ![1024, 0] ![512, 5120]
    inb_S2048x5120_S512x5120_1024_0)) W) (k0_pay1107 (View.ld H (Rect.unit ![1024, 0] ![512, 128] inb_S2048x128_S512x128_1024_0))) (k0_pay1108
    (BitVec.ofNat 32 (i 0).val) (iota .tc S512x128 32 [1] iota_S512x128_d1_w32) (View.ld Y (Rect.unit ![1024, 0] ![512, 128]
    inb_S2048x128_S512x128_1024_0))) (k0_pay1113 (k0_pay1106 (View.ld X (Rect.unit ![1024, 0] ![512, 5120] inb_S2048x5120_S512x5120_1024_0)) W)
    (k0_pay1107 (View.ld H (Rect.unit ![1024, 0] ![512, 128] inb_S2048x128_S512x128_1024_0))) (k0_pay1108 (BitVec.ofNat 32 (i 0).val) (iota .tc S512x128
    32 [1] iota_S512x128_d1_w32) (View.ld Y (Rect.unit ![1024, 0] ![512, 128] inb_S2048x128_S512x128_1024_0))) (View.ld S0 (Rect.unit ![1024, 0] ![512,
    128] inb_S2048x128_S512x128_1024_0)) (View.ld U (Rect.unit ![0, 0] ![1, 128] inb_S1x512_S1x128_0_0))) (k0_pay1114 (k0_pay1106 (View.ld X (Rect.unit
    ![1024, 0] ![512, 5120] inb_S2048x5120_S512x5120_1024_0)) W) (k0_pay1107 (View.ld H (Rect.unit ![1024, 0] ![512, 128] inb_S2048x128_S512x128_1024_0)))
    (View.ld U (Rect.unit ![0, 128] ![1, 128] inb_S1x512_S1x128_0_128))) (k0_pay1117 (k0_pay1108 (BitVec.ofNat 32 (i 0).val) (iota .tc S512x128 32 [1]
    iota_S512x128_d1_w32) (View.ld Y (Rect.unit ![1024, 0] ![512, 128] inb_S2048x128_S512x128_1024_0)))) (View.ld U (Rect.unit ![0, 256] ![1, 128]
    inb_S1x512_S1x128_0_256))) (k0_pay1125 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 384] ![1, 128] inb_S1x512_S1x128_0_384)))⟩,
    ⟨Rect.unit ![512, 0] ![512, 128] inb_S2048x128_S512x128_512_0, k0_pay1104 (k0_pay1080 (BitVec.ofNat 32 (i 0).val) (iota .tc S512x128 32 [1]
    iota_S512x128_d1_w32) (View.ld Y (Rect.unit ![512, 0] ![512, 128] inb_S2048x128_S512x128_512_0))) (k0_pay1098 (k0_pay1078 (View.ld X (Rect.unit ![512,
    0] ![512, 5120] inb_S2048x5120_S512x5120_512_0)) W) (k0_pay1079 (View.ld H (Rect.unit ![512, 0] ![512, 128] inb_S2048x128_S512x128_512_0)))
    (k0_pay1080 (BitVec.ofNat 32 (i 0).val) (iota .tc S512x128 32 [1] iota_S512x128_d1_w32) (View.ld Y (Rect.unit ![512, 0] ![512, 128]
    inb_S2048x128_S512x128_512_0))) (k0_pay1086 (k0_pay1079 (View.ld H (Rect.unit ![512, 0] ![512, 128] inb_S2048x128_S512x128_512_0))) (k0_pay1080
    (BitVec.ofNat 32 (i 0).val) (iota .tc S512x128 32 [1] iota_S512x128_d1_w32) (View.ld Y (Rect.unit ![512, 0] ![512, 128]
    inb_S2048x128_S512x128_512_0))) (View.ld S0 (Rect.unit ![512, 0] ![512, 128] inb_S2048x128_S512x128_512_0)) (k0_pay1081 (View.ld X (Rect.unit ![512,
    0] ![512, 5120] inb_S2048x5120_S512x5120_512_0)) W) (View.ld U (Rect.unit ![0, 0] ![1, 128] inb_S1x512_S1x128_0_0))) (k0_pay1087 (k0_pay1078 (View.ld
    X (Rect.unit ![512, 0] ![512, 5120] inb_S2048x5120_S512x5120_512_0)) W) (k0_pay1079 (View.ld H (Rect.unit ![512, 0] ![512, 128]
    inb_S2048x128_S512x128_512_0))) (View.ld U (Rect.unit ![0, 128] ![1, 128] inb_S1x512_S1x128_0_128))) (k0_pay1090 (k0_pay1080 (BitVec.ofNat 32 (i
    0).val) (iota .tc S512x128 32 [1] iota_S512x128_d1_w32) (View.ld Y (Rect.unit ![512, 0] ![512, 128] inb_S2048x128_S512x128_512_0)))) (View.ld U
    (Rect.unit ![0, 256] ![1, 128] inb_S1x512_S1x128_0_256))) (k0_pay1099 (k0_pay1078 (View.ld X (Rect.unit ![512, 0] ![512, 5120]
    inb_S2048x5120_S512x5120_512_0)) W) (k0_pay1079 (View.ld H (Rect.unit ![512, 0] ![512, 128] inb_S2048x128_S512x128_512_0))) (View.ld U (Rect.unit ![0,
    384] ![1, 128] inb_S1x512_S1x128_0_384)))⟩, ⟨Rect.unit ![0, 0] ![512, 128] inb_S2048x128_S512x128_0_0, k0_pay1076 (k0_pay1054 i (View.ld Y (Rect.unit
    ![0, 0] ![512, 128] inb_S2048x128_S512x128_0_0))) (k0_pay1070 (k0_pay1052 (View.ld X (Rect.unit ![0, 0] ![512, 5120] inb_S2048x5120_S512x5120_0_0)) W)
    (k0_pay1053 (View.ld H (Rect.unit ![0, 0] ![512, 128] inb_S2048x128_S512x128_0_0))) (k0_pay1054 i (View.ld Y (Rect.unit ![0, 0] ![512, 128]
    inb_S2048x128_S512x128_0_0))) (k0_pay1060 (k0_pay1054 i (View.ld Y (Rect.unit ![0, 0] ![512, 128] inb_S2048x128_S512x128_0_0))) (View.ld S0 (Rect.unit
    ![0, 0] ![512, 128] inb_S2048x128_S512x128_0_0)) (k0_pay1055 (View.ld X (Rect.unit ![0, 0] ![512, 5120] inb_S2048x5120_S512x5120_0_0)) W (View.ld H
    (Rect.unit ![0, 0] ![512, 128] inb_S2048x128_S512x128_0_0))) (View.ld U (Rect.unit ![0, 0] ![1, 128] inb_S1x512_S1x128_0_0))) (k0_pay1061 (k0_pay1052
    (View.ld X (Rect.unit ![0, 0] ![512, 5120] inb_S2048x5120_S512x5120_0_0)) W) (k0_pay1053 (View.ld H (Rect.unit ![0, 0] ![512, 128]
    inb_S2048x128_S512x128_0_0))) (View.ld U (Rect.unit ![0, 128] ![1, 128] inb_S1x512_S1x128_0_128))) (k0_pay1064 (k0_pay1054 i (View.ld Y (Rect.unit
    ![0, 0] ![512, 128] inb_S2048x128_S512x128_0_0)))) (View.ld U (Rect.unit ![0, 256] ![1, 128] inb_S1x512_S1x128_0_256))) (k0_pay1071 (k0_pay1052
    (View.ld X (Rect.unit ![0, 0] ![512, 5120] inb_S2048x5120_S512x5120_0_0)) W) (k0_pay1053 (View.ld H (Rect.unit ![0, 0] ![512, 128]
    inb_S2048x128_S512x128_0_0))) (View.ld U (Rect.unit ![0, 384] ![1, 128] inb_S1x512_S1x128_0_384)))⟩]
      y = lNew i X W H U Y S0 y := by
  canon_tiles x h
  all_goals
    open_payloads
    pointwise [lNew, bB, tB]
    blk_point []
    try exact h1.symm

/-- A group's maxima stored at one point, rows from 0. -/
theorem g_block1 (V : Vec Ideal S1x512x128 .f32) (x : S1x512x128.Idx) (r : Fin 2048) (hr : r.val = 0 + (x 1).val) :
    k0_pay1077 (k0_pay1054 i (View.ld Y (Rect.unit ![0, 0] ![512, 128] inb_S2048x128_S512x128_0_0))) (k0_pay1069 (k0_pay1052 (View.ld X (Rect.unit ![0, 0]
    ![512, 5120] inb_S2048x5120_S512x5120_0_0)) W) (k0_pay1053 (View.ld H (Rect.unit ![0, 0] ![512, 128] inb_S2048x128_S512x128_0_0))) (k0_pay1054 i
    (View.ld Y (Rect.unit ![0, 0] ![512, 128] inb_S2048x128_S512x128_0_0))) (k0_pay1059 (k0_pay1048 V) (k0_pay1054 i (View.ld Y (Rect.unit ![0, 0] ![512,
    128] inb_S2048x128_S512x128_0_0))) (k0_pay1055 (View.ld X (Rect.unit ![0, 0] ![512, 5120] inb_S2048x5120_S512x5120_0_0)) W (View.ld H (Rect.unit ![0,
    0] ![512, 128] inb_S2048x128_S512x128_0_0))) (View.ld U (Rect.unit ![0, 0] ![1, 128] inb_S1x512_S1x128_0_0))) (k0_pay1064 (k0_pay1054 i (View.ld Y
    (Rect.unit ![0, 0] ![512, 128] inb_S2048x128_S512x128_0_0)))) (k0_pay1065 (k0_pay1052 (View.ld X (Rect.unit ![0, 0] ![512, 5120]
    inb_S2048x5120_S512x5120_0_0)) W) (k0_pay1053 (View.ld H (Rect.unit ![0, 0] ![512, 128] inb_S2048x128_S512x128_0_0))) (View.ld U (Rect.unit ![0, 128]
    ![1, 128] inb_S1x512_S1x128_0_128))) (View.ld U (Rect.unit ![0, 256] ![1, 128] inb_S1x512_S1x128_0_256))) (k0_pay1071 (k0_pay1052 (View.ld X
    (Rect.unit ![0, 0] ![512, 5120] inb_S2048x5120_S512x5120_0_0)) W) (k0_pay1053 (View.ld H (Rect.unit ![0, 0] ![512, 128] inb_S2048x128_S512x128_0_0)))
    (View.ld U (Rect.unit ![0, 384] ![1, 128] inb_S1x512_S1x128_0_384))) (k0_pay1072 (k0_pay1052 (View.ld X (Rect.unit ![0, 0] ![512, 5120]
    inb_S2048x5120_S512x5120_0_0)) W) (k0_pay1053 (View.ld H (Rect.unit ![0, 0] ![512, 128] inb_S2048x128_S512x128_0_0))) (View.ld U (Rect.unit ![0, 384]
    ![1, 128] inb_S1x512_S1x128_0_384)))
      x = gNew i X W H U Y (V (ix3 0 (x 1) (x 2))) r (x 2) := by
  have e : r = ⟨0 + (x 1).val, hr ▸ r.isLt⟩ := Fin.ext hr
  rw [e]
  open_payloads
  pointwise [gNew, wB, bB, tB]
  blk_point []

/-- A group's maxima stored at one point, rows from 512. -/
theorem g_block2 (V : Vec Ideal S1x512x128 .f32) (x : S1x512x128.Idx) (r : Fin 2048) (hr : r.val = 512 + (x 1).val) :
    k0_pay1105 (k0_pay1080 (BitVec.ofNat 32 (i 0).val) (iota .tc S512x128 32 [1] iota_S512x128_d1_w32) (View.ld Y (Rect.unit ![512, 0] ![512, 128]
    inb_S2048x128_S512x128_512_0))) (k0_pay1097 (k0_pay1078 (View.ld X (Rect.unit ![512, 0] ![512, 5120] inb_S2048x5120_S512x5120_512_0)) W) (k0_pay1079
    (View.ld H (Rect.unit ![512, 0] ![512, 128] inb_S2048x128_S512x128_512_0))) (k0_pay1080 (BitVec.ofNat 32 (i 0).val) (iota .tc S512x128 32 [1]
    iota_S512x128_d1_w32) (View.ld Y (Rect.unit ![512, 0] ![512, 128] inb_S2048x128_S512x128_512_0))) (k0_pay1085 (k0_pay1049 V) (k0_pay1079 (View.ld H
    (Rect.unit ![512, 0] ![512, 128] inb_S2048x128_S512x128_512_0))) (k0_pay1080 (BitVec.ofNat 32 (i 0).val) (iota .tc S512x128 32 [1]
    iota_S512x128_d1_w32) (View.ld Y (Rect.unit ![512, 0] ![512, 128] inb_S2048x128_S512x128_512_0))) (k0_pay1081 (View.ld X (Rect.unit ![512, 0] ![512,
    5120] inb_S2048x5120_S512x5120_512_0)) W) (View.ld U (Rect.unit ![0, 0] ![1, 128] inb_S1x512_S1x128_0_0))) (k0_pay1088 (k0_pay1078 (View.ld X
    (Rect.unit ![512, 0] ![512, 5120] inb_S2048x5120_S512x5120_512_0)) W) (k0_pay1079 (View.ld H (Rect.unit ![512, 0] ![512, 128]
    inb_S2048x128_S512x128_512_0))) (View.ld U (Rect.unit ![0, 128] ![1, 128] inb_S1x512_S1x128_0_128))) (k0_pay1090 (k0_pay1080 (BitVec.ofNat 32 (i
    0).val) (iota .tc S512x128 32 [1] iota_S512x128_d1_w32) (View.ld Y (Rect.unit ![512, 0] ![512, 128] inb_S2048x128_S512x128_512_0)))) (k0_pay1091
    (k0_pay1078 (View.ld X (Rect.unit ![512, 0] ![512, 5120] inb_S2048x5120_S512x5120_512_0)) W) (k0_pay1079 (View.ld H (Rect.unit ![512, 0] ![512, 128]
    inb_S2048x128_S512x128_512_0))) (View.ld U (Rect.unit ![0, 128] ![1, 128] inb_S1x512_S1x128_0_128))) k0_pay1092 (View.ld U (Rect.unit ![0, 256] ![1,
    128] inb_S1x512_S1x128_0_256))) (k0_pay1099 (k0_pay1078 (View.ld X (Rect.unit ![512, 0] ![512, 5120] inb_S2048x5120_S512x5120_512_0)) W) (k0_pay1079
    (View.ld H (Rect.unit ![512, 0] ![512, 128] inb_S2048x128_S512x128_512_0))) (View.ld U (Rect.unit ![0, 384] ![1, 128] inb_S1x512_S1x128_0_384)))
    (k0_pay1100 (k0_pay1078 (View.ld X (Rect.unit ![512, 0] ![512, 5120] inb_S2048x5120_S512x5120_512_0)) W) (k0_pay1079 (View.ld H (Rect.unit ![512, 0]
    ![512, 128] inb_S2048x128_S512x128_512_0))) (View.ld U (Rect.unit ![0, 384] ![1, 128] inb_S1x512_S1x128_0_384)))
      x = gNew i X W H U Y (V (ix3 0 (x 1) (x 2))) r (x 2) := by
  have e : r = ⟨512 + (x 1).val, hr ▸ r.isLt⟩ := Fin.ext hr
  rw [e]
  open_payloads
  pointwise [gNew, wB, bB, tB]
  blk_point []

/-- A group's maxima stored at one point, rows from 1024. -/
theorem g_block3 (V : Vec Ideal S1x512x128 .f32) (x : S1x512x128.Idx) (r : Fin 2048) (hr : r.val = 1024 + (x 1).val) :
    k0_pay1130 (k0_pay1108 (BitVec.ofNat 32 (i 0).val) (iota .tc S512x128 32 [1] iota_S512x128_d1_w32) (View.ld Y (Rect.unit ![1024, 0] ![512, 128]
    inb_S2048x128_S512x128_1024_0))) (k0_pay1123 (k0_pay1106 (View.ld X (Rect.unit ![1024, 0] ![512, 5120] inb_S2048x5120_S512x5120_1024_0)) W)
    (k0_pay1107 (View.ld H (Rect.unit ![1024, 0] ![512, 128] inb_S2048x128_S512x128_1024_0))) (k0_pay1108 (BitVec.ofNat 32 (i 0).val) (iota .tc S512x128
    32 [1] iota_S512x128_d1_w32) (View.ld Y (Rect.unit ![1024, 0] ![512, 128] inb_S2048x128_S512x128_1024_0))) (k0_pay1112 (k0_pay1050 V) (k0_pay1106
    (View.ld X (Rect.unit ![1024, 0] ![512, 5120] inb_S2048x5120_S512x5120_1024_0)) W) (k0_pay1107 (View.ld H (Rect.unit ![1024, 0] ![512, 128]
    inb_S2048x128_S512x128_1024_0))) (k0_pay1108 (BitVec.ofNat 32 (i 0).val) (iota .tc S512x128 32 [1] iota_S512x128_d1_w32) (View.ld Y (Rect.unit ![1024,
    0] ![512, 128] inb_S2048x128_S512x128_1024_0))) (View.ld U (Rect.unit ![0, 0] ![1, 128] inb_S1x512_S1x128_0_0))) (k0_pay1115 (k0_pay1106 (View.ld X
    (Rect.unit ![1024, 0] ![512, 5120] inb_S2048x5120_S512x5120_1024_0)) W) (k0_pay1107 (View.ld H (Rect.unit ![1024, 0] ![512, 128]
    inb_S2048x128_S512x128_1024_0))) (View.ld U (Rect.unit ![0, 128] ![1, 128] inb_S1x512_S1x128_0_128))) (k0_pay1117 (k0_pay1108 (BitVec.ofNat 32 (i
    0).val) (iota .tc S512x128 32 [1] iota_S512x128_d1_w32) (View.ld Y (Rect.unit ![1024, 0] ![512, 128] inb_S2048x128_S512x128_1024_0)))) (k0_pay1118
    (k0_pay1106 (View.ld X (Rect.unit ![1024, 0] ![512, 5120] inb_S2048x5120_S512x5120_1024_0)) W) (k0_pay1107 (View.ld H (Rect.unit ![1024, 0] ![512,
    128] inb_S2048x128_S512x128_1024_0))) (View.ld U (Rect.unit ![0, 128] ![1, 128] inb_S1x512_S1x128_0_128))) (View.ld U (Rect.unit ![0, 256] ![1, 128]
    inb_S1x512_S1x128_0_256))) (k0_pay1125 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 384] ![1, 128] inb_S1x512_S1x128_0_384)))
    (FloatOps.ofBits FTy.f32 1106247680#32)
      x = gNew i X W H U Y (V (ix3 0 (x 1) (x 2))) r (x 2) := by
  have e : r = ⟨1024 + (x 1).val, hr ▸ r.isLt⟩ := Fin.ext hr
  rw [e]
  open_payloads
  pointwise [gNew, wB, bB, tB]
  blk_point []

/-- A group's maxima stored at one point, rows from 1536. -/
theorem g_block4 (V : Vec Ideal S1x512x128 .f32) (x : S1x512x128.Idx) (r : Fin 2048) (hr : r.val = 1536 + (x 1).val) :
    k0_pay5 (k0_pay1133 (BitVec.ofNat 32 (i 0).val) (iota .tc S512x128 32 [1] iota_S512x128_d1_w32) (View.ld Y (Rect.unit ![1536, 0] ![512, 128]
    inb_S2048x128_S512x128_1536_0))) (k0_pay1148 (k0_pay1131 (View.ld X (Rect.unit ![1536, 0] ![512, 5120] inb_S2048x5120_S512x5120_1536_0)) W)
    (k0_pay1132 (View.ld H (Rect.unit ![1536, 0] ![512, 128] inb_S2048x128_S512x128_1536_0))) (k0_pay1133 (BitVec.ofNat 32 (i 0).val) (iota .tc S512x128
    32 [1] iota_S512x128_d1_w32) (View.ld Y (Rect.unit ![1536, 0] ![512, 128] inb_S2048x128_S512x128_1536_0))) (k0_pay1137 (k0_pay1051 V) (k0_pay1131
    (View.ld X (Rect.unit ![1536, 0] ![512, 5120] inb_S2048x5120_S512x5120_1536_0)) W) (k0_pay1132 (View.ld H (Rect.unit ![1536, 0] ![512, 128]
    inb_S2048x128_S512x128_1536_0))) (k0_pay1133 (BitVec.ofNat 32 (i 0).val) (iota .tc S512x128 32 [1] iota_S512x128_d1_w32) (View.ld Y (Rect.unit ![1536,
    0] ![512, 128] inb_S2048x128_S512x128_1536_0))) (View.ld U (Rect.unit ![0, 0] ![1, 128] inb_S1x512_S1x128_0_0))) (k0_pay1139 (k0_pay1131 (View.ld X
    (Rect.unit ![1536, 0] ![512, 5120] inb_S2048x5120_S512x5120_1536_0)) W) (k0_pay1132 (View.ld H (Rect.unit ![1536, 0] ![512, 128]
    inb_S2048x128_S512x128_1536_0))) (View.ld U (Rect.unit ![0, 128] ![1, 128] inb_S1x512_S1x128_0_128))) (k0_pay1140 (k0_pay1131 (View.ld X (Rect.unit
    ![1536, 0] ![512, 5120] inb_S2048x5120_S512x5120_1536_0)) W) (k0_pay1132 (View.ld H (Rect.unit ![1536, 0] ![512, 128] inb_S2048x128_S512x128_1536_0)))
    (View.ld U (Rect.unit ![0, 128] ![1, 128] inb_S1x512_S1x128_0_128))) k0_pay1142 (View.ld U (Rect.unit ![0, 256] ![1, 128] inb_S1x512_S1x128_0_256)))
    (k0_pay1150 (k0_pay1131 (View.ld X (Rect.unit ![1536, 0] ![512, 5120] inb_S2048x5120_S512x5120_1536_0)) W) (k0_pay1132 (View.ld H (Rect.unit ![1536,
    0] ![512, 128] inb_S2048x128_S512x128_1536_0))) (View.ld U (Rect.unit ![0, 384] ![1, 128] inb_S1x512_S1x128_0_384)))
      x = gNew i X W H U Y (V (ix3 0 (x 1) (x 2))) r (x 2) := by
  have e : r = ⟨1536 + (x 1).val, hr ▸ r.isLt⟩ := Fin.ext hr
  rw [e]
  open_payloads
  pointwise [gNew, wB, bB, tB]
  blk_point []

end Cert.FwdIdeal.Hand

end
-- ==== Proof.FwdRef.lean ====
module

public import proofs.«01_k».proof.Proof.RefFwdValue
public import proofs.«01_k».proof.Proof.FwdRow
public import Idealize.ShloMosaic.Lib.Pipeline.ValueKit

@[expose] public section

set_option maxRecDepth 16384

noncomputable section

namespace Cert.RefFwdIdeal.Hand

open Cert.RefFwdIdeal Cert.RefFwdIdeal.Gen Idealize.ShloMosaic Idealize.ShloMosaic.TcCoe Idealize.SL.Sem
open Cert.FwdMath

/-! # The reference's results, row by row -/

section
variable {F : FTy → Type} [FloatOps F] (a0 : Vec F S2048x5120 .fp8e4m3) (a1 : Vec F S16384x5120 .fp8e4m3) (a2 : Vec F S2048x1 .f32)
  (a3 : Vec F S16384 .f32) (a4 : Vec F S2048x1 .i32)

/-- The log-sum-exp is the maximum plus the logarithm of the sum. -/
theorem pay8_eq : k0_pay8 a0 a1 a2 a3 = addf (k0_pay5 a0 a1 a2 a3) (log (k0_pay7 a0 a1 a2 a3)) := rfl

/-- The loss is the log-sum-exp less the label's logit, found as a sum over the row. -/
def lossOf (V8 : FVec F S2048x1 .f32) (V10 : IVec S2048x16384 1) (V4 : FVec F S2048x16384 .f32) : FVec F S16x128 .f32 :=
  shapeCast S16x128 (subf V8 (shapeCast S2048x1 (multiReduction .add [1] S2048 (select V10 V4
    (broadcast S2048x16384 (Scalar.ofBits .f32 0x00000000#32))) 0x00000000#32 reduces_S2048x16384_S2048 (.inl rfl) rfl)
    shapeCasts_S2048_S2048x1)) shapeCasts_S2048x1_S16x128

theorem pay11_eq : k0_pay11 a0 a1 a2 a3 a4 = lossOf (k0_pay8 a0 a1 a2 a3) (k0_pay10 a4) (k0_pay4 a0 a1 a2 a3) := rfl

/-- The largest gradient of each row in each group of columns. -/
def maxOf (x : FVec F S2048x16384 .f32) (x1 : FVec F S2048x16384 .f32) (x2 : FVec F S2048x1 .f32) (x3 : IVec S2048x16384 1) :
    FVec F S2048x8 .f32 :=
  multiReduction .maximumf [2] S2048x8 (absf (shapeCast S2048x8x2048 (mulf
    (select x3 (subf (divf x1 (broadcastTo S2048x16384 x2 broadcasts_S2048x1_S2048x16384))
        (broadcast S2048x16384 (Scalar.ofBits .f32 0x3F800000#32)))
      (divf x1 (broadcastTo S2048x16384 x2 broadcasts_S2048x1_S2048x16384)))
    (subf (broadcast S2048x16384 (Scalar.ofBits .f32 0x3F800000#32)) (mulf x x))) shapeCasts_S2048x16384_S2048x8x2048))
    0xFF800000#32 reduces_S2048x8x2048_S2048x8 (.inl rfl) rfl

/-- The scale of each. -/
def scaleOf (A : FVec F S2048x8 .f32) : FVec F S2048x8 .f32 :=
  have v52 : FVec F S2048x8 .f32 := mulf A (broadcast S2048x8 (Scalar.ofBits .f32 0x37924925#32))
  select (cmpf .olt v52 (broadcast S2048x8 (Scalar.ofBits .f32 0x00800000#32))) (broadcast S2048x8 (Scalar.ofBits .f32 0x3F800000#32))
    (exp2 (addf (floor (divf (log v52) (log (broadcast S2048x8 (Scalar.ofBits .f32 0x40000000#32)))))
      (broadcast S2048x8 (Scalar.ofBits .f32 0x3F800000#32))))

theorem pay1_eq (x : FVec F S2048x16384 .f32) (x1 : FVec F S2048x16384 .f32) (x2 : FVec F S2048x1 .f32) (x3 : IVec S2048x16384 1) :
    k0_pay1 x x1 x2 x3 = scaleOf (maxOf x x1 x2 x3) := rfl

end

theorem add_log_apply (A B : FVec Ideal S2048x1 .f32) (y : S2048x1.Idx) : addf A (log B) y = A y + Ideal.log (B y) := by
  pointwise []

theorem lossOf_apply (V8 : FVec Ideal S2048x1 .f32) (V10 : IVec S2048x16384 1) (V4 : FVec Ideal S2048x16384 .f32) (y : S16x128.Idx)
    (r : Fin 2048) (hr : r.val = (y 0).val * 128 + (y 1).val) :
    lossOf V8 V10 V4 y = V8 (ix2 r 0) - ∑ k : Fin 16384, Scalar.select (V10 (ix2 r k)) (V4 (ix2 r k)) (0 : EReal) := by
  have e : r = ⟨(y 0).val * 128 + (y 1).val, hr ▸ r.isLt⟩ := Fin.ext hr
  rw [e]
  pointwise [lossOf]

theorem maxOf_apply (x : FVec Ideal S2048x16384 .f32) (x1 : FVec Ideal S2048x16384 .f32) (x2 : FVec Ideal S2048x1 .f32)
    (x3 : IVec S2048x16384 1) (r : Fin 2048) (g : Fin 8) (f : Fin 2048 → Fin 16384) (hf : ∀ k, (f k).val = g.val * 2048 + k.val) :
    maxOf x x1 x2 x3 (ix2 r g) = Finset.fold max NInf (fun k : Fin 2048 => FloatOps.absf (F := Ideal) (φ := .f32)
      (Scalar.select (x3 (ix2 r (f k))) (Ideal.div (x1 (ix2 r (f k))) (x2 (ix2 r 0)) - 1)
        (Ideal.div (x1 (ix2 r (f k))) (x2 (ix2 r 0))) * (1 - x (ix2 r (f k)) * x (ix2 r (f k))))) Finset.univ := by
  have e : f = fun k => ⟨g.val * 2048 + k.val, (hf k) ▸ (f k).isLt⟩ := funext fun k => Fin.ext (hf k)
  rw [e]
  pointwise [maxOf]

theorem scaleOf_apply (A : FVec Ideal S2048x8 .f32) (y : S2048x8.Idx) : scaleOf A y = scaleR (A y * CInv) := by
  unfold scaleOf scaleR
  pointwise []
  rfl

variable (a0 : Vec Ideal S2048x5120 .fp8e4m3) (a1 : Vec Ideal S16384x5120 .fp8e4m3) (a2 : Vec Ideal S2048x1 .f32)
  (a3 : Vec Ideal S16384 .f32) (a4 : Vec Ideal S2048x1 .i32)

/-- One row's tanh values, the columns counted round. -/
def row (r : Fin 2048) (n : ℕ) : EReal := G5 a0 a1 a2 a3 a4 (ix2 r ⟨n % 16384, Nat.mod_lt _ (by norm_num)⟩)

/-- One row's label. -/
def lab (r : Fin 2048) : ℕ := (a4 (ix2 r 0)).toNat

theorem g5_apply (y : S2048x16384.Idx) : G5 a0 a1 a2 a3 a4 y = Ideal.tanh
      ((∑ k : Fin 5120, a0 (ix2 (y 0) k) * a1 (ix2 (y 1) k)) * a2 (ix2 (y 0) 0) * a3 (ix1 (y 1)) *
        Ideal.ofBits FTy.f32 1023969417#32) := by
  pointwise [G5, k0_pay3]

theorem row_real (r : Fin 2048) : ∃ τ : ℕ → ℝ, (∀ n, row a0 a1 a2 a3 a4 r n = (τ n : EReal)) ∧ ∀ n, |τ n| ≤ 1 := by
  have h : ∀ n, ∃ t : ℝ, row a0 a1 a2 a3 a4 r n = (t : EReal) ∧ |t| ≤ 1 := fun n => by
    unfold row
    rw [g5_apply]
    exact tanh_real _
  choose τ h1 h2 using h
  exact ⟨τ, h1, h2⟩

theorem pay3_row (r : Fin 2048) (k : Fin 16384) : k0_pay3 a0 a1 a2 a3 (ix2 r k) = row a0 a1 a2 a3 a4 r k.val := by
  have e : (⟨k.val % 16384, Nat.mod_lt _ (by norm_num)⟩ : Fin 16384) = k := Fin.ext (Nat.mod_eq_of_lt k.isLt)
  unfold row
  rw [e]

theorem pay4_row (r : Fin 2048) (k : Fin 16384) : k0_pay4 a0 a1 a2 a3 (ix2 r k) = C30 * row a0 a1 a2 a3 a4 r k.val := by
  rw [← pay3_row]
  pointwise [k0_pay4]

theorem pay5_row (r : Fin 2048) : k0_pay5 a0 a1 a2 a3 (ix2 r 0)
    = Finset.fold max NInf (fun k : Fin 16384 => C30 * row a0 a1 a2 a3 a4 r k.val) Finset.univ := by
  have : k0_pay5 a0 a1 a2 a3 (ix2 r 0) = Finset.fold max NInf (fun k : Fin 16384 => k0_pay4 a0 a1 a2 a3 (ix2 r k)) Finset.univ := by
    pointwise [k0_pay5]
  rw [this]
  refine congrArg (fun f => Finset.fold max NInf f Finset.univ) (funext fun k => ?_)
  exact pay4_row a0 a1 a2 a3 a4 r k

theorem pay6_row (r : Fin 2048) (k : Fin 16384) : k0_pay6 a0 a1 a2 a3 (ix2 r k)
    = Ideal.exp (C30 * row a0 a1 a2 a3 a4 r k.val - k0_pay5 a0 a1 a2 a3 (ix2 r 0)) := by
  rw [← pay4_row]
  pointwise [k0_pay6]

theorem pay7_row (r : Fin 2048) : k0_pay7 a0 a1 a2 a3 (ix2 r 0)
    = ∑ k : Fin 16384, Ideal.exp (C30 * row a0 a1 a2 a3 a4 r k.val - k0_pay5 a0 a1 a2 a3 (ix2 r 0)) := by
  have : k0_pay7 a0 a1 a2 a3 (ix2 r 0) = ∑ k : Fin 16384, k0_pay6 a0 a1 a2 a3 (ix2 r k) := by
    pointwise [k0_pay7]
  rw [this]
  exact Finset.sum_congr rfl fun k _ => pay6_row a0 a1 a2 a3 a4 r k

/-- The log-sum-exp of a row. -/
theorem pay8_row (r : Fin 2048) : k0_pay8 a0 a1 a2 a3 (ix2 r 0) = Ideal.log (∑ l : Fin 128, eS (row a0 a1 a2 a3 a4 r) l.val 128) := by
  obtain ⟨τ, hT, -⟩ := row_real a0 a1 a2 a3 a4 r
  rw [pay8_eq, add_log_apply, pay7_row a0 a1 a2 a3 a4]
  exact lse_eq _ τ hT _ (pay5_row a0 a1 a2 a3 a4 r)

theorem ref6 (y : S2048x128.Idx) : G6 a0 a1 a2 a3 a4 y = Ideal.log (∑ l : Fin 128, eS (row a0 a1 a2 a3 a4 (y 0)) l.val 128) := by
  have : G6 a0 a1 a2 a3 a4 y = k0_pay8 a0 a1 a2 a3 (ix2 (y 0) 0) := by
    pointwise [G6, k0_pay9]
  rw [this]
  exact pay8_row a0 a1 a2 a3 a4 (y 0)

theorem pay10_row (r : Fin 2048) (k : Fin 16384) {α : Type} (x z : α) :
    Scalar.select (k0_pay10 a4 (ix2 r k)) x z = if k.val = lab a4 r then x else z := by
  have : k0_pay10 a4 (ix2 r k) = IntOp.cmpi .eq (BitVec.ofNat 32 k.val) (a4 (ix2 r 0)) := by
    pointwise [k0_pay10]
  rw [this]
  exact sel_label _ (by have := k.isLt; omega) _ x z

/-- The loss of a row. -/
theorem ref8 (y : S16x128.Idx) (r : Fin 2048) (hr : r.val = (y 0).val * 128 + (y 1).val) : G8 a0 a1 a2 a3 a4 y
    = Ideal.log (∑ l : Fin 128, eS (row a0 a1 a2 a3 a4 r) l.val 128)
      - C30 * ∑ l : Fin 128, eL (row a0 a1 a2 a3 a4 r) (lab a4 r) l.val 128 := by
  obtain ⟨τ, hT, -⟩ := row_real a0 a1 a2 a3 a4 r
  unfold G8
  rw [pay11_eq, lossOf_apply _ _ _ y r hr, pay8_row a0 a1 a2 a3 a4, ← zl_eq _ τ hT]
  have e : ∑ k : Fin 16384, Scalar.select (k0_pay10 a4 (ix2 r k)) (k0_pay4 a0 a1 a2 a3 (ix2 r k)) (0 : EReal)
      = ∑ k : Fin 16384, (if k.val = lab a4 r then C30 * row a0 a1 a2 a3 a4 r k.val else 0) :=
    Finset.sum_congr rfl fun k _ => by rw [pay10_row, pay4_row a0 a1 a2 a3 a4]
  rw [e]

theorem x12 : k0_pay12 a0 a1 a2 a3 a4 = k0_pay3 a0 a1 a2 a3 := by
  unfold k0_pay12
  simp only [View.ld_unit_zero (S := S2048x5120) hz0 _ a0, View.ld_unit_zero (S := S16384x5120) hz1 _ a1, View.ld_unit_zero (S := S2048x1) hz2 _ a2, View.ld_unit_zero (S := S16384) hz3 _ a3]

theorem x13 : k0_pay13 a0 a1 a2 a3 a4 = k0_pay6 a0 a1 a2 a3 := by
  unfold k0_pay13
  simp only [View.ld_unit_zero (S := S2048x5120) hz0 _ a0, View.ld_unit_zero (S := S16384x5120) hz1 _ a1, View.ld_unit_zero (S := S2048x1) hz2 _ a2, View.ld_unit_zero (S := S16384) hz3 _ a3]

theorem x14 : k0_pay14 a0 a1 a2 a3 a4 = k0_pay7 a0 a1 a2 a3 := by
  unfold k0_pay14
  simp only [View.ld_unit_zero (S := S2048x5120) hz0 _ a0, View.ld_unit_zero (S := S16384x5120) hz1 _ a1, View.ld_unit_zero (S := S2048x1) hz2 _ a2, View.ld_unit_zero (S := S16384) hz3 _ a3]

theorem x15 : k0_pay15 a0 a1 a2 a3 a4 = k0_pay10 a4 := by
  unfold k0_pay15
  simp only [View.ld_unit_zero (S := S2048x1) hz4 _ a4]

/-- The scale of a row's group of columns. -/
theorem ref9 (r : Fin 2048) (g : Fin 8) : G9 a0 a1 a2 a3 a4 (ix2 r g)
    = scaleK (kA (row a0 a1 a2 a3 a4 r) (lab a4 r) g.val * CInv) := by
  obtain ⟨τ, hT, hτ⟩ := row_real a0 a1 a2 a3 a4 r
  unfold G9
  rw [x12, x13, x14, x15, pay1_eq, scaleOf_apply,
    scale_row _ τ hT hτ (lab a4 r) g.val g.isLt _ _ (pay5_row a0 a1 a2 a3 a4 r) (pay7_row a0 a1 a2 a3 a4 r),
    maxOf_apply _ _ _ _ r g (fun k => ⟨g.val * 2048 + k.val, by have := k.isLt; have := g.isLt; omega⟩) fun k => rfl]
  refine congrArg (fun f => scaleR (Finset.fold max NInf f Finset.univ * CInv)) (funext fun k => ?_)
  refine congrArg (FloatOps.absf (F := Ideal) (φ := .f32)) ?_
  rw [pay6_row a0 a1 a2 a3 a4, pay3_row a0 a1 a2 a3 a4]
  exact congrArg (· * _) (pay10_row a4 r _ _ _)

theorem ref7 (y : S8x2048x128.Idx) : G7 a0 a1 a2 a3 a4 y
    = scaleK (kA (row a0 a1 a2 a3 a4 (y 1)) (lab a4 (y 1)) (y 0).val * CInv) := by
  have : G7 a0 a1 a2 a3 a4 y = G9 a0 a1 a2 a3 a4 (ix2 (y 1) (y 0)) := by
    unfold G7 G9
    generalize k0_pay12 a0 a1 a2 a3 a4 = A
    generalize k0_pay13 a0 a1 a2 a3 a4 = B
    generalize k0_pay14 a0 a1 a2 a3 a4 = C
    generalize k0_pay15 a0 a1 a2 a3 a4 = D
    pointwise [k0_pay2]
  exact this.trans (ref9 a0 a1 a2 a3 a4 (y 1) (y 0))

end Cert.RefFwdIdeal.Hand

end
-- ==== Proof.FwdValue.lean ====
module

public import proofs.«01_k».proof.Proof.FwdTiles
public import proofs.«01_k».proof.Proof.FwdRef
public import Idealize.ShloMosaic.Lib.Pipeline.ValueKit
public import Idealize.ShloMosaic.Lib.Pipeline.ReadBack

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-! # What the grid points leave: the tanh values, and the running sums, labels' values and maxima -/

/-- Which block each window holds at grid point `t`, and where the point's group of columns lies. -/
theorem idx : ∀ t : Fin cfg0.N, win0_0.index t = ![0, 0] ∧ win0_1.index t = ![t.val, 0] ∧ win0_2.index t = ![0, 0]
    ∧ win0_3.index t = ![0, t.val] ∧ win0_4.index t = ![0, 0] ∧ win0_5.index t = ![0, t.val] ∧ win0_6.index t = ![0, 0]
    ∧ win0_7.index t = ![0, 0, 0] ∧ win0_8.index t = ![0, 0] ∧ win0_9.index t = ![0, 0]
    ∧ (grid0.coords t 0).val = t.val ∧ t.val < 32 :=
  (by decide +kernel : ∀ t : Fin grid0.N, _)

/-- Where a point's four stores of maxima go: the group of its columns, 512 rows each. -/
theorem offs : ∀ t : Fin cfg0.N, k0_off1 (grid0.coords t) = ![t.val / 4, 0, 0] ∧ k0_off2 (grid0.coords t) = ![t.val / 4, 512, 0]
    ∧ k0_off3 (grid0.coords t) = ![t.val / 4, 1024, 0] ∧ k0_off4 (grid0.coords t) = ![t.val / 4, 1536, 0] :=
  (by decide +kernel : ∀ t : Fin grid0.N, _)

/-- The kernel's test for the label (its distance from the tile's first column is the lane) is that the column is the label. -/
theorem bit (a : BitVec 32) (l j d n : ℕ) (hn : n = j * 512 + d + l) :
    IntOp.cmpi .eq (IntOp.subi (IntOp.subi a (BitVec.ofNat 32 l)) (Scalar.muli (BitVec.ofNat 32 j) 512#32)) (BitVec.ofNat 32 d)
      = IntOp.cmpi .eq (BitVec.ofNat 32 n) a := by
  have e : (a - BitVec.ofNat 32 l - BitVec.ofNat 32 j * 512#32 = BitVec.ofNat 32 d) ↔ BitVec.ofNat 32 n = a := by
    rw [hn, BitVec.ofNat_add, BitVec.ofNat_add, BitVec.ofNat_mul]
    generalize BitVec.ofNat 32 j * 512#32 = x
    generalize BitVec.ofNat 32 d = y
    generalize BitVec.ofNat 32 l = z
    bv_omega
  show BitVec.ofBool (_ == _) = BitVec.ofBool (_ == _)
  exact congrArg BitVec.ofBool (by rw [Bool.eq_iff_iff, beq_iff_eq, beq_iff_eq]; exact e)

/-- One row's tanh values, as the reference has them from the same arguments. -/
abbrev RW (c : Dev nD) (r : Fin 2048) : ℕ → EReal :=
  Cert.RefFwdIdeal.Hand.row (m ((c : Thread nD τ).loc main_arg0)) (m ((c : Thread nD τ).loc main_arg1)) (m ((c : Thread nD τ).loc main_arg2))
    (m ((c : Thread nD τ).loc main_arg3)) (m ((c : Thread nD τ).loc main_arg4)) r

/-- One row's label. -/
abbrev LB (c : Dev nD) (r : Fin 2048) : ℕ := Cert.RefFwdIdeal.Hand.lab (m ((c : Thread nD τ).loc main_arg4)) r

/-- A block's tanh values are the reference's. -/
theorem core (c : Dev nD) (t : Fin cfg0.N) (r : Fin 2048) (k : Fin 512) (n : ℕ) (hn : n = 512 * t.val + k.val) :
    tB (iblk m c 0 t) (iblk m c 1 t) (iblk m c 2 t) (iblk m c 3 t) r k = RW m c r n := by
  have hl : 512 * t.val + k.val < 16384 := by have := (idx t).2.2.2.2.2.2.2.2.2.2.2; have := k.isLt; omega
  have e : (⟨n % 16384, Nat.mod_lt _ (by norm_num)⟩ : Fin 16384) = ⟨512 * t.val + k.val, hl⟩ :=
    Fin.ext (by show n % 16384 = 512 * t.val + k.val; omega)
  unfold RW Cert.RefFwdIdeal.Hand.row
  rw [Cert.RefFwdIdeal.Hand.g5_apply, e]
  pointwise [tB]
  blk_point [iblk, V, idx t]

/-- Every lane of the labels' block holds the row's label. -/
theorem lab_block (c : Dev nD) (t : Fin cfg0.N) (r : Fin 2048) (l : Fin 128) :
    (iblk (F := Ideal) m c 4 t) (ix2 r l) = (m ((c : Thread nD τ).loc main_arg4)) (ix2 r 0) := by
  blk_point [iblk, V, idx t]

/-- A choice by the kernel's test for the label. -/
theorem sel_b (c : Dev nD) (t : Fin cfg0.N) (r : Fin 2048) (l : Fin 128) (d n : ℕ) (hd : d < 512) (hn : n = 512 * t.val + d + l.val) (x z : EReal) :
    Scalar.select (bB (grid0.coords t) (iblk m c 4 t) r l d) x z = if n = LB m c r then x else z := by
  have hl := (idx t).2.2.2.2.2.2.2.2.2.2.2
  have := l.isLt
  unfold bB
  rw [bit _ _ _ _ n (by rw [(idx t).2.2.2.2.2.2.2.2.2.2.1]; omega), lab_block, sel_label n (by omega)]
  rfl

/-- The tanh values after the run are the reference's. -/
theorem final5 (c : Dev nD) : (dats m 0 c).arrAt 5 (cfgs 0).N
    = Cert.RefFwdIdeal.Hand.G5 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  have e : tNew (iblk m c 0 t) (iblk m c 1 t) (iblk m c 2 t) (iblk m c 3 t) y
      = Cert.RefFwdIdeal.Hand.G5 (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
    rw [Cert.RefFwdIdeal.Hand.g5_apply]
    pointwise [tNew, tB]
    blk_point [iblk, V, idx t]
  refine Eq.trans ?_ e
  by_cases h0 : t.val % 32 = 0
  · rw [outsAt0_A m c t h0 (by omega)]; frame_out
    exact t_block _ _ _ _ y
  · by_cases h1 : t.val % 32 = 31
    · rw [outsAt0_C m c t h0 h1]; frame_out
      exact t_block _ _ _ _ y
    · rw [outsAt0_B m c t h0 h1]; frame_out
      exact t_block _ _ _ _ y

/-- One point's step of the sums. -/
theorem s_step (c : Dev nD) (t : Fin cfg0.N) (S0 : Vec Ideal S2048x128 .f32) (y : S2048x128.Idx)
    (h : S0 y = eS (RW m c (y 0)) (y 1).val (4 * t.val)) :
    sNew (iblk m c 0 t) (iblk m c 1 t) (iblk m c 2 t) (iblk m c 3 t) S0 y = eS (RW m c (y 0)) (y 1).val (4 * (t.val + 1)) := by
  unfold sNew
  rw [h, core m c t (y 0) (at4 (y 1) 0 (by decide)) (128 * (4 * t.val) + (y 1).val) (by show _ = _ + (_ + _); omega),
    core m c t (y 0) (at4 (y 1) 1 (by decide)) (128 * (4 * t.val + 1) + (y 1).val) (by show _ = _ + (_ + _); omega),
    core m c t (y 0) (at4 (y 1) 2 (by decide)) (128 * (4 * t.val + 1 + 1) + (y 1).val) (by show _ = _ + (_ + _); omega),
    core m c t (y 0) (at4 (y 1) 3 (by decide)) (128 * (4 * t.val + 1 + 1 + 1) + (y 1).val) (by show _ = _ + (_ + _); omega),
    show 4 * (t.val + 1) = 4 * t.val + 1 + 1 + 1 + 1 by omega]
  simp only [eS]

/-- One point's step of the tanh values at the labels. -/
theorem l_step (c : Dev nD) (t : Fin cfg0.N) (S0 : Vec Ideal S2048x128 .f32) (y : S2048x128.Idx)
    (h : S0 y = eL (RW m c (y 0)) (LB m c (y 0)) (y 1).val (4 * t.val)) :
    lNew (grid0.coords t) (iblk m c 0 t) (iblk m c 1 t) (iblk m c 2 t) (iblk m c 3 t) (iblk m c 4 t) S0 y
      = eL (RW m c (y 0)) (LB m c (y 0)) (y 1).val (4 * (t.val + 1)) := by
  unfold lNew
  rw [h, core m c t (y 0) (at4 (y 1) 0 (by decide)) (128 * (4 * t.val) + (y 1).val) (by show _ = _ + (_ + _); omega),
    core m c t (y 0) (at4 (y 1) 1 (by decide)) (128 * (4 * t.val + 1) + (y 1).val) (by show _ = _ + (_ + _); omega),
    core m c t (y 0) (at4 (y 1) 2 (by decide)) (128 * (4 * t.val + 1 + 1) + (y 1).val) (by show _ = _ + (_ + _); omega),
    core m c t (y 0) (at4 (y 1) 3 (by decide)) (128 * (4 * t.val + 1 + 1 + 1) + (y 1).val) (by show _ = _ + (_ + _); omega),
    sel_b m c t (y 0) (y 1) 0 (128 * (4 * t.val) + (y 1).val) (by decide) (by omega),
    sel_b m c t (y 0) (y 1) 128 (128 * (4 * t.val + 1) + (y 1).val) (by decide) (by omega),
    sel_b m c t (y 0) (y 1) 256 (128 * (4 * t.val + 1 + 1) + (y 1).val) (by decide) (by omega),
    sel_b m c t (y 0) (y 1) 384 (128 * (4 * t.val + 1 + 1 + 1) + (y 1).val) (by decide) (by omega),
    show 4 * (t.val + 1) = 4 * t.val + 1 + 1 + 1 + 1 by omega]
  simp only [eL]

/-- What a column gives to its group's maximum. -/
theorem w_step (c : Dev nD) (t : Fin cfg0.N) (r : Fin 2048) (l : Fin 128) (d n : ℕ) (hd : d < 4) (hn : n = 128 * (4 * t.val + d) + l.val) :
    wB (grid0.coords t) (iblk m c 0 t) (iblk m c 1 t) (iblk m c 2 t) (iblk m c 3 t) (iblk m c 4 t) r l d hd = eW (RW m c r) (LB m c r) n := by
  unfold wB eW
  rw [core m c t r (at4 l d hd) n (by show _ = _ + (_ + _); omega), sel_b m c t r l (d * 128) n (by omega) (by omega)]

/-- One point's step of the maxima. -/
theorem g_step (c : Dev nD) (t : Fin cfg0.N) (v : EReal) (r : Fin 2048) (l : Fin 128)
    (h : v = eM (RW m c r) (LB m c r) (t.val / 4) l.val (4 * t.val)) :
    gNew (grid0.coords t) (iblk m c 0 t) (iblk m c 1 t) (iblk m c 2 t) (iblk m c 3 t) (iblk m c 4 t) v r l
      = eM (RW m c r) (LB m c r) (t.val / 4) l.val (4 * (t.val + 1)) := by
  unfold gNew
  rw [h, w_step m c t r l 0 (128 * (4 * t.val) + l.val) (by decide) (by omega),
    w_step m c t r l 1 (128 * (4 * t.val + 1) + l.val) (by decide) (by omega),
    w_step m c t r l 2 (128 * (4 * t.val + 1 + 1) + l.val) (by decide) (by omega),
    w_step m c t r l 3 (128 * (4 * t.val + 1 + 1 + 1) + l.val) (by decide) (by omega),
    show 4 * (t.val + 1) = 4 * t.val + 1 + 1 + 1 + 1 by omega]
  simp only [eM]
  rw [if_pos (by omega), if_pos (by omega), if_pos (by omega), if_pos (by omega)]

/-- The maxima of the other groups stay. -/
theorem g_stay (T : ℕ → EReal) (y g l t : ℕ) (h : g ≠ t / 4) : eM T y g l (4 * (t + 1)) = eM T y g l (4 * t) := by
  rw [show 4 * (t + 1) = 4 * t + 1 + 1 + 1 + 1 by omega]
  simp only [eM]
  rw [if_neg (by omega), if_neg (by omega), if_neg (by omega), if_neg (by omega)]

/-- The place of an entry of such a store, coordinate by coordinate. -/
theorem coords3 (off : Fin 3 → ℕ) (g b : ℕ) (ho : off = ![g, b, 0]) (hb) (x : S1x512x128.Idx) (y : S8x2048x128.Idx)
    (c0 : (y 0).val = g) (c1 : (y 1).val = b + (x 1).val) (c2 : (y 2).val = (x 2).val) (a : Fin 3) :
    (y a).val = (Rect.unit (s := S8x2048x128) off ![1, 512, 128] hb).off a
      + (Rect.unit (s := S8x2048x128) off ![1, 512, 128] hb).stride a * (x a).val := by
  subst ho
  have x0 : (x 0).val < 1 := (x 0).isLt
  fin_cases a
  · exact (by show (y 0).val = g + 1 * (x 0).val; omega)
  · exact (by show (y 1).val = b + 1 * (x 1).val; omega)
  · exact (by show (y 2).val = 0 + 1 * (x 2).val; omega)

/-- Four stores of one group's maxima, 512 rows each: the group reads what was stored, the others what was there. -/
theorem gs_read {κ : Kind} {sp : Space} {e : EltTy} {Val : EltTy → Type} (v : View sig κ sp S8x2048x128 e) (f : v.ty.Contents Val)
    (t : Fin cfg0.N) (hb1 hb2 hb3 hb4) (q1 q2 q3 q4 : S1x512x128.Idx → Val e) (N : Fin 2048 → Fin 128 → Val e)
    (h1 : ∀ (x : S1x512x128.Idx) (r : Fin 2048), r.val = 0 + (x 1).val → q1 x = N r (x 2))
    (h2 : ∀ (x : S1x512x128.Idx) (r : Fin 2048), r.val = 512 + (x 1).val → q2 x = N r (x 2))
    (h3 : ∀ (x : S1x512x128.Idx) (r : Fin 2048), r.val = 1024 + (x 1).val → q3 x = N r (x 2))
    (h4 : ∀ (x : S1x512x128.Idx) (r : Fin 2048), r.val = 1536 + (x 1).val → q4 x = N r (x 2)) (y : S8x2048x128.Idx) :
    v.read Val (v.writes Val f [⟨Rect.unit (s := S8x2048x128) (k0_off4 (grid0.coords t)) ![1, 512, 128] hb4, q4⟩,
      ⟨Rect.unit (s := S8x2048x128) (k0_off3 (grid0.coords t)) ![1, 512, 128] hb3, q3⟩,
      ⟨Rect.unit (s := S8x2048x128) (k0_off2 (grid0.coords t)) ![1, 512, 128] hb2, q2⟩,
      ⟨Rect.unit (s := S8x2048x128) (k0_off1 (grid0.coords t)) ![1, 512, 128] hb1, q1⟩]) y
      = if (y 0).val = t.val / 4 then N (y 1) (y 2) else v.read Val f y := by
  obtain ⟨o1, o2, o3, o4⟩ := offs t
  have y1 : (y 1).val < 2048 := (y 1).isLt
  have y2 : (y 2).val < 128 := (y 2).isLt
  by_cases hg : (y 0).val = t.val / 4
  · rw [if_pos hg]
    by_cases c4 : 1536 ≤ (y 1).val
    · exact (View.read_writes_cons_hit_of_coords v f _ _ _ (ix3 0 ⟨(y 1).val - 1536, by omega⟩ (y 2)) y (coords3 _ _ _ o4 _ _ y hg (by show _ = _ + ((y 1).val - 1536); omega) rfl)).trans (h4 _ (y 1) (by show _ = _ + (_ - _); omega))
    rw [View.read_writes_cons_miss_of_axis v f _ _ y 1 1536 512 (congrFun o4 1) rfl rfl (by omega)]
    by_cases c3 : 1024 ≤ (y 1).val
    · exact (View.read_writes_cons_hit_of_coords v f _ _ _ (ix3 0 ⟨(y 1).val - 1024, by omega⟩ (y 2)) y (coords3 _ _ _ o3 _ _ y hg (by show _ = _ + ((y 1).val - 1024); omega) rfl)).trans (h3 _ (y 1) (by show _ = _ + (_ - _); omega))
    rw [View.read_writes_cons_miss_of_axis v f _ _ y 1 1024 512 (congrFun o3 1) rfl rfl (by omega)]
    by_cases c2 : 512 ≤ (y 1).val
    · exact (View.read_writes_cons_hit_of_coords v f _ _ _ (ix3 0 ⟨(y 1).val - 512, by omega⟩ (y 2)) y (coords3 _ _ _ o2 _ _ y hg (by show _ = _ + ((y 1).val - 512); omega) rfl)).trans (h2 _ (y 1) (by show _ = _ + (_ - _); omega))
    rw [View.read_writes_cons_miss_of_axis v f _ _ y 1 512 512 (congrFun o2 1) rfl rfl (by omega)]
    exact (View.read_writes_cons_hit_of_coords v f _ _ _ (ix3 0 ⟨(y 1).val, by omega⟩ (y 2)) y (coords3 _ _ _ o1 _ _ y hg (by show _ = _ + (y 1).val; omega) rfl)).trans (h1 _ (y 1) (by show (y 1).val = 0 + (y 1).val; omega))
  · rw [if_neg hg,
      View.read_writes_cons_miss_of_axis v f _ _ y 0 (t.val / 4) 1 (congrFun o4 0) rfl rfl (by omega),
      View.read_writes_cons_miss_of_axis v f _ _ y 0 (t.val / 4) 1 (congrFun o3 0) rfl rfl (by omega),
      View.read_writes_cons_miss_of_axis v f _ _ y 0 (t.val / 4) 1 (congrFun o2 0) rfl rfl (by omega),
      View.read_writes_cons_miss_of_axis v f _ _ y 0 (t.val / 4) 1 (congrFun o1 0) rfl rfl (by omega)]
    rfl

/-- A load of 512 rows of the point's group of maxima. -/
theorem ld_group (P : Vec Ideal S8x2048x128 .f32) (off : Fin 3 → ℕ) (g b : ℕ) (ho : off = ![g, b, 0]) (hb) (x : S1x512x128.Idx)
    (z : S8x2048x128.Idx) (z0 : (z 0).val = g) (z1 : (z 1).val = b + (x 1).val) (z2 : (z 2).val = (x 2).val) :
    View.ld P (Rect.unit (s := S8x2048x128) off ![1, 512, 128] hb) (ix3 0 (x 1) (x 2)) = P z := by
  subst ho
  refine congrArg P (funext fun a => Fin.ext ?_)
  fin_cases a
  · exact z0.symm
  · exact (by show b + 1 * (x 1).val = (z 1).val; omega)
  · exact (by show 0 + 1 * (x 2).val = (z 2).val; omega)

end Cert.FwdIdeal.Hand

end
-- ==== Proof.FwdRun.lean ====
module

public import proofs.«01_k».proof.Proof.FwdValue
public import Idealize.ShloMosaic.Lib.Pipeline.ValueKit
public import Idealize.ShloMosaic.Lib.Pipeline.ReadBack

@[expose] public section

set_option maxRecDepth 16384
set_option maxHeartbeats 1000000

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-! # The running sums, labels' values and maxima, point by point -/

/-- An entry that some of the later stores covers does not see the earlier ones. -/
theorem canon_append_of_mem {s : Shape} {e : EltTy} {Val : EltTy → Type} [∀ e, Nonempty (Val e)] (L' : List (View.Piece Val s e)) (y : s.Idx) :
    ∀ L : List (View.Piece Val s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨x, rfl⟩ : ∃ x, p.1.emb x = y := p.1.exists_idx_of_mem hy
      obtain ⟨r, w⟩ := p
      rw [List.cons_append, View.canon_cons_emb, View.canon_cons_emb]
    · rw [List.cons_append, View.canon_cons_of_not_mem _ _ hy, View.canon_cons_of_not_mem _ _ hy]
      obtain ⟨q, hq, hyq⟩ := h
      rcases List.mem_cons.mp hq with rfl | hq
      · exact absurd hyq hy
      · exact canon_append_of_mem L' y L ⟨q, hq, hyq⟩

/-- Four stores of 512 rows each cover the whole: what was stored before is not seen. -/
theorem canon_rows (w1 w2 w3 w4 : S512x128.Idx → Ideal .f32) (p : View.Piece (Elt Ideal) S2048x128 .f32) (y : S2048x128.Idx) :
    View.canon (Val := Elt Ideal) (e := .f32) [⟨Rect.unit ![1536, 0] ![512, 128] inb_S2048x128_S512x128_1536_0, w4⟩,
      ⟨Rect.unit ![1024, 0] ![512, 128] inb_S2048x128_S512x128_1024_0, w3⟩, ⟨Rect.unit ![512, 0] ![512, 128] inb_S2048x128_S512x128_512_0, w2⟩,
      ⟨Rect.unit ![0, 0] ![512, 128] inb_S2048x128_S512x128_0_0, w1⟩, p] y
    = View.canon (Val := Elt Ideal) (e := .f32) [⟨Rect.unit ![1536, 0] ![512, 128] inb_S2048x128_S512x128_1536_0, w4⟩,
      ⟨Rect.unit ![1024, 0] ![512, 128] inb_S2048x128_S512x128_1024_0, w3⟩, ⟨Rect.unit ![512, 0] ![512, 128] inb_S2048x128_S512x128_512_0, w2⟩,
      ⟨Rect.unit ![0, 0] ![512, 128] inb_S2048x128_S512x128_0_0, w1⟩] y :=
  canon_append_of_mem [p] y [_, _, _, _] (View.cover_of_tiled _ ![512, 128] (by rfl) y)

/-- The sums start from zero, -/
theorem zero_s (y : S2048x128.Idx) : k0_pay1045 (F := Ideal) y = 0 := by
  pointwise [k0_pay1045]

/-- the labels' values start from zero, -/
theorem zero_l (y : S2048x128.Idx) : k0_pay1046 (F := Ideal) y = 0 := by
  pointwise [k0_pay1046]

/-- and the maxima start from zero. -/
theorem zero_g (y : S8x2048x128.Idx) : k0_pay1047 (F := Ideal) y = 0 := by
  pointwise [k0_pay1047]

/-- The lanes' sums after the first point, -/
theorem s_A (c : Dev nD) (t : Fin cfg0.N) (h0 : t.val % 32 = 0) (y : S2048x128.Idx) :
    (outsAt0 (F := Ideal) m c t.val t.isLt).2.2.2.2.2.1 y = eS (RW m c (y 0)) (y 1).val (4 * (t.val + 1)) := by
  have ht := (idx t).2.2.2.2.2.2.2.2.2.2.2
  rw [outsAt0_A m c t h0 (by omega)]; frame_out
  simp (disch := first | decide | (intro a; fin_cases a <;> rfl)) only [↓View.readCov_skip, ↓View.readCov_fill]
  rw [canon_rows]
  have hz := zero_s y
  generalize k0_pay1045 (F := Ideal) = Z at *
  exact (s_block _ _ _ _ Z y).trans (s_step m c t Z y (hz.trans (by rw [show 4 * t.val = 0 by omega, eS])))

/-- after a later one but the last, -/
theorem s_B (c : Dev nD) (t : Fin cfg0.N) (h0 : ¬ t.val % 32 = 0) (h1 : ¬ t.val % 32 = 31) (y : S2048x128.Idx)
    (h : (outsAt0 (F := Ideal) m c (t.val - 1) (Nat.lt_of_le_of_lt (Nat.sub_le _ _) t.isLt)).2.2.2.2.2.1 y = eS (RW m c (y 0)) (y 1).val (4 * t.val)) :
    (outsAt0 (F := Ideal) m c t.val t.isLt).2.2.2.2.2.1 y = eS (RW m c (y 0)) (y 1).val (4 * (t.val + 1)) := by
  rw [outsAt0_B m c t h0 h1]; frame_out
  exact (s_block _ _ _ _ _ y).trans (s_step m c t _ y ((congrFun (Memref.IsWhole.read_unread _ _) y).trans h))

/-- and so after each of the first 31. -/
theorem s_inv (c : Dev nD) : ∀ (n : ℕ) (hn : n < cfg0.N), n < 31 → ∀ y : S2048x128.Idx,
    (outsAt0 (F := Ideal) m c n hn).2.2.2.2.2.1 y = eS (RW m c (y 0)) (y 1).val (4 * (n + 1))
  | 0, hn, _, y => s_A m c ⟨0, hn⟩ rfl y
  | n + 1, hn, h, y => s_B m c ⟨n + 1, hn⟩ (by show ¬ (n + 1) % 32 = 0; omega) (by show ¬ (n + 1) % 32 = 31; omega) y
      (s_inv c n (by omega) (by omega) y)

/-- The lanes' tanh values at the labels after the first point, -/
theorem l_A (c : Dev nD) (t : Fin cfg0.N) (h0 : t.val % 32 = 0) (y : S2048x128.Idx) :
    (outsAt0 (F := Ideal) m c t.val t.isLt).2.2.2.2.2.2 y = eL (RW m c (y 0)) (LB m c (y 0)) (y 1).val (4 * (t.val + 1)) := by
  have ht := (idx t).2.2.2.2.2.2.2.2.2.2.2
  rw [outsAt0_A m c t h0 (by omega)]; frame_out
  simp (disch := first | decide | (intro a; fin_cases a <;> rfl)) only [↓View.readCov_skip, ↓View.readCov_fill]
  rw [canon_rows]
  have hz := zero_l y
  generalize k0_pay1046 (F := Ideal) = Z at *
  exact (l_block _ _ _ _ _ _ Z y).trans (l_step m c t Z y (hz.trans (by rw [show 4 * t.val = 0 by omega, eL])))

/-- after a later one but the last, -/
theorem l_B (c : Dev nD) (t : Fin cfg0.N) (h0 : ¬ t.val % 32 = 0) (h1 : ¬ t.val % 32 = 31) (y : S2048x128.Idx)
    (h : (outsAt0 (F := Ideal) m c (t.val - 1) (Nat.lt_of_le_of_lt (Nat.sub_le _ _) t.isLt)).2.2.2.2.2.2 y = eL (RW m c (y 0)) (LB m c (y 0)) (y 1).val (4 * t.val)) :
    (outsAt0 (F := Ideal) m c t.val t.isLt).2.2.2.2.2.2 y = eL (RW m c (y 0)) (LB m c (y 0)) (y 1).val (4 * (t.val + 1)) := by
  rw [outsAt0_B m c t h0 h1]; frame_out
  exact (l_block _ _ _ _ _ _ _ y).trans (l_step m c t _ y ((congrFun (Memref.IsWhole.read_unread _ _) y).trans h))

/-- and so after each of the first 31. -/
theorem l_inv (c : Dev nD) : ∀ (n : ℕ) (hn : n < cfg0.N), n < 31 → ∀ y : S2048x128.Idx,
    (outsAt0 (F := Ideal) m c n hn).2.2.2.2.2.2 y = eL (RW m c (y 0)) (LB m c (y 0)) (y 1).val (4 * (n + 1))
  | 0, hn, _, y => l_A m c ⟨0, hn⟩ rfl y
  | n + 1, hn, h, y => l_B m c ⟨n + 1, hn⟩ (by show ¬ (n + 1) % 32 = 0; omega) (by show ¬ (n + 1) % 32 = 31; omega) y
      (l_inv c n (by omega) (by omega) y)

/-- The whole starts at the origin. -/
theorem whole_off : (![0, 0, 0] : Fin S8x2048x128.rank → ℕ) = fun _ => 0 := by
  funext a; fin_cases a <;> rfl

/-- The newest store's entry reads it, -/
theorem canon_hit {s : Shape} {e : EltTy} {Val : EltTy → Type} [∀ e, Nonempty (Val e)] (r : Rect s) (w : r.shape.Idx → Val e)
    (L : List (View.Piece Val s e)) (x : r.shape.Idx) (y : s.Idx) (hx : ∀ a, (y a).val = r.off a + r.stride a * (x a).val) :
    View.canon (⟨r, w⟩ :: L) y = w x := by
  have e := r.emb_eq_of_coords x y hx
  subst e
  exact View.canon_cons_emb r w L x

/-- and an entry outside it does not. -/
theorem canon_miss {s : Shape} {e : EltTy} {Val : EltTy → Type} [∀ e, Nonempty (Val e)] (p : View.Piece Val s e)
    (L : List (View.Piece Val s e)) (y : s.Idx) (a : Fin s.rank) (o n : ℕ)
    (ho : p.1.off a = o) (hst : p.1.stride a = 1) (hn : p.1.size a = n) (h : (y a).val < o ∨ o + n ≤ (y a).val) :
    View.canon (p :: L) y = View.canon L y :=
  View.canon_cons_of_not_mem p L (p.1.not_mem_set_of_axis y a o n ho hst hn h)

/-- The same four stores over a fill of the whole. -/
theorem gs_canon {e : EltTy} {Val : EltTy → Type} [∀ e, Nonempty (Val e)] (Z : S8x2048x128.Idx → Val e)
    (t : Fin cfg0.N) (hb1 hb2 hb3 hb4) (q1 q2 q3 q4 : S1x512x128.Idx → Val e) (N : Fin 2048 → Fin 128 → Val e)
    (h1 : ∀ (x : S1x512x128.Idx) (r : Fin 2048), r.val = 0 + (x 1).val → q1 x = N r (x 2))
    (h2 : ∀ (x : S1x512x128.Idx) (r : Fin 2048), r.val = 512 + (x 1).val → q2 x = N r (x 2))
    (h3 : ∀ (x : S1x512x128.Idx) (r : Fin 2048), r.val = 1024 + (x 1).val → q3 x = N r (x 2))
    (h4 : ∀ (x : S1x512x128.Idx) (r : Fin 2048), r.val = 1536 + (x 1).val → q4 x = N r (x 2)) (y : S8x2048x128.Idx) :
    View.canon (Val := Val) (e := e) [⟨Rect.unit (s := S8x2048x128) (k0_off4 (grid0.coords t)) ![1, 512, 128] hb4, q4⟩,
      ⟨Rect.unit (s := S8x2048x128) (k0_off3 (grid0.coords t)) ![1, 512, 128] hb3, q3⟩,
      ⟨Rect.unit (s := S8x2048x128) (k0_off2 (grid0.coords t)) ![1, 512, 128] hb2, q2⟩,
      ⟨Rect.unit (s := S8x2048x128) (k0_off1 (grid0.coords t)) ![1, 512, 128] hb1, q1⟩,
      ⟨Rect.unit ![0, 0, 0] ![8, 2048, 128] inb_S8x2048x128_S8x2048x128_0_0_0, Z⟩] y
      = if (y 0).val = t.val / 4 then N (y 1) (y 2) else Z y := by
  obtain ⟨o1, o2, o3, o4⟩ := offs t
  have y1 : (y 1).val < 2048 := (y 1).isLt
  have y2 : (y 2).val < 128 := (y 2).isLt
  by_cases hg : (y 0).val = t.val / 4
  · rw [if_pos hg]
    by_cases c4 : 1536 ≤ (y 1).val
    · exact (canon_hit _ _ _ (ix3 0 ⟨(y 1).val - 1536, by omega⟩ (y 2)) y (coords3 _ _ _ o4 _ _ y hg (by show _ = _ + ((y 1).val - 1536); omega) rfl)).trans (h4 _ (y 1) (by show _ = _ + (_ - _); omega))
    rw [canon_miss _ _ y 1 1536 512 (congrFun o4 1) rfl rfl (by omega)]
    by_cases c3 : 1024 ≤ (y 1).val
    · exact (canon_hit _ _ _ (ix3 0 ⟨(y 1).val - 1024, by omega⟩ (y 2)) y (coords3 _ _ _ o3 _ _ y hg (by show _ = _ + ((y 1).val - 1024); omega) rfl)).trans (h3 _ (y 1) (by show _ = _ + (_ - _); omega))
    rw [canon_miss _ _ y 1 1024 512 (congrFun o3 1) rfl rfl (by omega)]
    by_cases c2 : 512 ≤ (y 1).val
    · exact (canon_hit _ _ _ (ix3 0 ⟨(y 1).val - 512, by omega⟩ (y 2)) y (coords3 _ _ _ o2 _ _ y hg (by show _ = _ + ((y 1).val - 512); omega) rfl)).trans (h2 _ (y 1) (by show _ = _ + (_ - _); omega))
    rw [canon_miss _ _ y 1 512 512 (congrFun o2 1) rfl rfl (by omega)]
    exact (canon_hit _ _ _ (ix3 0 ⟨(y 1).val, by omega⟩ (y 2)) y (coords3 _ _ _ o1 _ _ y hg (by show _ = _ + (y 1).val; omega) rfl)).trans (h1 _ (y 1) (by show (y 1).val = 0 + (y 1).val; omega))
  · rw [if_neg hg,
      canon_miss _ _ y 0 (t.val / 4) 1 (congrFun o4 0) rfl rfl (by omega),
      canon_miss _ _ y 0 (t.val / 4) 1 (congrFun o3 0) rfl rfl (by omega),
      canon_miss _ _ y 0 (t.val / 4) 1 (congrFun o2 0) rfl rfl (by omega),
      canon_miss _ _ y 0 (t.val / 4) 1 (congrFun o1 0) rfl rfl (by omega)]
    exact congrFun (View.canon_unit_zero whole_off _ Z) y

/-- A group's maxima after a point, from those before. -/
def gAfter (c : Dev nD) (t : Fin cfg0.N) (P : Vec Ideal S8x2048x128 .f32) (y : S8x2048x128.Idx) : EReal :=
  if (y 0).val = t.val / 4 then
    gNew (grid0.coords t) (iblk m c 0 t) (iblk m c 1 t) (iblk m c 2 t) (iblk m c 3 t) (iblk m c 4 t)
      (P (ix3 ⟨t.val / 4, by have := (idx t).2.2.2.2.2.2.2.2.2.2.2; omega⟩ (y 1) (y 2))) (y 1) (y 2)
  else P y

/-- One point's step of all the maxima. -/
theorem gAfter_step (c : Dev nD) (t : Fin cfg0.N) (P : Vec Ideal S8x2048x128 .f32)
    (h : ∀ y, P y = eM (RW m c (y 1)) (LB m c (y 1)) (y 0).val (y 2).val (4 * t.val)) (y : S8x2048x128.Idx) :
    gAfter m c t P y = eM (RW m c (y 1)) (LB m c (y 1)) (y 0).val (y 2).val (4 * (t.val + 1)) := by
  unfold gAfter
  by_cases hg : (y 0).val = t.val / 4
  · rw [if_pos hg, g_step m c t _ (y 1) (y 2) (h _), hg]
  · rw [if_neg hg, g_stay _ _ _ _ _ hg]
    exact h y

/-- The maxima after the first point, from those it starts with, -/
theorem g_first (c : Dev nD) (t : Fin cfg0.N) (h0 : t.val % 32 = 0) (Z : Vec Ideal S8x2048x128 .f32) (hz : k0_pay1047 (F := Ideal) = Z)
    (y : S8x2048x128.Idx) : (outsAt0 (F := Ideal) m c t.val t.isLt).2.2.1 y = gAfter m c t Z y := by
  have ht := (idx t).2.2.2.2.2.2.2.2.2.2.2
  obtain ⟨o1, o2, o3, o4⟩ := offs t
  rw [outsAt0_A m c t h0 (by omega)]; frame_out
  simp only [hz]
  refine (gs_canon Z t _ _ _ _ _ _ _ _
    (fun r l => gNew (grid0.coords t) (iblk m c 0 t) (iblk m c 1 t) (iblk m c 2 t) (iblk m c 3 t) (iblk m c 4 t)
      (Z (ix3 ⟨t.val / 4, by omega⟩ r l)) r l) ?_ ?_ ?_ ?_ y).trans ?_
  · intro x r hr
    refine (g_block1 _ _ _ _ _ _ _ x r hr).trans (congrArg (fun v => gNew _ _ _ _ _ _ v r (x 2)) (ld_group _ _ _ _ o1 _ x _ rfl hr rfl))
  · intro x r hr
    refine (g_block2 _ _ _ _ _ _ _ x r hr).trans (congrArg (fun v => gNew _ _ _ _ _ _ v r (x 2)) (ld_group _ _ _ _ o2 _ x _ rfl hr rfl))
  · intro x r hr
    refine (g_block3 _ _ _ _ _ _ _ x r hr).trans (congrArg (fun v => gNew _ _ _ _ _ _ v r (x 2)) (ld_group _ _ _ _ o3 _ x _ rfl hr rfl))
  · intro x r hr
    refine (g_block4 _ _ _ _ _ _ _ x r hr).trans (congrArg (fun v => gNew _ _ _ _ _ _ v r (x 2)) (ld_group _ _ _ _ o4 _ x _ rfl hr rfl))
  · unfold gAfter
    rfl

/-- and so the maxima after the first point, -/
theorem g_A (c : Dev nD) (t : Fin cfg0.N) (h0 : t.val % 32 = 0) (y : S8x2048x128.Idx) :
    (outsAt0 (F := Ideal) m c t.val t.isLt).2.2.1 y = eM (RW m c (y 1)) (LB m c (y 1)) (y 0).val (y 2).val (4 * (t.val + 1)) := by
  have ht := (idx t).2.2.2.2.2.2.2.2.2.2.2
  have hz := zero_g
  obtain ⟨Z, e⟩ : ∃ Z, k0_pay1047 (F := Ideal) = Z := ⟨_, rfl⟩
  rw [e] at hz
  exact (g_first m c t h0 Z e y).trans (gAfter_step m c t Z (fun y => (hz y).trans (by rw [show 4 * t.val = 0 by omega, eM])) y)

/-- the maxima after a later one but the last, -/
theorem g_B (c : Dev nD) (t : Fin cfg0.N) (h0 : ¬ t.val % 32 = 0) (h1 : ¬ t.val % 32 = 31)
    (h : ∀ y, (outsAt0 (F := Ideal) m c (t.val - 1) (Nat.lt_of_le_of_lt (Nat.sub_le _ _) t.isLt)).2.2.1 y
      = eM (RW m c (y 1)) (LB m c (y 1)) (y 0).val (y 2).val (4 * t.val)) (y : S8x2048x128.Idx) :
    (outsAt0 (F := Ideal) m c t.val t.isLt).2.2.1 y = eM (RW m c (y 1)) (LB m c (y 1)) (y 0).val (y 2).val (4 * (t.val + 1)) := by
  have ht := (idx t).2.2.2.2.2.2.2.2.2.2.2
  obtain ⟨o1, o2, o3, o4⟩ := offs t
  refine Eq.trans ?_ (gAfter_step m c t _ h y)
  rw [outsAt0_B m c t h0 h1]; frame_out
  generalize (outsAt0 (F := Ideal) m c (t.val - 1) _).2.2.1 = P
  refine (gs_read (ms0_7 t).view _ t _ _ _ _ _ _ _ _
    (fun r l => gNew (grid0.coords t) (iblk m c 0 t) (iblk m c 1 t) (iblk m c 2 t) (iblk m c 3 t) (iblk m c 4 t)
      (P (ix3 ⟨t.val / 4, by omega⟩ r l)) r l) ?_ ?_ ?_ ?_ y).trans ?_
  · intro x r hr
    refine (g_block1 _ _ _ _ _ _ _ x r hr).trans (congrArg (fun v => gNew _ _ _ _ _ _ v r (x 2)) (ld_group _ _ _ _ o1 _ x _ rfl hr rfl))
  · intro x r hr
    refine (g_block2 _ _ _ _ _ _ _ x r hr).trans (congrArg (fun v => gNew _ _ _ _ _ _ v r (x 2)) (ld_group _ _ _ _ o2 _ x _ rfl hr rfl))
  · intro x r hr
    refine (g_block3 _ _ _ _ _ _ _ x r hr).trans (congrArg (fun v => gNew _ _ _ _ _ _ v r (x 2)) (ld_group _ _ _ _ o3 _ x _ rfl hr rfl))
  · intro x r hr
    refine (g_block4 _ _ _ _ _ _ _ x r hr).trans (congrArg (fun v => gNew _ _ _ _ _ _ v r (x 2)) (ld_group _ _ _ _ o4 _ x _ rfl hr rfl))
  · unfold gAfter
    rw [Memref.IsWhole.read_unread]

/-- and so after each of the first 31. -/
theorem g_inv (c : Dev nD) : ∀ (n : ℕ) (hn : n < cfg0.N), n < 31 → ∀ y : S8x2048x128.Idx,
    (outsAt0 (F := Ideal) m c n hn).2.2.1 y = eM (RW m c (y 1)) (LB m c (y 1)) (y 0).val (y 2).val (4 * (n + 1))
  | 0, hn, _, y => g_A m c ⟨0, hn⟩ rfl y
  | n + 1, hn, h, y => g_B m c ⟨n + 1, hn⟩ (by show ¬ (n + 1) % 32 = 0; omega) (by show ¬ (n + 1) % 32 = 31; omega)
      (g_inv c n (by omega) (by omega)) y

end Cert.FwdIdeal.Hand

end
-- ==== Proof.FwdLast.lean ====
module

public import proofs.«01_k».proof.Proof.FwdRun
public import Idealize.ShloMosaic.Lib.Pipeline.ValueKit
public import Idealize.ShloMosaic.Lib.Pipeline.ReadBack

@[expose] public section

set_option maxRecDepth 16384
set_option maxHeartbeats 1000000

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-! # The last point: what it reads back of the sums, the labels' values and the maxima -/

/-- A load from a scratch reads what its stores left. -/
theorem readCov_ld {s : Shape} {e : EltTy} {Val : EltTy → Type} [∀ e, Nonempty (Val e)] {κ : Kind} {sp : Space} (v : View sig κ sp s e)
    (L : List (View.Piece Val s e)) (r : Rect s) : v.readCov L r.toLoadRect = View.ld (View.canon L) r :=
  View.readCov_eq_canon' v L r.toLoadRect

/-- The sums stored at one point, as one vector. -/
theorem s_canon (X : Vec Ideal S2048x5120 .fp8e4m3) (W : Vec Ideal S512x5120 .fp8e4m3) (H : Vec Ideal S2048x128 .f32)
    (U : Vec Ideal S1x512 .f32) (S0 : Vec Ideal S2048x128 .f32) :
    View.canon [⟨Rect.unit ![1536, 0] ![512, 128] inb_S2048x128_S512x128_1536_0, k0_pay3 (k0_pay1146 (k0_pay1131 (View.ld X (Rect.unit ![1536, 0] ![512,
    5120] inb_S2048x5120_S512x5120_1536_0)) W) (k0_pay1132 (View.ld H (Rect.unit ![1536, 0] ![512, 128] inb_S2048x128_S512x128_1536_0))) (k0_pay1141
    (k0_pay1131 (View.ld X (Rect.unit ![1536, 0] ![512, 5120] inb_S2048x5120_S512x5120_1536_0)) W) (k0_pay1132 (View.ld H (Rect.unit ![1536, 0] ![512,
    128] inb_S2048x128_S512x128_1536_0))) (View.ld S0 (Rect.unit ![1536, 0] ![512, 128] inb_S2048x128_S512x128_1536_0)) (View.ld U (Rect.unit ![0, 0] ![1,
    128] inb_S1x512_S1x128_0_0)) (View.ld U (Rect.unit ![0, 128] ![1, 128] inb_S1x512_S1x128_0_128))) (View.ld U (Rect.unit ![0, 256] ![1, 128]
    inb_S1x512_S1x128_0_256))) (k0_pay1150 (k0_pay1131 (View.ld X (Rect.unit ![1536, 0] ![512, 5120] inb_S2048x5120_S512x5120_1536_0)) W) (k0_pay1132
    (View.ld H (Rect.unit ![1536, 0] ![512, 128] inb_S2048x128_S512x128_1536_0))) (View.ld U (Rect.unit ![0, 384] ![1, 128] inb_S1x512_S1x128_0_384)))⟩,
    ⟨Rect.unit ![1024, 0] ![512, 128] inb_S2048x128_S512x128_1024_0, k0_pay1128 (k0_pay1121 (k0_pay1106 (View.ld X (Rect.unit ![1024, 0] ![512, 5120]
    inb_S2048x5120_S512x5120_1024_0)) W) (k0_pay1107 (View.ld H (Rect.unit ![1024, 0] ![512, 128] inb_S2048x128_S512x128_1024_0))) (k0_pay1116 (k0_pay1106
    (View.ld X (Rect.unit ![1024, 0] ![512, 5120] inb_S2048x5120_S512x5120_1024_0)) W) (k0_pay1107 (View.ld H (Rect.unit ![1024, 0] ![512, 128]
    inb_S2048x128_S512x128_1024_0))) (View.ld S0 (Rect.unit ![1024, 0] ![512, 128] inb_S2048x128_S512x128_1024_0)) (View.ld U (Rect.unit ![0, 0] ![1, 128]
    inb_S1x512_S1x128_0_0)) (View.ld U (Rect.unit ![0, 128] ![1, 128] inb_S1x512_S1x128_0_128))) (View.ld U (Rect.unit ![0, 256] ![1, 128]
    inb_S1x512_S1x128_0_256))) (k0_pay1125 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 384] ![1, 128] inb_S1x512_S1x128_0_384)))
    (FloatOps.ofBits FTy.f32 1106247680#32)⟩, ⟨Rect.unit ![512, 0] ![512, 128] inb_S2048x128_S512x128_512_0, k0_pay1103 (k0_pay1095 (k0_pay1078 (View.ld X
    (Rect.unit ![512, 0] ![512, 5120] inb_S2048x5120_S512x5120_512_0)) W) (k0_pay1079 (View.ld H (Rect.unit ![512, 0] ![512, 128]
    inb_S2048x128_S512x128_512_0))) (k0_pay1089 (k0_pay1078 (View.ld X (Rect.unit ![512, 0] ![512, 5120] inb_S2048x5120_S512x5120_512_0)) W) (k0_pay1079
    (View.ld H (Rect.unit ![512, 0] ![512, 128] inb_S2048x128_S512x128_512_0))) (View.ld S0 (Rect.unit ![512, 0] ![512, 128]
    inb_S2048x128_S512x128_512_0)) (k0_pay1081 (View.ld X (Rect.unit ![512, 0] ![512, 5120] inb_S2048x5120_S512x5120_512_0)) W) (View.ld U (Rect.unit ![0,
    0] ![1, 128] inb_S1x512_S1x128_0_0)) (View.ld U (Rect.unit ![0, 128] ![1, 128] inb_S1x512_S1x128_0_128))) (View.ld U (Rect.unit ![0, 256] ![1, 128]
    inb_S1x512_S1x128_0_256))) (k0_pay1100 (k0_pay1078 (View.ld X (Rect.unit ![512, 0] ![512, 5120] inb_S2048x5120_S512x5120_512_0)) W) (k0_pay1079
    (View.ld H (Rect.unit ![512, 0] ![512, 128] inb_S2048x128_S512x128_512_0))) (View.ld U (Rect.unit ![0, 384] ![1, 128] inb_S1x512_S1x128_0_384)))⟩,
    ⟨Rect.unit ![0, 0] ![512, 128] inb_S2048x128_S512x128_0_0, k0_pay1075 (k0_pay1073 (k0_pay1052 (View.ld X (Rect.unit ![0, 0] ![512, 5120]
    inb_S2048x5120_S512x5120_0_0)) W) (k0_pay1053 (View.ld H (Rect.unit ![0, 0] ![512, 128] inb_S2048x128_S512x128_0_0))) (k0_pay1063 (k0_pay1052 (View.ld
    X (Rect.unit ![0, 0] ![512, 5120] inb_S2048x5120_S512x5120_0_0)) W) (k0_pay1053 (View.ld H (Rect.unit ![0, 0] ![512, 128]
    inb_S2048x128_S512x128_0_0))) (View.ld S0 (Rect.unit ![0, 0] ![512, 128] inb_S2048x128_S512x128_0_0)) (k0_pay1055 (View.ld X (Rect.unit ![0, 0] ![512,
    5120] inb_S2048x5120_S512x5120_0_0)) W (View.ld H (Rect.unit ![0, 0] ![512, 128] inb_S2048x128_S512x128_0_0))) (View.ld U (Rect.unit ![0, 0] ![1, 128]
    inb_S1x512_S1x128_0_0)) (View.ld U (Rect.unit ![0, 128] ![1, 128] inb_S1x512_S1x128_0_128))) (View.ld U (Rect.unit ![0, 256] ![1, 128]
    inb_S1x512_S1x128_0_256)) (View.ld U (Rect.unit ![0, 384] ![1, 128] inb_S1x512_S1x128_0_384)))⟩] = sNew X W H U S0 := funext fun y => s_block X W H U S0 y

/-- The tanh values at the labels stored at one point, as one vector. -/
theorem l_canon (i : grid0.Coords) (X : Vec Ideal S2048x5120 .fp8e4m3) (W : Vec Ideal S512x5120 .fp8e4m3) (H : Vec Ideal S2048x128 .f32)
    (U : Vec Ideal S1x512 .f32) (Y : Vec Ideal S2048x128 .i32) (S0 : Vec Ideal S2048x128 .f32) :
    View.canon [⟨Rect.unit ![1536, 0] ![512, 128] inb_S2048x128_S512x128_1536_0, k0_pay4 (k0_pay1133 (BitVec.ofNat 32 (i 0).val) (iota .tc S512x128 32 [1]
    iota_S512x128_d1_w32) (View.ld Y (Rect.unit ![1536, 0] ![512, 128] inb_S2048x128_S512x128_1536_0))) (k0_pay1149 (k0_pay1131 (View.ld X (Rect.unit
    ![1536, 0] ![512, 5120] inb_S2048x5120_S512x5120_1536_0)) W) (k0_pay1132 (View.ld H (Rect.unit ![1536, 0] ![512, 128] inb_S2048x128_S512x128_1536_0)))
    (k0_pay1133 (BitVec.ofNat 32 (i 0).val) (iota .tc S512x128 32 [1] iota_S512x128_d1_w32) (View.ld Y (Rect.unit ![1536, 0] ![512, 128]
    inb_S2048x128_S512x128_1536_0))) (k0_pay1138 (k0_pay1131 (View.ld X (Rect.unit ![1536, 0] ![512, 5120] inb_S2048x5120_S512x5120_1536_0)) W)
    (k0_pay1132 (View.ld H (Rect.unit ![1536, 0] ![512, 128] inb_S2048x128_S512x128_1536_0))) (k0_pay1133 (BitVec.ofNat 32 (i 0).val) (iota .tc S512x128
    32 [1] iota_S512x128_d1_w32) (View.ld Y (Rect.unit ![1536, 0] ![512, 128] inb_S2048x128_S512x128_1536_0))) (View.ld S0 (Rect.unit ![1536, 0] ![512,
    128] inb_S2048x128_S512x128_1536_0)) (View.ld U (Rect.unit ![0, 0] ![1, 128] inb_S1x512_S1x128_0_0))) (k0_pay1139 (k0_pay1131 (View.ld X (Rect.unit
    ![1536, 0] ![512, 5120] inb_S2048x5120_S512x5120_1536_0)) W) (k0_pay1132 (View.ld H (Rect.unit ![1536, 0] ![512, 128] inb_S2048x128_S512x128_1536_0)))
    (View.ld U (Rect.unit ![0, 128] ![1, 128] inb_S1x512_S1x128_0_128))) k0_pay1142 (View.ld U (Rect.unit ![0, 256] ![1, 128] inb_S1x512_S1x128_0_256)))
    (k0_pay1150 (k0_pay1131 (View.ld X (Rect.unit ![1536, 0] ![512, 5120] inb_S2048x5120_S512x5120_1536_0)) W) (k0_pay1132 (View.ld H (Rect.unit ![1536,
    0] ![512, 128] inb_S2048x128_S512x128_1536_0))) (View.ld U (Rect.unit ![0, 384] ![1, 128] inb_S1x512_S1x128_0_384)))⟩, ⟨Rect.unit ![1024, 0] ![512,
    128] inb_S2048x128_S512x128_1024_0, k0_pay1129 (k0_pay1108 (BitVec.ofNat 32 (i 0).val) (iota .tc S512x128 32 [1] iota_S512x128_d1_w32) (View.ld Y
    (Rect.unit ![1024, 0] ![512, 128] inb_S2048x128_S512x128_1024_0))) (k0_pay1124 (k0_pay1106 (View.ld X (Rect.unit ![1024, 0] ![512, 5120]
    inb_S2048x5120_S512x5120_1024_0)) W) (k0_pay1107 (View.ld H (Rect.unit ![1024, 0] ![512, 128] inb_S2048x128_S512x128_1024_0))) (k0_pay1108
    (BitVec.ofNat 32 (i 0).val) (iota .tc S512x128 32 [1] iota_S512x128_d1_w32) (View.ld Y (Rect.unit ![1024, 0] ![512, 128]
    inb_S2048x128_S512x128_1024_0))) (k0_pay1113 (k0_pay1106 (View.ld X (Rect.unit ![1024, 0] ![512, 5120] inb_S2048x5120_S512x5120_1024_0)) W)
    (k0_pay1107 (View.ld H (Rect.unit ![1024, 0] ![512, 128] inb_S2048x128_S512x128_1024_0))) (k0_pay1108 (BitVec.ofNat 32 (i 0).val) (iota .tc S512x128
    32 [1] iota_S512x128_d1_w32) (View.ld Y (Rect.unit ![1024, 0] ![512, 128] inb_S2048x128_S512x128_1024_0))) (View.ld S0 (Rect.unit ![1024, 0] ![512,
    128] inb_S2048x128_S512x128_1024_0)) (View.ld U (Rect.unit ![0, 0] ![1, 128] inb_S1x512_S1x128_0_0))) (k0_pay1114 (k0_pay1106 (View.ld X (Rect.unit
    ![1024, 0] ![512, 5120] inb_S2048x5120_S512x5120_1024_0)) W) (k0_pay1107 (View.ld H (Rect.unit ![1024, 0] ![512, 128] inb_S2048x128_S512x128_1024_0)))
    (View.ld U (Rect.unit ![0, 128] ![1, 128] inb_S1x512_S1x128_0_128))) (k0_pay1117 (k0_pay1108 (BitVec.ofNat 32 (i 0).val) (iota .tc S512x128 32 [1]
    iota_S512x128_d1_w32) (View.ld Y (Rect.unit ![1024, 0] ![512, 128] inb_S2048x128_S512x128_1024_0)))) (View.ld U (Rect.unit ![0, 256] ![1, 128]
    inb_S1x512_S1x128_0_256))) (k0_pay1125 (k0_pay1106 (View.ld X (Rect.unit ![1024, 0] ![512, 5120] inb_S2048x5120_S512x5120_1024_0)) W) (k0_pay1107
    (View.ld H (Rect.unit ![1024, 0] ![512, 128] inb_S2048x128_S512x128_1024_0))) (View.ld U (Rect.unit ![0, 384] ![1, 128] inb_S1x512_S1x128_0_384)))⟩,
    ⟨Rect.unit ![512, 0] ![512, 128] inb_S2048x128_S512x128_512_0, k0_pay1104 (k0_pay1080 (BitVec.ofNat 32 (i 0).val) (iota .tc S512x128 32 [1]
    iota_S512x128_d1_w32) (View.ld Y (Rect.unit ![512, 0] ![512, 128] inb_S2048x128_S512x128_512_0))) (k0_pay1098 (k0_pay1078 (View.ld X (Rect.unit ![512,
    0] ![512, 5120] inb_S2048x5120_S512x5120_512_0)) W) (k0_pay1079 (View.ld H (Rect.unit ![512, 0] ![512, 128] inb_S2048x128_S512x128_512_0)))
    (k0_pay1080 (BitVec.ofNat 32 (i 0).val) (iota .tc S512x128 32 [1] iota_S512x128_d1_w32) (View.ld Y (Rect.unit ![512, 0] ![512, 128]
    inb_S2048x128_S512x128_512_0))) (k0_pay1086 (k0_pay1079 (View.ld H (Rect.unit ![512, 0] ![512, 128] inb_S2048x128_S512x128_512_0))) (k0_pay1080
    (BitVec.ofNat 32 (i 0).val) (iota .tc S512x128 32 [1] iota_S512x128_d1_w32) (View.ld Y (Rect.unit ![512, 0] ![512, 128]
    inb_S2048x128_S512x128_512_0))) (View.ld S0 (Rect.unit ![512, 0] ![512, 128] inb_S2048x128_S512x128_512_0)) (k0_pay1081 (View.ld X (Rect.unit ![512,
    0] ![512, 5120] inb_S2048x5120_S512x5120_512_0)) W) (View.ld U (Rect.unit ![0, 0] ![1, 128] inb_S1x512_S1x128_0_0))) (k0_pay1087 (k0_pay1078 (View.ld
    X (Rect.unit ![512, 0] ![512, 5120] inb_S2048x5120_S512x5120_512_0)) W) (k0_pay1079 (View.ld H (Rect.unit ![512, 0] ![512, 128]
    inb_S2048x128_S512x128_512_0))) (View.ld U (Rect.unit ![0, 128] ![1, 128] inb_S1x512_S1x128_0_128))) (k0_pay1090 (k0_pay1080 (BitVec.ofNat 32 (i
    0).val) (iota .tc S512x128 32 [1] iota_S512x128_d1_w32) (View.ld Y (Rect.unit ![512, 0] ![512, 128] inb_S2048x128_S512x128_512_0)))) (View.ld U
    (Rect.unit ![0, 256] ![1, 128] inb_S1x512_S1x128_0_256))) (k0_pay1099 (k0_pay1078 (View.ld X (Rect.unit ![512, 0] ![512, 5120]
    inb_S2048x5120_S512x5120_512_0)) W) (k0_pay1079 (View.ld H (Rect.unit ![512, 0] ![512, 128] inb_S2048x128_S512x128_512_0))) (View.ld U (Rect.unit ![0,
    384] ![1, 128] inb_S1x512_S1x128_0_384)))⟩, ⟨Rect.unit ![0, 0] ![512, 128] inb_S2048x128_S512x128_0_0, k0_pay1076 (k0_pay1054 i (View.ld Y (Rect.unit
    ![0, 0] ![512, 128] inb_S2048x128_S512x128_0_0))) (k0_pay1070 (k0_pay1052 (View.ld X (Rect.unit ![0, 0] ![512, 5120] inb_S2048x5120_S512x5120_0_0)) W)
    (k0_pay1053 (View.ld H (Rect.unit ![0, 0] ![512, 128] inb_S2048x128_S512x128_0_0))) (k0_pay1054 i (View.ld Y (Rect.unit ![0, 0] ![512, 128]
    inb_S2048x128_S512x128_0_0))) (k0_pay1060 (k0_pay1054 i (View.ld Y (Rect.unit ![0, 0] ![512, 128] inb_S2048x128_S512x128_0_0))) (View.ld S0 (Rect.unit
    ![0, 0] ![512, 128] inb_S2048x128_S512x128_0_0)) (k0_pay1055 (View.ld X (Rect.unit ![0, 0] ![512, 5120] inb_S2048x5120_S512x5120_0_0)) W (View.ld H
    (Rect.unit ![0, 0] ![512, 128] inb_S2048x128_S512x128_0_0))) (View.ld U (Rect.unit ![0, 0] ![1, 128] inb_S1x512_S1x128_0_0))) (k0_pay1061 (k0_pay1052
    (View.ld X (Rect.unit ![0, 0] ![512, 5120] inb_S2048x5120_S512x5120_0_0)) W) (k0_pay1053 (View.ld H (Rect.unit ![0, 0] ![512, 128]
    inb_S2048x128_S512x128_0_0))) (View.ld U (Rect.unit ![0, 128] ![1, 128] inb_S1x512_S1x128_0_128))) (k0_pay1064 (k0_pay1054 i (View.ld Y (Rect.unit
    ![0, 0] ![512, 128] inb_S2048x128_S512x128_0_0)))) (View.ld U (Rect.unit ![0, 256] ![1, 128] inb_S1x512_S1x128_0_256))) (k0_pay1071 (k0_pay1052
    (View.ld X (Rect.unit ![0, 0] ![512, 5120] inb_S2048x5120_S512x5120_0_0)) W) (k0_pay1053 (View.ld H (Rect.unit ![0, 0] ![512, 128]
    inb_S2048x128_S512x128_0_0))) (View.ld U (Rect.unit ![0, 384] ![1, 128] inb_S1x512_S1x128_0_384)))⟩] = lNew i X W H U Y S0 := funext fun y => l_block i X W H U Y S0 y

/-- The maxima stored at one point over those before, as one vector. -/
theorem g_fun (c : Dev nD) (t : Fin cfg0.N) {κ : Kind} {sp : Space} (v : View sig κ sp S8x2048x128 .f32) (f : v.ty.Contents (Elt Ideal))
    (P : Vec Ideal S8x2048x128 .f32) (hf : v.read (Elt Ideal) f = P) (hb1 hb2 hb3 hb4) :
    v.read (Elt Ideal) (v.writes (Elt Ideal) f [⟨Rect.unit (s := S8x2048x128) (k0_off4 (grid0.coords t)) ![1, 512, 128] hb4, k0_pay5 (k0_pay1133 (BitVec.ofNat 32 (grid0.coords t 0).val) (iota .tc S512x128 32 [1] iota_S512x128_d1_w32) (View.ld (iblk m c 4 t) (Rect.unit ![1536, 0] ![512, 128]
    inb_S2048x128_S512x128_1536_0))) (k0_pay1148 (k0_pay1131 (View.ld (iblk m c 0 t) (Rect.unit ![1536, 0] ![512, 5120] inb_S2048x5120_S512x5120_1536_0)) (iblk m c 1 t))
    (k0_pay1132 (View.ld (iblk m c 2 t) (Rect.unit ![1536, 0] ![512, 128] inb_S2048x128_S512x128_1536_0))) (k0_pay1133 (BitVec.ofNat 32 (grid0.coords t 0).val) (iota .tc S512x128
    32 [1] iota_S512x128_d1_w32) (View.ld (iblk m c 4 t) (Rect.unit ![1536, 0] ![512, 128] inb_S2048x128_S512x128_1536_0))) (k0_pay1137 (k0_pay1051 (View.ld P (Rect.unit (s := S8x2048x128) (k0_off4 (grid0.coords t)) ![1, 512, 128] hb4))) (k0_pay1131
    (View.ld (iblk m c 0 t) (Rect.unit ![1536, 0] ![512, 5120] inb_S2048x5120_S512x5120_1536_0)) (iblk m c 1 t)) (k0_pay1132 (View.ld (iblk m c 2 t) (Rect.unit ![1536, 0] ![512, 128]
    inb_S2048x128_S512x128_1536_0))) (k0_pay1133 (BitVec.ofNat 32 (grid0.coords t 0).val) (iota .tc S512x128 32 [1] iota_S512x128_d1_w32) (View.ld (iblk m c 4 t) (Rect.unit ![1536,
    0] ![512, 128] inb_S2048x128_S512x128_1536_0))) (View.ld (iblk m c 3 t) (Rect.unit ![0, 0] ![1, 128] inb_S1x512_S1x128_0_0))) (k0_pay1139 (k0_pay1131 (View.ld (iblk m c 0 t)
    (Rect.unit ![1536, 0] ![512, 5120] inb_S2048x5120_S512x5120_1536_0)) (iblk m c 1 t)) (k0_pay1132 (View.ld (iblk m c 2 t) (Rect.unit ![1536, 0] ![512, 128]
    inb_S2048x128_S512x128_1536_0))) (View.ld (iblk m c 3 t) (Rect.unit ![0, 128] ![1, 128] inb_S1x512_S1x128_0_128))) (k0_pay1140 (k0_pay1131 (View.ld (iblk m c 0 t) (Rect.unit
    ![1536, 0] ![512, 5120] inb_S2048x5120_S512x5120_1536_0)) (iblk m c 1 t)) (k0_pay1132 (View.ld (iblk m c 2 t) (Rect.unit ![1536, 0] ![512, 128] inb_S2048x128_S512x128_1536_0)))
    (View.ld (iblk m c 3 t) (Rect.unit ![0, 128] ![1, 128] inb_S1x512_S1x128_0_128))) k0_pay1142 (View.ld (iblk m c 3 t) (Rect.unit ![0, 256] ![1, 128] inb_S1x512_S1x128_0_256)))
    (k0_pay1150 (k0_pay1131 (View.ld (iblk m c 0 t) (Rect.unit ![1536, 0] ![512, 5120] inb_S2048x5120_S512x5120_1536_0)) (iblk m c 1 t)) (k0_pay1132 (View.ld (iblk m c 2 t) (Rect.unit ![1536,
    0] ![512, 128] inb_S2048x128_S512x128_1536_0))) (View.ld (iblk m c 3 t) (Rect.unit ![0, 384] ![1, 128] inb_S1x512_S1x128_0_384)))⟩,
      ⟨Rect.unit (s := S8x2048x128) (k0_off3 (grid0.coords t)) ![1, 512, 128] hb3, k0_pay1130 (k0_pay1108 (BitVec.ofNat 32 (grid0.coords t 0).val) (iota .tc S512x128 32 [1] iota_S512x128_d1_w32) (View.ld (iblk m c 4 t) (Rect.unit ![1024, 0] ![512, 128]
    inb_S2048x128_S512x128_1024_0))) (k0_pay1123 (k0_pay1106 (View.ld (iblk m c 0 t) (Rect.unit ![1024, 0] ![512, 5120] inb_S2048x5120_S512x5120_1024_0)) (iblk m c 1 t))
    (k0_pay1107 (View.ld (iblk m c 2 t) (Rect.unit ![1024, 0] ![512, 128] inb_S2048x128_S512x128_1024_0))) (k0_pay1108 (BitVec.ofNat 32 (grid0.coords t 0).val) (iota .tc S512x128
    32 [1] iota_S512x128_d1_w32) (View.ld (iblk m c 4 t) (Rect.unit ![1024, 0] ![512, 128] inb_S2048x128_S512x128_1024_0))) (k0_pay1112 (k0_pay1050 (View.ld P (Rect.unit (s := S8x2048x128) (k0_off3 (grid0.coords t)) ![1, 512, 128] hb3))) (k0_pay1106
    (View.ld (iblk m c 0 t) (Rect.unit ![1024, 0] ![512, 5120] inb_S2048x5120_S512x5120_1024_0)) (iblk m c 1 t)) (k0_pay1107 (View.ld (iblk m c 2 t) (Rect.unit ![1024, 0] ![512, 128]
    inb_S2048x128_S512x128_1024_0))) (k0_pay1108 (BitVec.ofNat 32 (grid0.coords t 0).val) (iota .tc S512x128 32 [1] iota_S512x128_d1_w32) (View.ld (iblk m c 4 t) (Rect.unit ![1024,
    0] ![512, 128] inb_S2048x128_S512x128_1024_0))) (View.ld (iblk m c 3 t) (Rect.unit ![0, 0] ![1, 128] inb_S1x512_S1x128_0_0))) (k0_pay1115 (k0_pay1106 (View.ld (iblk m c 0 t)
    (Rect.unit ![1024, 0] ![512, 5120] inb_S2048x5120_S512x5120_1024_0)) (iblk m c 1 t)) (k0_pay1107 (View.ld (iblk m c 2 t) (Rect.unit ![1024, 0] ![512, 128]
    inb_S2048x128_S512x128_1024_0))) (View.ld (iblk m c 3 t) (Rect.unit ![0, 128] ![1, 128] inb_S1x512_S1x128_0_128))) (k0_pay1117 (k0_pay1108 (BitVec.ofNat 32 ((grid0.coords t)
    0).val) (iota .tc S512x128 32 [1] iota_S512x128_d1_w32) (View.ld (iblk m c 4 t) (Rect.unit ![1024, 0] ![512, 128] inb_S2048x128_S512x128_1024_0)))) (k0_pay1118
    (k0_pay1106 (View.ld (iblk m c 0 t) (Rect.unit ![1024, 0] ![512, 5120] inb_S2048x5120_S512x5120_1024_0)) (iblk m c 1 t)) (k0_pay1107 (View.ld (iblk m c 2 t) (Rect.unit ![1024, 0] ![512,
    128] inb_S2048x128_S512x128_1024_0))) (View.ld (iblk m c 3 t) (Rect.unit ![0, 128] ![1, 128] inb_S1x512_S1x128_0_128))) (View.ld (iblk m c 3 t) (Rect.unit ![0, 256] ![1, 128]
    inb_S1x512_S1x128_0_256))) (k0_pay1125 (k0_pay1106 (View.ld (iblk m c 0 t) (Rect.unit ![1024, 0] ![512, 5120] inb_S2048x5120_S512x5120_1024_0)) (iblk m c 1 t)) (k0_pay1107
    (View.ld (iblk m c 2 t) (Rect.unit ![1024, 0] ![512, 128] inb_S2048x128_S512x128_1024_0))) (View.ld (iblk m c 3 t) (Rect.unit ![0, 384] ![1, 128] inb_S1x512_S1x128_0_384)))
    (FloatOps.ofBits FTy.f32 1106247680#32)⟩,
      ⟨Rect.unit (s := S8x2048x128) (k0_off2 (grid0.coords t)) ![1, 512, 128] hb2, k0_pay1105 (k0_pay1080 (BitVec.ofNat 32 (grid0.coords t 0).val) (iota .tc S512x128 32 [1] iota_S512x128_d1_w32) (View.ld (iblk m c 4 t) (Rect.unit ![512, 0] ![512, 128]
    inb_S2048x128_S512x128_512_0))) (k0_pay1097 (k0_pay1078 (View.ld (iblk m c 0 t) (Rect.unit ![512, 0] ![512, 5120] inb_S2048x5120_S512x5120_512_0)) (iblk m c 1 t)) (k0_pay1079
    (View.ld (iblk m c 2 t) (Rect.unit ![512, 0] ![512, 128] inb_S2048x128_S512x128_512_0))) (k0_pay1080 (BitVec.ofNat 32 (grid0.coords t 0).val) (iota .tc S512x128 32 [1]
    iota_S512x128_d1_w32) (View.ld (iblk m c 4 t) (Rect.unit ![512, 0] ![512, 128] inb_S2048x128_S512x128_512_0))) (k0_pay1085 (k0_pay1049 (View.ld P (Rect.unit (s := S8x2048x128) (k0_off2 (grid0.coords t)) ![1, 512, 128] hb2))) (k0_pay1079 (View.ld (iblk m c 2 t)
    (Rect.unit ![512, 0] ![512, 128] inb_S2048x128_S512x128_512_0))) (k0_pay1080 (BitVec.ofNat 32 (grid0.coords t 0).val) (iota .tc S512x128 32 [1]
    iota_S512x128_d1_w32) (View.ld (iblk m c 4 t) (Rect.unit ![512, 0] ![512, 128] inb_S2048x128_S512x128_512_0))) (k0_pay1081 (View.ld (iblk m c 0 t) (Rect.unit ![512, 0] ![512,
    5120] inb_S2048x5120_S512x5120_512_0)) (iblk m c 1 t)) (View.ld (iblk m c 3 t) (Rect.unit ![0, 0] ![1, 128] inb_S1x512_S1x128_0_0))) (k0_pay1088 (k0_pay1078 (View.ld (iblk m c 0 t)
    (Rect.unit ![512, 0] ![512, 5120] inb_S2048x5120_S512x5120_512_0)) (iblk m c 1 t)) (k0_pay1079 (View.ld (iblk m c 2 t) (Rect.unit ![512, 0] ![512, 128]
    inb_S2048x128_S512x128_512_0))) (View.ld (iblk m c 3 t) (Rect.unit ![0, 128] ![1, 128] inb_S1x512_S1x128_0_128))) (k0_pay1090 (k0_pay1080 (BitVec.ofNat 32 ((grid0.coords t)
    0).val) (iota .tc S512x128 32 [1] iota_S512x128_d1_w32) (View.ld (iblk m c 4 t) (Rect.unit ![512, 0] ![512, 128] inb_S2048x128_S512x128_512_0)))) (k0_pay1091
    (k0_pay1078 (View.ld (iblk m c 0 t) (Rect.unit ![512, 0] ![512, 5120] inb_S2048x5120_S512x5120_512_0)) (iblk m c 1 t)) (k0_pay1079 (View.ld (iblk m c 2 t) (Rect.unit ![512, 0] ![512, 128]
    inb_S2048x128_S512x128_512_0))) (View.ld (iblk m c 3 t) (Rect.unit ![0, 128] ![1, 128] inb_S1x512_S1x128_0_128))) k0_pay1092 (View.ld (iblk m c 3 t) (Rect.unit ![0, 256] ![1,
    128] inb_S1x512_S1x128_0_256))) (k0_pay1099 (k0_pay1078 (View.ld (iblk m c 0 t) (Rect.unit ![512, 0] ![512, 5120] inb_S2048x5120_S512x5120_512_0)) (iblk m c 1 t)) (k0_pay1079
    (View.ld (iblk m c 2 t) (Rect.unit ![512, 0] ![512, 128] inb_S2048x128_S512x128_512_0))) (View.ld (iblk m c 3 t) (Rect.unit ![0, 384] ![1, 128] inb_S1x512_S1x128_0_384)))
    (k0_pay1100 (k0_pay1078 (View.ld (iblk m c 0 t) (Rect.unit ![512, 0] ![512, 5120] inb_S2048x5120_S512x5120_512_0)) (iblk m c 1 t)) (k0_pay1079 (View.ld (iblk m c 2 t) (Rect.unit ![512, 0]
    ![512, 128] inb_S2048x128_S512x128_512_0))) (View.ld (iblk m c 3 t) (Rect.unit ![0, 384] ![1, 128] inb_S1x512_S1x128_0_384)))⟩,
      ⟨Rect.unit (s := S8x2048x128) (k0_off1 (grid0.coords t)) ![1, 512, 128] hb1, k0_pay1077 (k0_pay1054 (grid0.coords t) (View.ld (iblk m c 4 t) (Rect.unit ![0, 0] ![512, 128] inb_S2048x128_S512x128_0_0))) (k0_pay1069 (k0_pay1052 (View.ld (iblk m c 0 t) (Rect.unit ![0, 0]
    ![512, 5120] inb_S2048x5120_S512x5120_0_0)) (iblk m c 1 t)) (k0_pay1053 (View.ld (iblk m c 2 t) (Rect.unit ![0, 0] ![512, 128] inb_S2048x128_S512x128_0_0))) (k0_pay1054 (grid0.coords t)
    (View.ld (iblk m c 4 t) (Rect.unit ![0, 0] ![512, 128] inb_S2048x128_S512x128_0_0))) (k0_pay1059 (k0_pay1048 (View.ld P (Rect.unit (s := S8x2048x128) (k0_off1 (grid0.coords t)) ![1, 512, 128] hb1))) (k0_pay1054 (grid0.coords t) (View.ld (iblk m c 4 t) (Rect.unit ![0, 0] ![512,
    128] inb_S2048x128_S512x128_0_0))) (k0_pay1055 (View.ld (iblk m c 0 t) (Rect.unit ![0, 0] ![512, 5120] inb_S2048x5120_S512x5120_0_0)) (iblk m c 1 t) (View.ld (iblk m c 2 t) (Rect.unit ![0,
    0] ![512, 128] inb_S2048x128_S512x128_0_0))) (View.ld (iblk m c 3 t) (Rect.unit ![0, 0] ![1, 128] inb_S1x512_S1x128_0_0))) (k0_pay1064 (k0_pay1054 (grid0.coords t) (View.ld (iblk m c 4 t)
    (Rect.unit ![0, 0] ![512, 128] inb_S2048x128_S512x128_0_0)))) (k0_pay1065 (k0_pay1052 (View.ld (iblk m c 0 t) (Rect.unit ![0, 0] ![512, 5120]
    inb_S2048x5120_S512x5120_0_0)) (iblk m c 1 t)) (k0_pay1053 (View.ld (iblk m c 2 t) (Rect.unit ![0, 0] ![512, 128] inb_S2048x128_S512x128_0_0))) (View.ld (iblk m c 3 t) (Rect.unit ![0, 128]
    ![1, 128] inb_S1x512_S1x128_0_128))) (View.ld (iblk m c 3 t) (Rect.unit ![0, 256] ![1, 128] inb_S1x512_S1x128_0_256))) (k0_pay1071 (k0_pay1052 (View.ld (iblk m c 0 t)
    (Rect.unit ![0, 0] ![512, 5120] inb_S2048x5120_S512x5120_0_0)) (iblk m c 1 t)) (k0_pay1053 (View.ld (iblk m c 2 t) (Rect.unit ![0, 0] ![512, 128] inb_S2048x128_S512x128_0_0)))
    (View.ld (iblk m c 3 t) (Rect.unit ![0, 384] ![1, 128] inb_S1x512_S1x128_0_384))) (k0_pay1072 (k0_pay1052 (View.ld (iblk m c 0 t) (Rect.unit ![0, 0] ![512, 5120]
    inb_S2048x5120_S512x5120_0_0)) (iblk m c 1 t)) (k0_pay1053 (View.ld (iblk m c 2 t) (Rect.unit ![0, 0] ![512, 128] inb_S2048x128_S512x128_0_0))) (View.ld (iblk m c 3 t) (Rect.unit ![0, 384]
    ![1, 128] inb_S1x512_S1x128_0_384)))⟩]) = gAfter m c t P := by
  have ht := (idx t).2.2.2.2.2.2.2.2.2.2.2
  obtain ⟨o1, o2, o3, o4⟩ := offs t
  funext y
  refine (gs_read v f t hb1 hb2 hb3 hb4 _ _ _ _
    (fun r l => gNew (grid0.coords t) (iblk m c 0 t) (iblk m c 1 t) (iblk m c 2 t) (iblk m c 3 t) (iblk m c 4 t)
      (P (ix3 ⟨t.val / 4, by omega⟩ r l)) r l) ?_ ?_ ?_ ?_ y).trans ?_
  · intro x r hr
    exact (g_block1 _ _ _ _ _ _ _ x r hr).trans (congrArg (fun v => gNew _ _ _ _ _ _ v r (x 2)) (ld_group _ _ _ _ o1 _ x _ rfl hr rfl))
  · intro x r hr
    exact (g_block2 _ _ _ _ _ _ _ x r hr).trans (congrArg (fun v => gNew _ _ _ _ _ _ v r (x 2)) (ld_group _ _ _ _ o2 _ x _ rfl hr rfl))
  · intro x r hr
    exact (g_block3 _ _ _ _ _ _ _ x r hr).trans (congrArg (fun v => gNew _ _ _ _ _ _ v r (x 2)) (ld_group _ _ _ _ o3 _ x _ rfl hr rfl))
  · intro x r hr
    exact (g_block4 _ _ _ _ _ _ _ x r hr).trans (congrArg (fun v => gNew _ _ _ _ _ _ v r (x 2)) (ld_group _ _ _ _ o4 _ x _ rfl hr rfl))
  · unfold gAfter
    rw [hf]

end Cert.FwdIdeal.Hand

end
-- ==== Proof.FwdOut.lean ====
module

public import proofs.«01_k».proof.Proof.FwdLast
public import proofs.«01_k».proof.Proof.FwdRef
public import Idealize.ShloMosaic.Lib.Pipeline.ValueKit

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-- The log-sum-exp block: the logarithm of each row's sum over the lanes. -/
theorem lse_canon (S : Vec Ideal S2048x128 .f32) (y : S2048x128.Idx) :
    View.canon (Val := Elt Ideal) (e := .f32) [⟨Rect.unit ![1920, 0] ![128, 128] inb_S2048x128_S128x128_1920_0, k0_pay989 (View.ld S (Rect.unit ![1920, 0] ![128, 128]
    inb_S2048x128_S128x128_1920_0))⟩, ⟨Rect.unit ![1792, 0] ![128, 128] inb_S2048x128_S128x128_1792_0, k0_pay936 (View.ld S (Rect.unit ![1792, 0]
    ![128, 128] inb_S2048x128_S128x128_1792_0))⟩, ⟨Rect.unit ![1664, 0] ![128, 128] inb_S2048x128_S128x128_1664_0, k0_pay879 (View.ld S (Rect.unit
    ![1664, 0] ![128, 128] inb_S2048x128_S128x128_1664_0))⟩, ⟨Rect.unit ![1536, 0] ![128, 128] inb_S2048x128_S128x128_1536_0, k0_pay823 (View.ld S
    (Rect.unit ![1536, 0] ![128, 128] inb_S2048x128_S128x128_1536_0))⟩, ⟨Rect.unit ![1408, 0] ![128, 128] inb_S2048x128_S128x128_1408_0, k0_pay768
    (k0_pay764 (View.ld S (Rect.unit ![1408, 0] ![128, 128] inb_S2048x128_S128x128_1408_0)))⟩, ⟨Rect.unit ![1280, 0] ![128, 128]
    inb_S2048x128_S128x128_1280_0, k0_pay708 (View.ld S (Rect.unit ![1280, 0] ![128, 128] inb_S2048x128_S128x128_1280_0))⟩, ⟨Rect.unit ![1152, 0]
    ![128, 128] inb_S2048x128_S128x128_1152_0, k0_pay655 (View.ld S (Rect.unit ![1152, 0] ![128, 128] inb_S2048x128_S128x128_1152_0))⟩, ⟨Rect.unit
    ![1024, 0] ![128, 128] inb_S2048x128_S128x128_1024_0, k0_pay598 (View.ld S (Rect.unit ![1024, 0] ![128, 128] inb_S2048x128_S128x128_1024_0))⟩,
    ⟨Rect.unit ![896, 0] ![128, 128] inb_S2048x128_S128x128_896_0, k0_pay542 (View.ld S (Rect.unit ![896, 0] ![128, 128]
    inb_S2048x128_S128x128_896_0))⟩, ⟨Rect.unit ![768, 0] ![128, 128] inb_S2048x128_S128x128_768_0, k0_pay487 (k0_pay483 (View.ld S (Rect.unit ![768,
    0] ![128, 128] inb_S2048x128_S128x128_768_0)))⟩, ⟨Rect.unit ![640, 0] ![128, 128] inb_S2048x128_S128x128_640_0, k0_pay427 (View.ld S (Rect.unit
    ![640, 0] ![128, 128] inb_S2048x128_S128x128_640_0))⟩, ⟨Rect.unit ![512, 0] ![128, 128] inb_S2048x128_S128x128_512_0, k0_pay374 (View.ld S
    (Rect.unit ![512, 0] ![128, 128] inb_S2048x128_S128x128_512_0))⟩, ⟨Rect.unit ![384, 0] ![128, 128] inb_S2048x128_S128x128_384_0, k0_pay317
    (View.ld S (Rect.unit ![384, 0] ![128, 128] inb_S2048x128_S128x128_384_0))⟩, ⟨Rect.unit ![256, 0] ![128, 128] inb_S2048x128_S128x128_256_0,
    k0_pay261 (View.ld S (Rect.unit ![256, 0] ![128, 128] inb_S2048x128_S128x128_256_0))⟩, ⟨Rect.unit ![128, 0] ![128, 128]
    inb_S2048x128_S128x128_128_0, k0_pay206 (k0_pay202 (View.ld S (Rect.unit ![128, 0] ![128, 128] inb_S2048x128_S128x128_128_0)))⟩, ⟨Rect.unit ![0,
    0] ![128, 128] inb_S2048x128_S128x128_0_0, k0_pay146 (View.ld S (Rect.unit ![0, 0] ![128, 128] inb_S2048x128_S128x128_0_0))⟩] y
      = Ideal.log (∑ l : Fin 128, S (ix2 (y 0) l)) := by
  canon_tiles x h
  all_goals
    open_payloads
    pointwise []
    blk_point []
    try exact h1.symm

/-- The loss block: row `128 * y 0 + y 1`'s log-sum-exp less thirty times its sum of label terms. -/
theorem loss_canon (S TL : Vec Ideal S2048x128 .f32) (y : S16x128.Idx) (r : Fin 2048) (hr : r.val = (y 0).val * 128 + (y 1).val) :
    View.canon (Val := Elt Ideal) (e := .f32) [⟨Rect.unit ![15, 0] ![1, 128] inb_S16x128_S1x128_15_0, k0_pay990 (View.ld S (Rect.unit ![1920, 0] ![128, 128]
    inb_S2048x128_S128x128_1920_0)) (View.ld TL (Rect.unit ![1920, 0] ![128, 128] inb_S2048x128_S128x128_1920_0))⟩, ⟨Rect.unit ![14, 0] ![1, 128]
    inb_S16x128_S1x128_14_0, k0_pay937 (View.ld S (Rect.unit ![1792, 0] ![128, 128] inb_S2048x128_S128x128_1792_0)) (View.ld TL (Rect.unit ![1792, 0]
    ![128, 128] inb_S2048x128_S128x128_1792_0))⟩, ⟨Rect.unit ![13, 0] ![1, 128] inb_S16x128_S1x128_13_0, k0_pay880 (View.ld S (Rect.unit ![1664, 0]
    ![128, 128] inb_S2048x128_S128x128_1664_0)) (View.ld TL (Rect.unit ![1664, 0] ![128, 128] inb_S2048x128_S128x128_1664_0))⟩, ⟨Rect.unit ![12, 0]
    ![1, 128] inb_S16x128_S1x128_12_0, k0_pay824 (k0_pay821 (View.ld S (Rect.unit ![1536, 0] ![128, 128] inb_S2048x128_S128x128_1536_0))) (k0_pay822
    (View.ld TL (Rect.unit ![1536, 0] ![128, 128] inb_S2048x128_S128x128_1536_0)))⟩, ⟨Rect.unit ![11, 0] ![1, 128] inb_S16x128_S1x128_11_0, k0_pay769
    (k0_pay764 (View.ld S (Rect.unit ![1408, 0] ![128, 128] inb_S2048x128_S128x128_1408_0))) (View.ld TL (Rect.unit ![1408, 0] ![128, 128]
    inb_S2048x128_S128x128_1408_0))⟩, ⟨Rect.unit ![10, 0] ![1, 128] inb_S16x128_S1x128_10_0, k0_pay709 (View.ld S (Rect.unit ![1280, 0] ![128, 128]
    inb_S2048x128_S128x128_1280_0)) (View.ld TL (Rect.unit ![1280, 0] ![128, 128] inb_S2048x128_S128x128_1280_0))⟩, ⟨Rect.unit ![9, 0] ![1, 128]
    inb_S16x128_S1x128_9_0, k0_pay656 (View.ld S (Rect.unit ![1152, 0] ![128, 128] inb_S2048x128_S128x128_1152_0)) (View.ld TL (Rect.unit ![1152, 0]
    ![128, 128] inb_S2048x128_S128x128_1152_0))⟩, ⟨Rect.unit ![8, 0] ![1, 128] inb_S16x128_S1x128_8_0, k0_pay599 (View.ld S (Rect.unit ![1024, 0]
    ![128, 128] inb_S2048x128_S128x128_1024_0)) (View.ld TL (Rect.unit ![1024, 0] ![128, 128] inb_S2048x128_S128x128_1024_0))⟩, ⟨Rect.unit ![7, 0]
    ![1, 128] inb_S16x128_S1x128_7_0, k0_pay543 (k0_pay540 (View.ld S (Rect.unit ![896, 0] ![128, 128] inb_S2048x128_S128x128_896_0))) (k0_pay541
    (View.ld TL (Rect.unit ![896, 0] ![128, 128] inb_S2048x128_S128x128_896_0)))⟩, ⟨Rect.unit ![6, 0] ![1, 128] inb_S16x128_S1x128_6_0, k0_pay488
    (k0_pay483 (View.ld S (Rect.unit ![768, 0] ![128, 128] inb_S2048x128_S128x128_768_0))) (View.ld TL (Rect.unit ![768, 0] ![128, 128]
    inb_S2048x128_S128x128_768_0))⟩, ⟨Rect.unit ![5, 0] ![1, 128] inb_S16x128_S1x128_5_0, k0_pay428 (View.ld S (Rect.unit ![640, 0] ![128, 128]
    inb_S2048x128_S128x128_640_0)) (View.ld TL (Rect.unit ![640, 0] ![128, 128] inb_S2048x128_S128x128_640_0))⟩, ⟨Rect.unit ![4, 0] ![1, 128]
    inb_S16x128_S1x128_4_0, k0_pay375 (View.ld S (Rect.unit ![512, 0] ![128, 128] inb_S2048x128_S128x128_512_0)) (View.ld TL (Rect.unit ![512, 0]
    ![128, 128] inb_S2048x128_S128x128_512_0))⟩, ⟨Rect.unit ![3, 0] ![1, 128] inb_S16x128_S1x128_3_0, k0_pay318 (View.ld S (Rect.unit ![384, 0] ![128,
    128] inb_S2048x128_S128x128_384_0)) (View.ld TL (Rect.unit ![384, 0] ![128, 128] inb_S2048x128_S128x128_384_0))⟩, ⟨Rect.unit ![2, 0] ![1, 128]
    inb_S16x128_S1x128_2_0, k0_pay262 (k0_pay259 (View.ld S (Rect.unit ![256, 0] ![128, 128] inb_S2048x128_S128x128_256_0))) (k0_pay260 (View.ld TL
    (Rect.unit ![256, 0] ![128, 128] inb_S2048x128_S128x128_256_0)))⟩, ⟨Rect.unit ![1, 0] ![1, 128] inb_S16x128_S1x128_1_0, k0_pay207 (k0_pay202
    (View.ld S (Rect.unit ![128, 0] ![128, 128] inb_S2048x128_S128x128_128_0))) (View.ld TL (Rect.unit ![128, 0] ![128, 128]
    inb_S2048x128_S128x128_128_0))⟩, ⟨Rect.unit ![0, 0] ![1, 128] inb_S16x128_S1x128_0_0, k0_pay147 (View.ld S (Rect.unit ![0, 0] ![128, 128]
    inb_S2048x128_S128x128_0_0)) (View.ld TL (Rect.unit ![0, 0] ![128, 128] inb_S2048x128_S128x128_0_0))⟩] y
      = Ideal.log (∑ l : Fin 128, S (ix2 r l)) - C30 * ∑ l : Fin 128, TL (ix2 r l) := by
  canon_tiles x h
  all_goals
    open_payloads
    pointwise []
    blk_point []

/-! # The last point: the scales from the maxima, the sums and the labels -/

section
variable {F : FTy → Type} [FloatOps F] (gi : BitVec 32) (g g0 g1 g2 g3 g4 g5 g6 g7 : Vec F S1x128x128 .f32) (s l : Vec F S128x128 .f32) (Y : Vec F S128x128 .i32)

/-- The scale of each entry of a block, as the kernel takes it. -/
def scT (v : FVec F S128x128 .f32) : FVec F S128x128 .f32 :=
  k0_pay1042 v (fptosi 32 (floor (divf (log v) (log (broadcast S128x128 (Scalar.ofBits .f32 0x40000000#32))))))
    (shli (addi (fptosi 32 (floor (divf (log v) (log (broadcast S128x128 (Scalar.ofBits .f32 0x40000000#32)))))) (broadcast S128x128 127#32))
      (broadcast S128x128 23#32))

/-- The scaled size of group `gi`'s gradients, for each row of a block. -/
def vT : FVec F S128x128 .f32 :=
  mulf (select (cmpi .eq (k0_pay992 Y) (broadcast S128x128 gi))
      (broadcastTo S128x128 (shapeCast S128x1 (maximumf (divf (k0_pay141 g) (k0_pay985 s)) (k0_pay991 s l)) shapeCasts_S128x1_S128x1) broadcasts_S128x1_S128x128)
      (broadcastTo S128x128 (shapeCast S128x1 (divf (k0_pay141 g) (k0_pay985 s)) shapeCasts_S128x1_S128x1) broadcasts_S128x1_S128x128))
    (broadcast S128x128 (Scalar.ofBits .f32 0x37924925#32))

/-- The block stored for a group and 128 rows. -/
def p7 : FVec F S1x128x128 .f32 := shapeCast S1x128x128 (scT (vT gi g s l Y)) shapeCasts_S128x128_S1x128x128

/-- The block of all eight groups' scales for 128 rows. -/
def p9 : FVec F S128x8 .f32 :=
  extractStridedSlice S128x8 ![0, 0]
    (select (cmpi .eq (iota .tc S128x128 32 [1] iota_S128x128_d1_w32) (broadcast S128x128 7#32)) (scT (vT 7#32 g7 s l Y))
    (select (cmpi .eq (iota .tc S128x128 32 [1] iota_S128x128_d1_w32) (broadcast S128x128 6#32)) (scT (vT 6#32 g6 s l Y))
    (select (cmpi .eq (iota .tc S128x128 32 [1] iota_S128x128_d1_w32) (broadcast S128x128 5#32)) (scT (vT 5#32 g5 s l Y))
    (select (cmpi .eq (iota .tc S128x128 32 [1] iota_S128x128_d1_w32) (broadcast S128x128 4#32)) (scT (vT 4#32 g4 s l Y))
    (select (cmpi .eq (iota .tc S128x128 32 [1] iota_S128x128_d1_w32) (broadcast S128x128 3#32)) (scT (vT 3#32 g3 s l Y))
    (select (cmpi .eq (iota .tc S128x128 32 [1] iota_S128x128_d1_w32) (broadcast S128x128 2#32)) (scT (vT 2#32 g2 s l Y))
    (select (cmpi .eq (iota .tc S128x128 32 [1] iota_S128x128_d1_w32) (broadcast S128x128 1#32)) (scT (vT 1#32 g1 s l Y))
    (select (cmpi .eq (iota .tc S128x128 32 [1] iota_S128x128_d1_w32) (broadcast S128x128 0#32)) (scT (vT 0#32 g0 s l Y))
      k0_pay993)))))))) slices_S128x128_o0_0_S128x8

end

/-- The scale of a row in group `gi`, from the group's maximum `A`, the row's sum `s`, its label's tanh value `l` and its label `b`. -/
def outV (gi : BitVec 32) (A s l : EReal) (b : BitVec 32) : EReal :=
  scaleK (Scalar.select (IntOp.cmpi .eq (IntOp.shrui ArithUnit.vector b 11#32) gi)
    (max (Ideal.div A s) (FloatOps.absf (F := Ideal) (φ := .f32) (Ideal.exp (C30 * l - Ideal.log s) - 1) * (1 - l * l))) (Ideal.div A s) * CInv)

theorem scT_apply (v : FVec Ideal S128x128 .f32) (y : S128x128.Idx) : scT v y = scaleK (v y) := by
  pointwise [scT, k0_pay1042]
  rfl

theorem vT_apply (gi : BitVec 32) (g : Vec Ideal S1x128x128 .f32) (s l : Vec Ideal S128x128 .f32) (Y : Vec Ideal S128x128 .i32) (y : S128x128.Idx) :
    scaleK (vT gi g s l Y y) = outV gi (Finset.fold max NInf (fun k : Fin 128 => g (ix3 0 (y 0) k)) Finset.univ) (∑ k : Fin 128, s (ix2 (y 0) k))
      (∑ k : Fin 128, l (ix2 (y 0) k)) (Y y) := by
  unfold outV
  refine congrArg scaleK ?_
  pointwise [vT, k0_pay992, k0_pay141, k0_pay985, k0_pay991, k0_pay988, k0_pay987, k0_pay986]

/-- A load of 128 rows of the sums reads those rows, -/
theorem ld_rows {e : EltTy} (S : S2048x128.Idx → Elt Ideal e) (o : ℕ) (hb) (a k : Fin 128) (r : Fin 2048) (hr : r.val = o + a.val) :
    View.ld (Val := Elt Ideal) (e' := e) S (Rect.unit (s := S2048x128) ![o, 0] ![128, 128] hb) (ix2 a k) = S (ix2 r k) :=
  congrArg S ((Rect.unit (s := S2048x128) ![o, 0] ![128, 128] hb).emb_eq_of_coords (ix2 a k) (ix2 r k) (by
    intro d; fin_cases d
    · show r.val = o + 1 * a.val; omega
    · show k.val = 0 + 1 * k.val; omega))

/-- and a load of one group's maxima those of the group. -/
theorem ld_max {e : EltTy} (G : S8x2048x128.Idx → Elt Ideal e) (g o : ℕ) (hb) (a k : Fin 128) (q : Fin 8) (r : Fin 2048) (hq : q.val = g) (hr : r.val = o + a.val) :
    View.ld (Val := Elt Ideal) (e' := e) G (Rect.unit (s := S8x2048x128) ![g, o, 0] ![1, 128, 128] hb) (ix3 0 a k) = G (ix3 q r k) :=
  congrArg G ((Rect.unit (s := S8x2048x128) ![g, o, 0] ![1, 128, 128] hb).emb_eq_of_coords (ix3 0 a k) (ix3 q r k) (by
    intro d; fin_cases d
    · show q.val = g + 1 * 0; omega
    · show r.val = o + 1 * a.val; omega
    · show k.val = 0 + 1 * k.val; omega))

variable (S TL : Vec Ideal S2048x128 .f32) (Y : Vec Ideal S2048x128 .i32) (G : Vec Ideal S8x2048x128 .f32)

/-- The scale of row `r` in group `q`, the label read in lane `l`. -/
def RT (q : Fin 8) (r : Fin 2048) (l : Fin 128) : EReal :=
  outV (BitVec.ofNat 32 q.val) (Finset.fold max NInf (fun k : Fin 128 => G (ix3 q r k)) Finset.univ) (∑ k : Fin 128, S (ix2 r k))
    (∑ k : Fin 128, TL (ix2 r k)) (Y (ix2 r l))

/-- One entry of a block of scales. -/
theorem vT_ld (g o : ℕ) (hb hg) (a l : Fin 128) (q : Fin 8) (r : Fin 2048) (hq : q.val = g) (hr : r.val = o + a.val) :
    scT (vT (BitVec.ofNat 32 g) (View.ld G (Rect.unit (s := S8x2048x128) ![g, o, 0] ![1, 128, 128] hg)) (View.ld S (Rect.unit (s := S2048x128) ![o, 0] ![128, 128] hb))
      (View.ld TL (Rect.unit (s := S2048x128) ![o, 0] ![128, 128] hb)) (View.ld Y (Rect.unit (s := S2048x128) ![o, 0] ![128, 128] hb))) (ix2 a l)
      = RT S TL Y G q r l := by
  subst hq
  rw [scT_apply, vT_apply]
  unfold RT
  have e1 : (fun k : Fin 128 => View.ld G (Rect.unit (s := S8x2048x128) ![q.val, o, 0] ![1, 128, 128] hg) (ix3 0 a k)) = fun k => G (ix3 q r k) :=
    funext fun k => ld_max G q.val o hg a k q r rfl hr
  have e2 : (∑ k : Fin 128, View.ld S (Rect.unit (s := S2048x128) ![o, 0] ![128, 128] hb) (ix2 a k)) = ∑ k : Fin 128, S (ix2 r k) :=
    Finset.sum_congr rfl fun k _ => ld_rows S o hb a k r hr
  have e3 : (∑ k : Fin 128, View.ld TL (Rect.unit (s := S2048x128) ![o, 0] ![128, 128] hb) (ix2 a k)) = ∑ k : Fin 128, TL (ix2 r k) :=
    Finset.sum_congr rfl fun k _ => ld_rows TL o hb a k r hr
  have e4 := ld_rows Y o hb a l r hr
  exact congr (congr (congr (congrArg (outV _) (congrArg (fun f => Finset.fold max NInf f Finset.univ) e1)) e2) e3) e4

/-- One group's block of scales, -/
theorem p7_apply (g o : ℕ) (hb hg) (hgl : g < 8) (x : S1x128x128.Idx) :
    p7 (BitVec.ofNat 32 g) (View.ld G (Rect.unit (s := S8x2048x128) ![g, o, 0] ![1, 128, 128] hg)) (View.ld S (Rect.unit (s := S2048x128) ![o, 0] ![128, 128] hb))
      (View.ld TL (Rect.unit (s := S2048x128) ![o, 0] ![128, 128] hb)) (View.ld Y (Rect.unit (s := S2048x128) ![o, 0] ![128, 128] hb)) x
      = (fun y : S8x2048x128.Idx => RT S TL Y G (y 0) (y 1) (y 2)) ((Rect.unit (s := S8x2048x128) ![g, o, 0] ![1, 128, 128] hg).emb x) := by
  have x0 : (x 0).val < 1 := (x 0).isLt
  have e : ∀ v : FVec Ideal S128x128 .f32, shapeCast S1x128x128 v shapeCasts_S128x128_S1x128x128 x = v (ix2 (x 1) (x 2)) := by
    intro v
    pointwise []
  unfold p7
  rw [e]
  have k0 : (((Rect.unit (s := S8x2048x128) ![g, o, 0] ![1, 128, 128] hg).emb x) 0).val = g := by
    show g + 1 * (x 0).val = g; omega
  have k1 : (((Rect.unit (s := S8x2048x128) ![g, o, 0] ![1, 128, 128] hg).emb x) 1).val = o + (x 1).val := by
    show o + 1 * (x 1).val = _; omega
  have k2 : (((Rect.unit (s := S8x2048x128) ![g, o, 0] ![1, 128, 128] hg).emb x) 2) = x 2 := by
    apply Fin.ext
    show 0 + 1 * (x 2).val = _; omega
  exact (vT_ld S TL Y G g o hb hg (x 1) (x 2) _ _ k0 k1).trans (congrArg (RT S TL Y G _ _) k2.symm)

/-- A choice by a lane's number. -/
theorem sel_lane {α : Type} (n k : ℕ) (hn : n < 8) (hk : k < 8) (x z : α) :
    Scalar.select (IntOp.cmpi .eq (BitVec.ofNat 32 n) (BitVec.ofNat 32 k)) x z = if n = k then x else z := by
  interval_cases n <;> interval_cases k <;> rfl

/-- The eight groups' values, chosen by the lane's number. -/
theorem pick {α : Type} (n : ℕ) (hn : n < 8) (a0 a1 a2 a3 a4 a5 a6 a7 z R : α) (h0 : n = 0 → a0 = R) (h1 : n = 1 → a1 = R) (h2 : n = 2 → a2 = R)
    (h3 : n = 3 → a3 = R) (h4 : n = 4 → a4 = R) (h5 : n = 5 → a5 = R) (h6 : n = 6 → a6 = R) (h7 : n = 7 → a7 = R) :
    Scalar.select (IntOp.cmpi .eq (BitVec.ofNat 32 n) 7#32) a7 (Scalar.select (IntOp.cmpi .eq (BitVec.ofNat 32 n) 6#32) a6
      (Scalar.select (IntOp.cmpi .eq (BitVec.ofNat 32 n) 5#32) a5 (Scalar.select (IntOp.cmpi .eq (BitVec.ofNat 32 n) 4#32) a4
      (Scalar.select (IntOp.cmpi .eq (BitVec.ofNat 32 n) 3#32) a3 (Scalar.select (IntOp.cmpi .eq (BitVec.ofNat 32 n) 2#32) a2
      (Scalar.select (IntOp.cmpi .eq (BitVec.ofNat 32 n) 1#32) a1 (Scalar.select (IntOp.cmpi .eq (BitVec.ofNat 32 n) 0#32) a0 z))))))) = R := by
  rw [sel_lane n 7 hn (by decide), sel_lane n 6 hn (by decide), sel_lane n 5 hn (by decide), sel_lane n 4 hn (by decide),
    sel_lane n 3 hn (by decide), sel_lane n 2 hn (by decide), sel_lane n 1 hn (by decide), sel_lane n 0 hn (by decide)]
  split_ifs with c7 c6 c5 c4 c3 c2 c1 c0
  · exact h7 c7
  · exact h6 c6
  · exact h5 c5
  · exact h4 c4
  · exact h3 c3
  · exact h2 c2
  · exact h1 c1
  · exact h0 c0
  · omega

/-- and the block of the table of scales. -/
theorem p9_apply (o : ℕ) (hb ho h0 h1 h2 h3 h4 h5 h6 h7) (x : S128x8.Idx) :
    p9 (View.ld G (Rect.unit (s := S8x2048x128) ![0, o, 0] ![1, 128, 128] h0)) (View.ld G (Rect.unit (s := S8x2048x128) ![1, o, 0] ![1, 128, 128] h1))
      (View.ld G (Rect.unit (s := S8x2048x128) ![2, o, 0] ![1, 128, 128] h2)) (View.ld G (Rect.unit (s := S8x2048x128) ![3, o, 0] ![1, 128, 128] h3))
      (View.ld G (Rect.unit (s := S8x2048x128) ![4, o, 0] ![1, 128, 128] h4)) (View.ld G (Rect.unit (s := S8x2048x128) ![5, o, 0] ![1, 128, 128] h5))
      (View.ld G (Rect.unit (s := S8x2048x128) ![6, o, 0] ![1, 128, 128] h6)) (View.ld G (Rect.unit (s := S8x2048x128) ![7, o, 0] ![1, 128, 128] h7))
      (View.ld S (Rect.unit (s := S2048x128) ![o, 0] ![128, 128] hb))
      (View.ld TL (Rect.unit (s := S2048x128) ![o, 0] ![128, 128] hb)) (View.ld Y (Rect.unit (s := S2048x128) ![o, 0] ![128, 128] hb)) x
      = (fun y : S2048x8.Idx => RT S TL Y G (y 1) (y 0) ⟨(y 1).val, Nat.lt_trans (y 1).isLt (by decide)⟩) ((Rect.unit (s := S2048x8) ![o, 0] ![128, 8] ho).emb x) := by
  have x1 : (x 1).val < 8 := (x 1).isLt
  have l1 : (x 1).val < 128 := by omega
  have k0 : (((Rect.unit (s := S2048x8) ![o, 0] ![128, 8] ho).emb x) 0).val = o + (x 0).val := by
    show o + 1 * (x 0).val = _; omega
  have k1 : (((Rect.unit (s := S2048x8) ![o, 0] ![128, 8] ho).emb x) 1) = x 1 := by
    apply Fin.ext
    show 0 + 1 * (x 1).val = _; omega
  have e := fun (g : ℕ) (hg) (h : (x 1).val = g) => vT_ld S TL Y G g o hb hg (x 0) ⟨(x 1).val, l1⟩ (x 1) _ h k0
  have hR : ∀ (q q' : Fin 8) (h : q = q') (r : Fin 2048), RT S TL Y G q r ⟨q.val, Nat.lt_trans q.isLt (by decide)⟩
      = RT S TL Y G q' r ⟨q'.val, Nat.lt_trans q'.isLt (by decide)⟩ := by
    intro q q' h r; subst h; rfl
  refine Eq.trans ?_ (hR _ _ k1.symm _)
  unfold p9
  pointwise []
  exact pick (x 1).val x1 _ _ _ _ _ _ _ _ _ _ (e 0 h0) (e 1 h1) (e 2 h2) (e 3 h3) (e 4 h4) (e 5 h5) (e 6 h6) (e 7 h7)
end Cert.FwdIdeal.Hand

end
-- ==== Proof.FwdGs.lean ====
module

public import proofs.«01_k».proof.Proof.FwdOut
public import Idealize.ShloMosaic.Lib.Pipeline.ValueKit

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

variable (S TL : Vec Ideal S2048x128 .f32) (Y : Vec Ideal S2048x128 .i32) (G : Vec Ideal S8x2048x128 .f32)

/-- The eight blocks stored for 128 rows, newest first. -/
def rowP (o : ℕ) (h0 : ∀ a, (![0, o, 0] : Fin S8x2048x128.rank → ℕ) a + ![1, 128, 128] a ≤ S8x2048x128.size a) (h1 : ∀ a, (![1, o, 0] : Fin S8x2048x128.rank → ℕ) a + ![1, 128, 128] a ≤ S8x2048x128.size a) (h2 : ∀ a, (![2, o, 0] : Fin S8x2048x128.rank → ℕ) a + ![1, 128, 128] a ≤ S8x2048x128.size a) (h3 : ∀ a, (![3, o, 0] : Fin S8x2048x128.rank → ℕ) a + ![1, 128, 128] a ≤ S8x2048x128.size a) (h4 : ∀ a, (![4, o, 0] : Fin S8x2048x128.rank → ℕ) a + ![1, 128, 128] a ≤ S8x2048x128.size a) (h5 : ∀ a, (![5, o, 0] : Fin S8x2048x128.rank → ℕ) a + ![1, 128, 128] a ≤ S8x2048x128.size a) (h6 : ∀ a, (![6, o, 0] : Fin S8x2048x128.rank → ℕ) a + ![1, 128, 128] a ≤ S8x2048x128.size a) (h7 : ∀ a, (![7, o, 0] : Fin S8x2048x128.rank → ℕ) a + ![1, 128, 128] a ≤ S8x2048x128.size a)
    (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, o, 0] ![1, 128, 128] h7, p7 7#32 g7 s l Y⟩,
  ⟨Rect.unit ![6, o, 0] ![1, 128, 128] h6, p7 6#32 g6 s l Y⟩,
  ⟨Rect.unit ![5, o, 0] ![1, 128, 128] h5, p7 5#32 g5 s l Y⟩,
  ⟨Rect.unit ![4, o, 0] ![1, 128, 128] h4, p7 4#32 g4 s l Y⟩,
  ⟨Rect.unit ![3, o, 0] ![1, 128, 128] h3, p7 3#32 g3 s l Y⟩,
  ⟨Rect.unit ![2, o, 0] ![1, 128, 128] h2, p7 2#32 g2 s l Y⟩,
  ⟨Rect.unit ![1, o, 0] ![1, 128, 128] h1, p7 1#32 g1 s l Y⟩,
  ⟨Rect.unit ![0, o, 0] ![1, 128, 128] h0, p7 0#32 g0 s l Y⟩]

/-- The blocks stored for rows 1920 to 2047, as the kernel computes them, -/
def row1920 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1920, 0] ![1, 128, 128] inb_S8x2048x128_S1x128x128_7_1920_0, k0_pay1043 (F := Ideal) (k0_pay1039 (k0_pay141 g7) (k0_pay985 s)
  (k0_pay991 s l) (k0_pay992 Y)) (k0_pay1040 (k0_pay141 g7) (k0_pay985 s) (k0_pay991 s l) (k0_pay992 Y)) (k0_pay1041 (k0_pay141 g7) (k0_pay985 s)
  (k0_pay991 s l) (k0_pay992 Y))⟩,
  ⟨Rect.unit ![6, 1920, 0] ![1, 128, 128] inb_S8x2048x128_S1x128x128_6_1920_0, k0_pay1037 (F := Ideal) (k0_pay1033 (k0_pay140 g6) (k0_pay985 s)
  (k0_pay991 s l) (k0_pay992 Y)) (k0_pay1034 (k0_pay140 g6) (k0_pay985 s) (k0_pay991 s l) (k0_pay992 Y)) k0_pay1035⟩,
  ⟨Rect.unit ![5, 1920, 0] ![1, 128, 128] inb_S8x2048x128_S1x128x128_5_1920_0, k0_pay1031 (F := Ideal) (k0_pay1028 (k0_pay139 g5) (k0_pay985 s)
  (k0_pay991 s l) (k0_pay992 Y)) (k0_pay1029 (k0_pay139 g5) (k0_pay985 s) (k0_pay991 s l) (k0_pay992 Y)) 0#32⟩,
  ⟨Rect.unit ![4, 1920, 0] ![1, 128, 128] inb_S8x2048x128_S1x128x128_4_1920_0, k0_pay1025 (F := Ideal) (k0_pay1024 (k0_pay1021 (k0_pay992 Y))
  (k0_pay1022 (k0_pay138 g4) (k0_pay985 s) (k0_pay991 s l)) (k0_pay1023 (k0_pay138 g4) (k0_pay985 s)))⟩,
  ⟨Rect.unit ![3, 1920, 0] ![1, 128, 128] inb_S8x2048x128_S1x128x128_3_1920_0, k0_pay1018 (F := Ideal) (k0_pay1014 (k0_pay137 g3) (k0_pay985 s)
  (k0_pay991 s l) (k0_pay992 Y)) (k0_pay1015 (k0_pay137 g3) (k0_pay985 s) (k0_pay991 s l) (k0_pay992 Y)) k0_pay1016⟩,
  ⟨Rect.unit ![2, 1920, 0] ![1, 128, 128] inb_S8x2048x128_S1x128x128_2_1920_0, k0_pay1012 (F := Ideal) (k0_pay1004 (k0_pay136 g2) (k0_pay985 s)
  (k0_pay991 s l) (k0_pay992 Y)) (k0_pay1005 (k0_pay136 g2) (k0_pay985 s) (k0_pay991 s l) (k0_pay992 Y)) (k0_pay1007 (k0_pay136 g2) (k0_pay985 s)
  (k0_pay991 s l) (k0_pay992 Y)) (k0_pay1008 (k0_pay136 g2) (k0_pay985 s) (k0_pay991 s l) (k0_pay992 Y)) (k0_pay1009 (k0_pay136 g2) (k0_pay985 s)
  (k0_pay991 s l) (k0_pay992 Y)) (k0_pay1010 (k0_pay136 g2) (k0_pay985 s) (k0_pay991 s l) (k0_pay992 Y))⟩,
  ⟨Rect.unit ![1, 1920, 0] ![1, 128, 128] inb_S8x2048x128_S1x128x128_1_1920_0, k0_pay1002 (F := Ideal) (k0_pay999 (k0_pay135 g1) (k0_pay985 s)
  (k0_pay991 s l) (k0_pay992 Y)) (k0_pay1000 (k0_pay135 g1) (k0_pay985 s) (k0_pay991 s l) (k0_pay992 Y))⟩,
  ⟨Rect.unit ![0, 1920, 0] ![1, 128, 128] inb_S8x2048x128_S1x128x128_0_1920_0, k0_pay997 (F := Ideal) (k0_pay996 (k0_pay991 s l) (k0_pay994 (k0_pay134
  g0) s) (k0_pay995 Y))⟩]

/-- are the blocks of scales. -/
theorem row1920_eq (g0 g1 g2 g3 g4 g5 g6 g7 : Vec Ideal S1x128x128 .f32) (s l : Vec Ideal S128x128 .f32) (Y : Vec Ideal S128x128 .i32) :
    row1920 g0 g1 g2 g3 g4 g5 g6 g7 s l Y = rowP 1920 inb_S8x2048x128_S1x128x128_0_1920_0 inb_S8x2048x128_S1x128x128_1_1920_0 inb_S8x2048x128_S1x128x128_2_1920_0 inb_S8x2048x128_S1x128x128_3_1920_0 inb_S8x2048x128_S1x128x128_4_1920_0 inb_S8x2048x128_S1x128x128_5_1920_0 inb_S8x2048x128_S1x128x128_6_1920_0 inb_S8x2048x128_S1x128x128_7_1920_0 g0 g1 g2 g3 g4 g5 g6 g7 s l Y := rfl

/-- The blocks stored for rows 1792 to 1919, as the kernel computes them, -/
def row1792 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1792, 0] ![1, 128, 128] inb_S8x2048x128_S1x128x128_7_1792_0, k0_pay982 (F := Ideal) (k0_pay979 (k0_pay133 (k0_pay132 g7)) (k0_pay932
  s) (k0_pay938 s l) (k0_pay939 Y)) (k0_pay980 (k0_pay133 (k0_pay132 g7)) (k0_pay932 s) (k0_pay938 s l) (k0_pay939 Y))⟩,
  ⟨Rect.unit ![6, 1792, 0] ![1, 128, 128] inb_S8x2048x128_S1x128x128_6_1792_0, k0_pay977 (F := Ideal) (k0_pay972 (k0_pay131 g6) (k0_pay932 s)
  (k0_pay938 s l) (k0_pay939 Y)) (k0_pay973 (k0_pay131 g6) (k0_pay932 s) (k0_pay938 s l) (k0_pay939 Y)) (k0_pay974 (k0_pay131 g6) (k0_pay932 s)
  (k0_pay938 s l) (k0_pay939 Y)) (k0_pay975 (k0_pay131 g6) (k0_pay932 s) (k0_pay938 s l) (k0_pay939 Y))⟩,
  ⟨Rect.unit ![5, 1792, 0] ![1, 128, 128] inb_S8x2048x128_S1x128x128_5_1792_0, k0_pay970 (F := Ideal) (k0_pay967 (k0_pay130 g5) (k0_pay932 s)
  (k0_pay938 s l) (k0_pay939 Y)) (k0_pay968 (k0_pay130 g5) (k0_pay932 s) (k0_pay938 s l) (k0_pay939 Y)) 127#32⟩,
  ⟨Rect.unit ![4, 1792, 0] ![1, 128, 128] inb_S8x2048x128_S1x128x128_4_1792_0, k0_pay964 (F := Ideal) (k0_pay962 (k0_pay129 g4) (k0_pay932 s)
  (k0_pay938 s l) (k0_pay939 Y))⟩,
  ⟨Rect.unit ![3, 1792, 0] ![1, 128, 128] inb_S8x2048x128_S1x128x128_3_1792_0, k0_pay960 (F := Ideal) (k0_pay958 (k0_pay128 g3) (k0_pay932 s)
  (k0_pay938 s l) (k0_pay939 Y))⟩,
  ⟨Rect.unit ![2, 1792, 0] ![1, 128, 128] inb_S8x2048x128_S1x128x128_2_1792_0, k0_pay956 (F := Ideal) (k0_pay952 (k0_pay127 g2) (k0_pay932 s)
  (k0_pay938 s l) (k0_pay939 Y)) (k0_pay953 (k0_pay127 g2) (k0_pay932 s) (k0_pay938 s l) (k0_pay939 Y)) (k0_pay954 (k0_pay127 g2) (k0_pay932 s)
  (k0_pay938 s l) (k0_pay939 Y)) 23#32⟩,
  ⟨Rect.unit ![1, 1792, 0] ![1, 128, 128] inb_S8x2048x128_S1x128x128_1_1792_0, k0_pay950 (F := Ideal) (k0_pay947 (k0_pay126 g1) (k0_pay932 s)
  (k0_pay938 s l) (k0_pay939 Y)) (k0_pay948 (k0_pay126 g1) (k0_pay932 s) (k0_pay938 s l) (k0_pay939 Y))⟩,
  ⟨Rect.unit ![0, 1792, 0] ![1, 128, 128] inb_S8x2048x128_S1x128x128_0_1792_0, k0_pay945 (F := Ideal) (k0_pay941 (k0_pay125 g0) (k0_pay932 s)
  (k0_pay938 s l) Y) (k0_pay942 (k0_pay125 g0) (k0_pay932 s) (k0_pay938 s l) Y) k0_pay943⟩]

/-- are the blocks of scales. -/
theorem row1792_eq (g0 g1 g2 g3 g4 g5 g6 g7 : Vec Ideal S1x128x128 .f32) (s l : Vec Ideal S128x128 .f32) (Y : Vec Ideal S128x128 .i32) :
    row1792 g0 g1 g2 g3 g4 g5 g6 g7 s l Y = rowP 1792 inb_S8x2048x128_S1x128x128_0_1792_0 inb_S8x2048x128_S1x128x128_1_1792_0 inb_S8x2048x128_S1x128x128_2_1792_0 inb_S8x2048x128_S1x128x128_3_1792_0 inb_S8x2048x128_S1x128x128_4_1792_0 inb_S8x2048x128_S1x128x128_5_1792_0 inb_S8x2048x128_S1x128x128_6_1792_0 inb_S8x2048x128_S1x128x128_7_1792_0 g0 g1 g2 g3 g4 g5 g6 g7 s l Y := rfl

/-- The blocks stored for rows 1664 to 1791, as the kernel computes them, -/
def row1664 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1664, 0] ![1, 128, 128] inb_S8x2048x128_S1x128x128_7_1664_0, k0_pay930 (F := Ideal) (k0_pay928 (k0_pay881 (k0_pay876 l) (k0_pay877
  s) (k0_pay878 l)) (k0_pay882 Y) (k0_pay927 (k0_pay124 g7) (k0_pay875 s)) 7#32)⟩,
  ⟨Rect.unit ![6, 1664, 0] ![1, 128, 128] inb_S8x2048x128_S1x128x128_6_1664_0, k0_pay925 (F := Ideal) (k0_pay921 (k0_pay123 g6) (k0_pay875 s)
  (k0_pay881 (k0_pay876 l) (k0_pay877 s) (k0_pay878 l)) (k0_pay882 Y)) (k0_pay922 (k0_pay123 g6) (k0_pay875 s) (k0_pay881 (k0_pay876 l) (k0_pay877 s)
  (k0_pay878 l)) (k0_pay882 Y)) k0_pay923⟩,
  ⟨Rect.unit ![5, 1664, 0] ![1, 128, 128] inb_S8x2048x128_S1x128x128_5_1664_0, k0_pay919 (F := Ideal) (k0_pay913 (k0_pay122 g5) (k0_pay875 s)
  (k0_pay881 (k0_pay876 l) (k0_pay877 s) (k0_pay878 l)) (k0_pay882 Y)) (k0_pay914 (k0_pay122 g5) (k0_pay875 s) (k0_pay881 (k0_pay876 l) (k0_pay877 s)
  (k0_pay878 l)) (k0_pay882 Y)) (k0_pay915 (k0_pay122 g5) (k0_pay875 s) (k0_pay881 (k0_pay876 l) (k0_pay877 s) (k0_pay878 l)) (k0_pay882 Y))
  (k0_pay916 (k0_pay122 g5) (k0_pay875 s) (k0_pay881 (k0_pay876 l) (k0_pay877 s) (k0_pay878 l)) (k0_pay882 Y)) k0_pay917⟩,
  ⟨Rect.unit ![4, 1664, 0] ![1, 128, 128] inb_S8x2048x128_S1x128x128_4_1664_0, k0_pay911 (F := Ideal) (k0_pay908 (k0_pay121 g4) (k0_pay875 s)
  (k0_pay881 (k0_pay876 l) (k0_pay877 s) (k0_pay878 l)) (k0_pay882 Y)) (k0_pay909 (k0_pay121 g4) (k0_pay875 s) (k0_pay881 (k0_pay876 l) (k0_pay877 s)
  (k0_pay878 l)) (k0_pay882 Y))⟩,
  ⟨Rect.unit ![3, 1664, 0] ![1, 128, 128] inb_S8x2048x128_S1x128x128_3_1664_0, k0_pay905 (F := Ideal) (k0_pay902 (k0_pay120 g3) (k0_pay875 s)
  (k0_pay881 (k0_pay876 l) (k0_pay877 s) (k0_pay878 l)) (k0_pay882 Y)) k0_pay903⟩,
  ⟨Rect.unit ![2, 1664, 0] ![1, 128, 128] inb_S8x2048x128_S1x128x128_2_1664_0, k0_pay899 (F := Ideal) (k0_pay896 (k0_pay119 g2) (k0_pay875 s)
  (k0_pay881 (k0_pay876 l) (k0_pay877 s) (k0_pay878 l)) (k0_pay882 Y)) k0_pay897⟩,
  ⟨Rect.unit ![1, 1664, 0] ![1, 128, 128] inb_S8x2048x128_S1x128x128_1_1664_0, k0_pay894 (F := Ideal) (k0_pay890 (k0_pay118 g1) (k0_pay875 s)
  (k0_pay881 (k0_pay876 l) (k0_pay877 s) (k0_pay878 l)) (k0_pay882 Y)) (k0_pay891 (k0_pay118 g1) (k0_pay875 s) (k0_pay881 (k0_pay876 l) (k0_pay877 s)
  (k0_pay878 l)) (k0_pay882 Y)) (k0_pay892 (k0_pay118 g1) (k0_pay875 s) (k0_pay881 (k0_pay876 l) (k0_pay877 s) (k0_pay878 l)) (k0_pay882 Y))⟩,
  ⟨Rect.unit ![0, 1664, 0] ![1, 128, 128] inb_S8x2048x128_S1x128x128_0_1664_0, k0_pay888 (F := Ideal) (k0_pay884 (k0_pay117 (k0_pay116 g0)) (k0_pay875
  s) (k0_pay876 l) (k0_pay877 s) (k0_pay878 l) Y) (k0_pay885 (k0_pay117 (k0_pay116 g0)) (k0_pay875 s) (k0_pay876 l) (k0_pay877 s) (k0_pay878 l) Y)
  k0_pay886⟩]

/-- are the blocks of scales. -/
theorem row1664_eq (g0 g1 g2 g3 g4 g5 g6 g7 : Vec Ideal S1x128x128 .f32) (s l : Vec Ideal S128x128 .f32) (Y : Vec Ideal S128x128 .i32) :
    row1664 g0 g1 g2 g3 g4 g5 g6 g7 s l Y = rowP 1664 inb_S8x2048x128_S1x128x128_0_1664_0 inb_S8x2048x128_S1x128x128_1_1664_0 inb_S8x2048x128_S1x128x128_2_1664_0 inb_S8x2048x128_S1x128x128_3_1664_0 inb_S8x2048x128_S1x128x128_4_1664_0 inb_S8x2048x128_S1x128x128_5_1664_0 inb_S8x2048x128_S1x128x128_6_1664_0 inb_S8x2048x128_S1x128x128_7_1664_0 g0 g1 g2 g3 g4 g5 g6 g7 s l Y := rfl

/-- The blocks stored for rows 1536 to 1663, as the kernel computes them, -/
def row1536 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1536, 0] ![1, 128, 128] inb_S8x2048x128_S1x128x128_7_1536_0, k0_pay873 (F := Ideal) (k0_pay870 (k0_pay115 g7) (k0_pay819 s)
  (k0_pay825 (k0_pay820 l) (k0_pay821 s) (k0_pay822 l)) (k0_pay826 Y)) (k0_pay871 (k0_pay115 g7) (k0_pay819 s) (k0_pay825 (k0_pay820 l) (k0_pay821 s)
  (k0_pay822 l)) (k0_pay826 Y))⟩,
  ⟨Rect.unit ![6, 1536, 0] ![1, 128, 128] inb_S8x2048x128_S1x128x128_6_1536_0, k0_pay868 (F := Ideal) (k0_pay867 (k0_pay825 (k0_pay820 l) (k0_pay821
  s) (k0_pay822 l)) (k0_pay865 (k0_pay114 g6) (k0_pay819 s)) (k0_pay866 (k0_pay826 Y)))⟩,
  ⟨Rect.unit ![5, 1536, 0] ![1, 128, 128] inb_S8x2048x128_S1x128x128_5_1536_0, k0_pay863 (F := Ideal) (k0_pay860 (k0_pay113 g5) (k0_pay819 s)
  (k0_pay825 (k0_pay820 l) (k0_pay821 s) (k0_pay822 l)) (k0_pay826 Y)) (k0_pay861 (k0_pay113 g5) (k0_pay819 s) (k0_pay825 (k0_pay820 l) (k0_pay821 s)
  (k0_pay822 l)) (k0_pay826 Y))⟩,
  ⟨Rect.unit ![4, 1536, 0] ![1, 128, 128] inb_S8x2048x128_S1x128x128_4_1536_0, k0_pay858 (F := Ideal) (k0_pay851 (k0_pay112 g4) (k0_pay819 s)
  (k0_pay825 (k0_pay820 l) (k0_pay821 s) (k0_pay822 l)) (k0_pay826 Y)) (k0_pay852 (k0_pay112 g4) (k0_pay819 s) (k0_pay825 (k0_pay820 l) (k0_pay821 s)
  (k0_pay822 l)) (k0_pay826 Y)) (k0_pay854 (k0_pay112 g4) (k0_pay819 s) (k0_pay825 (k0_pay820 l) (k0_pay821 s) (k0_pay822 l)) (k0_pay826 Y))
  (k0_pay855 (k0_pay112 g4) (k0_pay819 s) (k0_pay825 (k0_pay820 l) (k0_pay821 s) (k0_pay822 l)) (k0_pay826 Y)) (k0_pay856 (k0_pay112 g4) (k0_pay819 s)
  (k0_pay825 (k0_pay820 l) (k0_pay821 s) (k0_pay822 l)) (k0_pay826 Y))⟩,
  ⟨Rect.unit ![3, 1536, 0] ![1, 128, 128] inb_S8x2048x128_S1x128x128_3_1536_0, k0_pay849 (F := Ideal) (k0_pay845 (k0_pay111 g3) (k0_pay819 s)
  (k0_pay825 (k0_pay820 l) (k0_pay821 s) (k0_pay822 l)) (k0_pay826 Y)) (k0_pay846 (k0_pay111 g3) (k0_pay819 s) (k0_pay825 (k0_pay820 l) (k0_pay821 s)
  (k0_pay822 l)) (k0_pay826 Y)) k0_pay847⟩,
  ⟨Rect.unit ![2, 1536, 0] ![1, 128, 128] inb_S8x2048x128_S1x128x128_2_1536_0, k0_pay842 (F := Ideal) (k0_pay840 (k0_pay110 g2) (k0_pay819 s)
  (k0_pay825 (k0_pay820 l) (k0_pay821 s) (k0_pay822 l)) (k0_pay826 Y)) 23#32⟩,
  ⟨Rect.unit ![1, 1536, 0] ![1, 128, 128] inb_S8x2048x128_S1x128x128_1_1536_0, k0_pay838 (F := Ideal) (k0_pay835 (k0_pay109 g1) (k0_pay819 s)
  (k0_pay825 (k0_pay820 l) (k0_pay821 s) (k0_pay822 l)) (k0_pay826 Y)) (k0_pay836 (k0_pay109 g1) (k0_pay819 s) (k0_pay825 (k0_pay820 l) (k0_pay821 s)
  (k0_pay822 l)) (k0_pay826 Y))⟩,
  ⟨Rect.unit ![0, 1536, 0] ![1, 128, 128] inb_S8x2048x128_S1x128x128_0_1536_0, k0_pay833 (F := Ideal) (k0_pay828 (k0_pay108 g0) (k0_pay819 s)
  (k0_pay820 l) (k0_pay821 s) (k0_pay822 l) Y) (k0_pay829 (k0_pay108 g0) (k0_pay819 s) (k0_pay820 l) (k0_pay821 s) (k0_pay822 l) Y) (k0_pay830
  (k0_pay108 g0) (k0_pay819 s) (k0_pay820 l) (k0_pay821 s) (k0_pay822 l) Y) (k0_pay831 (k0_pay108 g0) (k0_pay819 s) (k0_pay820 l) (k0_pay821 s)
  (k0_pay822 l) Y)⟩]

/-- are the blocks of scales. -/
theorem row1536_eq (g0 g1 g2 g3 g4 g5 g6 g7 : Vec Ideal S1x128x128 .f32) (s l : Vec Ideal S128x128 .f32) (Y : Vec Ideal S128x128 .i32) :
    row1536 g0 g1 g2 g3 g4 g5 g6 g7 s l Y = rowP 1536 inb_S8x2048x128_S1x128x128_0_1536_0 inb_S8x2048x128_S1x128x128_1_1536_0 inb_S8x2048x128_S1x128x128_2_1536_0 inb_S8x2048x128_S1x128x128_3_1536_0 inb_S8x2048x128_S1x128x128_4_1536_0 inb_S8x2048x128_S1x128x128_5_1536_0 inb_S8x2048x128_S1x128x128_6_1536_0 inb_S8x2048x128_S1x128x128_7_1536_0 g0 g1 g2 g3 g4 g5 g6 g7 s l Y := rfl

/-- The blocks stored for rows 1408 to 1535, as the kernel computes them, -/
def row1408 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1408, 0] ![1, 128, 128] inb_S8x2048x128_S1x128x128_7_1408_0, k0_pay817 (F := Ideal) (k0_pay814 (k0_pay107 g7) (k0_pay764 s)
  (k0_pay770 (k0_pay764 s) l) (k0_pay771 Y)) (k0_pay815 (k0_pay107 g7) (k0_pay764 s) (k0_pay770 (k0_pay764 s) l) (k0_pay771 Y))⟩,
  ⟨Rect.unit ![6, 1408, 0] ![1, 128, 128] inb_S8x2048x128_S1x128x128_6_1408_0, k0_pay812 (F := Ideal) (k0_pay808 (k0_pay106 g6) (k0_pay764 s)
  (k0_pay770 (k0_pay764 s) l) (k0_pay771 Y)) (k0_pay809 (k0_pay106 g6) (k0_pay764 s) (k0_pay770 (k0_pay764 s) l) (k0_pay771 Y)) k0_pay810⟩,
  ⟨Rect.unit ![5, 1408, 0] ![1, 128, 128] inb_S8x2048x128_S1x128x128_5_1408_0, k0_pay806 (F := Ideal) (k0_pay805 (k0_pay802 (k0_pay105 g5) (k0_pay764
  s)) (k0_pay803 (k0_pay771 Y)) (k0_pay804 (k0_pay105 g5) (k0_pay764 s) (k0_pay770 (k0_pay764 s) l)))⟩,
  ⟨Rect.unit ![4, 1408, 0] ![1, 128, 128] inb_S8x2048x128_S1x128x128_4_1408_0, k0_pay800 (F := Ideal) (k0_pay797 (k0_pay104 g4) (k0_pay764 s)
  (k0_pay770 (k0_pay764 s) l) (k0_pay771 Y)) (k0_pay798 (k0_pay104 g4) (k0_pay764 s) (k0_pay770 (k0_pay764 s) l) (k0_pay771 Y))⟩,
  ⟨Rect.unit ![3, 1408, 0] ![1, 128, 128] inb_S8x2048x128_S1x128x128_3_1408_0, k0_pay795 (F := Ideal) (k0_pay788 (k0_pay103 g3) (k0_pay764 s)
  (k0_pay770 (k0_pay764 s) l) (k0_pay771 Y)) (k0_pay789 (k0_pay103 g3) (k0_pay764 s) (k0_pay770 (k0_pay764 s) l) (k0_pay771 Y)) (k0_pay791 (k0_pay103
  g3) (k0_pay764 s) (k0_pay770 (k0_pay764 s) l) (k0_pay771 Y)) (k0_pay792 (k0_pay103 g3) (k0_pay764 s) (k0_pay770 (k0_pay764 s) l) (k0_pay771 Y))
  (k0_pay793 (k0_pay103 g3) (k0_pay764 s) (k0_pay770 (k0_pay764 s) l) (k0_pay771 Y)) 1#32⟩,
  ⟨Rect.unit ![2, 1408, 0] ![1, 128, 128] inb_S8x2048x128_S1x128x128_2_1408_0, k0_pay786 (F := Ideal) (k0_pay784 (k0_pay102 g2) (k0_pay764 s)
  (k0_pay770 (k0_pay764 s) l) (k0_pay771 Y)) 0#32⟩,
  ⟨Rect.unit ![1, 1408, 0] ![1, 128, 128] inb_S8x2048x128_S1x128x128_1_1408_0, k0_pay782 (F := Ideal) (k0_pay780 (k0_pay770 (k0_pay764 s) l)
  (k0_pay771 Y) (k0_pay779 (k0_pay101 (k0_pay100 g1)) (k0_pay764 s)) 1#32)⟩,
  ⟨Rect.unit ![0, 1408, 0] ![1, 128, 128] inb_S8x2048x128_S1x128x128_0_1408_0, k0_pay777 (F := Ideal) (k0_pay773 (k0_pay99 g0) (k0_pay764 s) l Y)
  (k0_pay774 (k0_pay99 g0) (k0_pay764 s) l Y) k0_pay775⟩]

/-- are the blocks of scales. -/
theorem row1408_eq (g0 g1 g2 g3 g4 g5 g6 g7 : Vec Ideal S1x128x128 .f32) (s l : Vec Ideal S128x128 .f32) (Y : Vec Ideal S128x128 .i32) :
    row1408 g0 g1 g2 g3 g4 g5 g6 g7 s l Y = rowP 1408 inb_S8x2048x128_S1x128x128_0_1408_0 inb_S8x2048x128_S1x128x128_1_1408_0 inb_S8x2048x128_S1x128x128_2_1408_0 inb_S8x2048x128_S1x128x128_3_1408_0 inb_S8x2048x128_S1x128x128_4_1408_0 inb_S8x2048x128_S1x128x128_5_1408_0 inb_S8x2048x128_S1x128x128_6_1408_0 inb_S8x2048x128_S1x128x128_7_1408_0 g0 g1 g2 g3 g4 g5 g6 g7 s l Y := rfl

/-- The blocks stored for rows 1280 to 1407, as the kernel computes them, -/
def row1280 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1280, 0] ![1, 128, 128] inb_S8x2048x128_S1x128x128_7_1280_0, k0_pay762 (F := Ideal) (k0_pay758 (k0_pay98 g7) (k0_pay704 s)
  (k0_pay710 s l) (k0_pay711 Y)) (k0_pay759 (k0_pay98 g7) (k0_pay704 s) (k0_pay710 s l) (k0_pay711 Y)) (k0_pay760 (k0_pay98 g7) (k0_pay704 s)
  (k0_pay710 s l) (k0_pay711 Y))⟩,
  ⟨Rect.unit ![6, 1280, 0] ![1, 128, 128] inb_S8x2048x128_S1x128x128_6_1280_0, k0_pay756 (F := Ideal) (k0_pay752 (k0_pay97 g6) (k0_pay704 s)
  (k0_pay710 s l) (k0_pay711 Y)) (k0_pay753 (k0_pay97 g6) (k0_pay704 s) (k0_pay710 s l) (k0_pay711 Y)) k0_pay754⟩,
  ⟨Rect.unit ![5, 1280, 0] ![1, 128, 128] inb_S8x2048x128_S1x128x128_5_1280_0, k0_pay750 (F := Ideal) (k0_pay747 (k0_pay96 g5) (k0_pay704 s)
  (k0_pay710 s l) (k0_pay711 Y)) (k0_pay748 (k0_pay96 g5) (k0_pay704 s) (k0_pay710 s l) (k0_pay711 Y)) 0#32⟩,
  ⟨Rect.unit ![4, 1280, 0] ![1, 128, 128] inb_S8x2048x128_S1x128x128_4_1280_0, k0_pay744 (F := Ideal) (k0_pay743 (k0_pay740 (k0_pay711 Y)) (k0_pay741
  (k0_pay95 g4) (k0_pay704 s) (k0_pay710 s l)) (k0_pay742 (k0_pay95 g4) (k0_pay704 s)))⟩,
  ⟨Rect.unit ![3, 1280, 0] ![1, 128, 128] inb_S8x2048x128_S1x128x128_3_1280_0, k0_pay737 (F := Ideal) (k0_pay733 (k0_pay94 g3) (k0_pay704 s)
  (k0_pay710 s l) (k0_pay711 Y)) (k0_pay734 (k0_pay94 g3) (k0_pay704 s) (k0_pay710 s l) (k0_pay711 Y)) k0_pay735⟩,
  ⟨Rect.unit ![2, 1280, 0] ![1, 128, 128] inb_S8x2048x128_S1x128x128_2_1280_0, k0_pay731 (F := Ideal) (k0_pay723 (k0_pay93 g2) (k0_pay704 s)
  (k0_pay710 s l) (k0_pay711 Y)) (k0_pay724 (k0_pay93 g2) (k0_pay704 s) (k0_pay710 s l) (k0_pay711 Y)) (k0_pay726 (k0_pay93 g2) (k0_pay704 s)
  (k0_pay710 s l) (k0_pay711 Y)) (k0_pay727 (k0_pay93 g2) (k0_pay704 s) (k0_pay710 s l) (k0_pay711 Y)) (k0_pay728 (k0_pay93 g2) (k0_pay704 s)
  (k0_pay710 s l) (k0_pay711 Y)) (k0_pay729 (k0_pay93 g2) (k0_pay704 s) (k0_pay710 s l) (k0_pay711 Y))⟩,
  ⟨Rect.unit ![1, 1280, 0] ![1, 128, 128] inb_S8x2048x128_S1x128x128_1_1280_0, k0_pay721 (F := Ideal) (k0_pay718 (k0_pay92 g1) (k0_pay704 s)
  (k0_pay710 s l) (k0_pay711 Y)) (k0_pay719 (k0_pay92 g1) (k0_pay704 s) (k0_pay710 s l) (k0_pay711 Y))⟩,
  ⟨Rect.unit ![0, 1280, 0] ![1, 128, 128] inb_S8x2048x128_S1x128x128_0_1280_0, k0_pay716 (F := Ideal) (k0_pay715 (k0_pay710 s l) (k0_pay713 (k0_pay91
  g0) s) (k0_pay714 Y))⟩]

/-- are the blocks of scales. -/
theorem row1280_eq (g0 g1 g2 g3 g4 g5 g6 g7 : Vec Ideal S1x128x128 .f32) (s l : Vec Ideal S128x128 .f32) (Y : Vec Ideal S128x128 .i32) :
    row1280 g0 g1 g2 g3 g4 g5 g6 g7 s l Y = rowP 1280 inb_S8x2048x128_S1x128x128_0_1280_0 inb_S8x2048x128_S1x128x128_1_1280_0 inb_S8x2048x128_S1x128x128_2_1280_0 inb_S8x2048x128_S1x128x128_3_1280_0 inb_S8x2048x128_S1x128x128_4_1280_0 inb_S8x2048x128_S1x128x128_5_1280_0 inb_S8x2048x128_S1x128x128_6_1280_0 inb_S8x2048x128_S1x128x128_7_1280_0 g0 g1 g2 g3 g4 g5 g6 g7 s l Y := rfl

/-- The blocks stored for rows 1152 to 1279, as the kernel computes them, -/
def row1152 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1152, 0] ![1, 128, 128] inb_S8x2048x128_S1x128x128_7_1152_0, k0_pay701 (F := Ideal) (k0_pay698 (k0_pay90 g7) (k0_pay651 s)
  (k0_pay657 s l) (k0_pay658 Y)) (k0_pay699 (k0_pay90 g7) (k0_pay651 s) (k0_pay657 s l) (k0_pay658 Y))⟩,
  ⟨Rect.unit ![6, 1152, 0] ![1, 128, 128] inb_S8x2048x128_S1x128x128_6_1152_0, k0_pay696 (F := Ideal) (k0_pay691 (k0_pay89 g6) (k0_pay651 s)
  (k0_pay657 s l) (k0_pay658 Y)) (k0_pay692 (k0_pay89 g6) (k0_pay651 s) (k0_pay657 s l) (k0_pay658 Y)) (k0_pay693 (k0_pay89 g6) (k0_pay651 s)
  (k0_pay657 s l) (k0_pay658 Y)) (k0_pay694 (k0_pay89 g6) (k0_pay651 s) (k0_pay657 s l) (k0_pay658 Y))⟩,
  ⟨Rect.unit ![5, 1152, 0] ![1, 128, 128] inb_S8x2048x128_S1x128x128_5_1152_0, k0_pay689 (F := Ideal) (k0_pay686 (k0_pay88 g5) (k0_pay651 s)
  (k0_pay657 s l) (k0_pay658 Y)) (k0_pay687 (k0_pay88 g5) (k0_pay651 s) (k0_pay657 s l) (k0_pay658 Y)) 127#32⟩,
  ⟨Rect.unit ![4, 1152, 0] ![1, 128, 128] inb_S8x2048x128_S1x128x128_4_1152_0, k0_pay683 (F := Ideal) (k0_pay681 (k0_pay87 g4) (k0_pay651 s)
  (k0_pay657 s l) (k0_pay658 Y))⟩,
  ⟨Rect.unit ![3, 1152, 0] ![1, 128, 128] inb_S8x2048x128_S1x128x128_3_1152_0, k0_pay679 (F := Ideal) (k0_pay677 (k0_pay86 g3) (k0_pay651 s)
  (k0_pay657 s l) (k0_pay658 Y))⟩,
  ⟨Rect.unit ![2, 1152, 0] ![1, 128, 128] inb_S8x2048x128_S1x128x128_2_1152_0, k0_pay675 (F := Ideal) (k0_pay671 (k0_pay85 (k0_pay84 g2)) (k0_pay651
  s) (k0_pay657 s l) (k0_pay658 Y)) (k0_pay672 (k0_pay85 (k0_pay84 g2)) (k0_pay651 s) (k0_pay657 s l) (k0_pay658 Y)) (k0_pay673 (k0_pay85 (k0_pay84
  g2)) (k0_pay651 s) (k0_pay657 s l) (k0_pay658 Y)) 23#32⟩,
  ⟨Rect.unit ![1, 1152, 0] ![1, 128, 128] inb_S8x2048x128_S1x128x128_1_1152_0, k0_pay669 (F := Ideal) (k0_pay666 (k0_pay83 g1) (k0_pay651 s)
  (k0_pay657 s l) (k0_pay658 Y)) (k0_pay667 (k0_pay83 g1) (k0_pay651 s) (k0_pay657 s l) (k0_pay658 Y))⟩,
  ⟨Rect.unit ![0, 1152, 0] ![1, 128, 128] inb_S8x2048x128_S1x128x128_0_1152_0, k0_pay664 (F := Ideal) (k0_pay660 (k0_pay82 g0) (k0_pay651 s)
  (k0_pay657 s l) Y) (k0_pay661 (k0_pay82 g0) (k0_pay651 s) (k0_pay657 s l) Y) k0_pay662⟩]

/-- are the blocks of scales. -/
theorem row1152_eq (g0 g1 g2 g3 g4 g5 g6 g7 : Vec Ideal S1x128x128 .f32) (s l : Vec Ideal S128x128 .f32) (Y : Vec Ideal S128x128 .i32) :
    row1152 g0 g1 g2 g3 g4 g5 g6 g7 s l Y = rowP 1152 inb_S8x2048x128_S1x128x128_0_1152_0 inb_S8x2048x128_S1x128x128_1_1152_0 inb_S8x2048x128_S1x128x128_2_1152_0 inb_S8x2048x128_S1x128x128_3_1152_0 inb_S8x2048x128_S1x128x128_4_1152_0 inb_S8x2048x128_S1x128x128_5_1152_0 inb_S8x2048x128_S1x128x128_6_1152_0 inb_S8x2048x128_S1x128x128_7_1152_0 g0 g1 g2 g3 g4 g5 g6 g7 s l Y := rfl

/-- The blocks stored for rows 1024 to 1151, as the kernel computes them, -/
def row1024 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 1024, 0] ![1, 128, 128] inb_S8x2048x128_S1x128x128_7_1024_0, k0_pay649 (F := Ideal) (k0_pay647 (k0_pay600 (k0_pay595 l) (k0_pay596
  s) (k0_pay597 l)) (k0_pay601 Y) (k0_pay646 (k0_pay81 g7) (k0_pay594 s)) 7#32)⟩,
  ⟨Rect.unit ![6, 1024, 0] ![1, 128, 128] inb_S8x2048x128_S1x128x128_6_1024_0, k0_pay644 (F := Ideal) (k0_pay640 (k0_pay80 g6) (k0_pay594 s)
  (k0_pay600 (k0_pay595 l) (k0_pay596 s) (k0_pay597 l)) (k0_pay601 Y)) (k0_pay641 (k0_pay80 g6) (k0_pay594 s) (k0_pay600 (k0_pay595 l) (k0_pay596 s)
  (k0_pay597 l)) (k0_pay601 Y)) k0_pay642⟩,
  ⟨Rect.unit ![5, 1024, 0] ![1, 128, 128] inb_S8x2048x128_S1x128x128_5_1024_0, k0_pay638 (F := Ideal) (k0_pay632 (k0_pay79 g5) (k0_pay594 s)
  (k0_pay600 (k0_pay595 l) (k0_pay596 s) (k0_pay597 l)) (k0_pay601 Y)) (k0_pay633 (k0_pay79 g5) (k0_pay594 s) (k0_pay600 (k0_pay595 l) (k0_pay596 s)
  (k0_pay597 l)) (k0_pay601 Y)) (k0_pay634 (k0_pay79 g5) (k0_pay594 s) (k0_pay600 (k0_pay595 l) (k0_pay596 s) (k0_pay597 l)) (k0_pay601 Y)) (k0_pay635
  (k0_pay79 g5) (k0_pay594 s) (k0_pay600 (k0_pay595 l) (k0_pay596 s) (k0_pay597 l)) (k0_pay601 Y)) k0_pay636⟩,
  ⟨Rect.unit ![4, 1024, 0] ![1, 128, 128] inb_S8x2048x128_S1x128x128_4_1024_0, k0_pay630 (F := Ideal) (k0_pay627 (k0_pay78 g4) (k0_pay594 s)
  (k0_pay600 (k0_pay595 l) (k0_pay596 s) (k0_pay597 l)) (k0_pay601 Y)) (k0_pay628 (k0_pay78 g4) (k0_pay594 s) (k0_pay600 (k0_pay595 l) (k0_pay596 s)
  (k0_pay597 l)) (k0_pay601 Y))⟩,
  ⟨Rect.unit ![3, 1024, 0] ![1, 128, 128] inb_S8x2048x128_S1x128x128_3_1024_0, k0_pay624 (F := Ideal) (k0_pay621 (k0_pay77 g3) (k0_pay594 s)
  (k0_pay600 (k0_pay595 l) (k0_pay596 s) (k0_pay597 l)) (k0_pay601 Y)) k0_pay622⟩,
  ⟨Rect.unit ![2, 1024, 0] ![1, 128, 128] inb_S8x2048x128_S1x128x128_2_1024_0, k0_pay618 (F := Ideal) (k0_pay615 (k0_pay76 g2) (k0_pay594 s)
  (k0_pay600 (k0_pay595 l) (k0_pay596 s) (k0_pay597 l)) (k0_pay601 Y)) k0_pay616⟩,
  ⟨Rect.unit ![1, 1024, 0] ![1, 128, 128] inb_S8x2048x128_S1x128x128_1_1024_0, k0_pay613 (F := Ideal) (k0_pay609 (k0_pay75 g1) (k0_pay594 s)
  (k0_pay600 (k0_pay595 l) (k0_pay596 s) (k0_pay597 l)) (k0_pay601 Y)) (k0_pay610 (k0_pay75 g1) (k0_pay594 s) (k0_pay600 (k0_pay595 l) (k0_pay596 s)
  (k0_pay597 l)) (k0_pay601 Y)) (k0_pay611 (k0_pay75 g1) (k0_pay594 s) (k0_pay600 (k0_pay595 l) (k0_pay596 s) (k0_pay597 l)) (k0_pay601 Y))⟩,
  ⟨Rect.unit ![0, 1024, 0] ![1, 128, 128] inb_S8x2048x128_S1x128x128_0_1024_0, k0_pay607 (F := Ideal) (k0_pay603 (k0_pay74 g0) (k0_pay594 s)
  (k0_pay595 l) (k0_pay596 s) (k0_pay597 l) Y) (k0_pay604 (k0_pay74 g0) (k0_pay594 s) (k0_pay595 l) (k0_pay596 s) (k0_pay597 l) Y) k0_pay605⟩]

/-- are the blocks of scales. -/
theorem row1024_eq (g0 g1 g2 g3 g4 g5 g6 g7 : Vec Ideal S1x128x128 .f32) (s l : Vec Ideal S128x128 .f32) (Y : Vec Ideal S128x128 .i32) :
    row1024 g0 g1 g2 g3 g4 g5 g6 g7 s l Y = rowP 1024 inb_S8x2048x128_S1x128x128_0_1024_0 inb_S8x2048x128_S1x128x128_1_1024_0 inb_S8x2048x128_S1x128x128_2_1024_0 inb_S8x2048x128_S1x128x128_3_1024_0 inb_S8x2048x128_S1x128x128_4_1024_0 inb_S8x2048x128_S1x128x128_5_1024_0 inb_S8x2048x128_S1x128x128_6_1024_0 inb_S8x2048x128_S1x128x128_7_1024_0 g0 g1 g2 g3 g4 g5 g6 g7 s l Y := rfl

/-- The blocks stored for rows 896 to 1023, as the kernel computes them, -/
def row896 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 896, 0] ![1, 128, 128] inb_S8x2048x128_S1x128x128_7_896_0, k0_pay592 (F := Ideal) (k0_pay589 (k0_pay73 g7) (k0_pay538 s) (k0_pay544
  (k0_pay539 l) (k0_pay540 s) (k0_pay541 l)) (k0_pay545 Y)) (k0_pay590 (k0_pay73 g7) (k0_pay538 s) (k0_pay544 (k0_pay539 l) (k0_pay540 s) (k0_pay541
  l)) (k0_pay545 Y))⟩,
  ⟨Rect.unit ![6, 896, 0] ![1, 128, 128] inb_S8x2048x128_S1x128x128_6_896_0, k0_pay587 (F := Ideal) (k0_pay586 (k0_pay544 (k0_pay539 l) (k0_pay540 s)
  (k0_pay541 l)) (k0_pay584 (k0_pay72 g6) (k0_pay538 s)) (k0_pay585 (k0_pay545 Y)))⟩,
  ⟨Rect.unit ![5, 896, 0] ![1, 128, 128] inb_S8x2048x128_S1x128x128_5_896_0, k0_pay582 (F := Ideal) (k0_pay579 (k0_pay71 g5) (k0_pay538 s) (k0_pay544
  (k0_pay539 l) (k0_pay540 s) (k0_pay541 l)) (k0_pay545 Y)) (k0_pay580 (k0_pay71 g5) (k0_pay538 s) (k0_pay544 (k0_pay539 l) (k0_pay540 s) (k0_pay541
  l)) (k0_pay545 Y))⟩,
  ⟨Rect.unit ![4, 896, 0] ![1, 128, 128] inb_S8x2048x128_S1x128x128_4_896_0, k0_pay577 (F := Ideal) (k0_pay570 (k0_pay70 g4) (k0_pay538 s) (k0_pay544
  (k0_pay539 l) (k0_pay540 s) (k0_pay541 l)) (k0_pay545 Y)) (k0_pay571 (k0_pay70 g4) (k0_pay538 s) (k0_pay544 (k0_pay539 l) (k0_pay540 s) (k0_pay541
  l)) (k0_pay545 Y)) (k0_pay573 (k0_pay70 g4) (k0_pay538 s) (k0_pay544 (k0_pay539 l) (k0_pay540 s) (k0_pay541 l)) (k0_pay545 Y)) (k0_pay574 (k0_pay70
  g4) (k0_pay538 s) (k0_pay544 (k0_pay539 l) (k0_pay540 s) (k0_pay541 l)) (k0_pay545 Y)) (k0_pay575 (k0_pay70 g4) (k0_pay538 s) (k0_pay544 (k0_pay539
  l) (k0_pay540 s) (k0_pay541 l)) (k0_pay545 Y))⟩,
  ⟨Rect.unit ![3, 896, 0] ![1, 128, 128] inb_S8x2048x128_S1x128x128_3_896_0, k0_pay568 (F := Ideal) (k0_pay564 (k0_pay69 (k0_pay68 g3)) (k0_pay538 s)
  (k0_pay544 (k0_pay539 l) (k0_pay540 s) (k0_pay541 l)) (k0_pay545 Y)) (k0_pay565 (k0_pay69 (k0_pay68 g3)) (k0_pay538 s) (k0_pay544 (k0_pay539 l)
  (k0_pay540 s) (k0_pay541 l)) (k0_pay545 Y)) k0_pay566⟩,
  ⟨Rect.unit ![2, 896, 0] ![1, 128, 128] inb_S8x2048x128_S1x128x128_2_896_0, k0_pay561 (F := Ideal) (k0_pay559 (k0_pay67 g2) (k0_pay538 s) (k0_pay544
  (k0_pay539 l) (k0_pay540 s) (k0_pay541 l)) (k0_pay545 Y)) 23#32⟩,
  ⟨Rect.unit ![1, 896, 0] ![1, 128, 128] inb_S8x2048x128_S1x128x128_1_896_0, k0_pay557 (F := Ideal) (k0_pay554 (k0_pay66 g1) (k0_pay538 s) (k0_pay544
  (k0_pay539 l) (k0_pay540 s) (k0_pay541 l)) (k0_pay545 Y)) (k0_pay555 (k0_pay66 g1) (k0_pay538 s) (k0_pay544 (k0_pay539 l) (k0_pay540 s) (k0_pay541
  l)) (k0_pay545 Y))⟩,
  ⟨Rect.unit ![0, 896, 0] ![1, 128, 128] inb_S8x2048x128_S1x128x128_0_896_0, k0_pay552 (F := Ideal) (k0_pay547 (k0_pay65 g0) (k0_pay538 s) (k0_pay539
  l) (k0_pay540 s) (k0_pay541 l) Y) (k0_pay548 (k0_pay65 g0) (k0_pay538 s) (k0_pay539 l) (k0_pay540 s) (k0_pay541 l) Y) (k0_pay549 (k0_pay65 g0)
  (k0_pay538 s) (k0_pay539 l) (k0_pay540 s) (k0_pay541 l) Y) (k0_pay550 (k0_pay65 g0) (k0_pay538 s) (k0_pay539 l) (k0_pay540 s) (k0_pay541 l) Y)⟩]

/-- are the blocks of scales. -/
theorem row896_eq (g0 g1 g2 g3 g4 g5 g6 g7 : Vec Ideal S1x128x128 .f32) (s l : Vec Ideal S128x128 .f32) (Y : Vec Ideal S128x128 .i32) :
    row896 g0 g1 g2 g3 g4 g5 g6 g7 s l Y = rowP 896 inb_S8x2048x128_S1x128x128_0_896_0 inb_S8x2048x128_S1x128x128_1_896_0 inb_S8x2048x128_S1x128x128_2_896_0 inb_S8x2048x128_S1x128x128_3_896_0 inb_S8x2048x128_S1x128x128_4_896_0 inb_S8x2048x128_S1x128x128_5_896_0 inb_S8x2048x128_S1x128x128_6_896_0 inb_S8x2048x128_S1x128x128_7_896_0 g0 g1 g2 g3 g4 g5 g6 g7 s l Y := rfl

/-- The blocks stored for rows 768 to 895, as the kernel computes them, -/
def row768 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 768, 0] ![1, 128, 128] inb_S8x2048x128_S1x128x128_7_768_0, k0_pay536 (F := Ideal) (k0_pay533 (k0_pay64 g7) (k0_pay483 s) (k0_pay489
  (k0_pay483 s) l) (k0_pay490 Y)) (k0_pay534 (k0_pay64 g7) (k0_pay483 s) (k0_pay489 (k0_pay483 s) l) (k0_pay490 Y))⟩,
  ⟨Rect.unit ![6, 768, 0] ![1, 128, 128] inb_S8x2048x128_S1x128x128_6_768_0, k0_pay531 (F := Ideal) (k0_pay527 (k0_pay63 g6) (k0_pay483 s) (k0_pay489
  (k0_pay483 s) l) (k0_pay490 Y)) (k0_pay528 (k0_pay63 g6) (k0_pay483 s) (k0_pay489 (k0_pay483 s) l) (k0_pay490 Y)) k0_pay529⟩,
  ⟨Rect.unit ![5, 768, 0] ![1, 128, 128] inb_S8x2048x128_S1x128x128_5_768_0, k0_pay525 (F := Ideal) (k0_pay524 (k0_pay521 (k0_pay62 g5) (k0_pay483 s))
  (k0_pay522 (k0_pay490 Y)) (k0_pay523 (k0_pay62 g5) (k0_pay483 s) (k0_pay489 (k0_pay483 s) l)))⟩,
  ⟨Rect.unit ![4, 768, 0] ![1, 128, 128] inb_S8x2048x128_S1x128x128_4_768_0, k0_pay519 (F := Ideal) (k0_pay516 (k0_pay61 g4) (k0_pay483 s) (k0_pay489
  (k0_pay483 s) l) (k0_pay490 Y)) (k0_pay517 (k0_pay61 g4) (k0_pay483 s) (k0_pay489 (k0_pay483 s) l) (k0_pay490 Y))⟩,
  ⟨Rect.unit ![3, 768, 0] ![1, 128, 128] inb_S8x2048x128_S1x128x128_3_768_0, k0_pay514 (F := Ideal) (k0_pay507 (k0_pay60 g3) (k0_pay483 s) (k0_pay489
  (k0_pay483 s) l) (k0_pay490 Y)) (k0_pay508 (k0_pay60 g3) (k0_pay483 s) (k0_pay489 (k0_pay483 s) l) (k0_pay490 Y)) (k0_pay510 (k0_pay60 g3)
  (k0_pay483 s) (k0_pay489 (k0_pay483 s) l) (k0_pay490 Y)) (k0_pay511 (k0_pay60 g3) (k0_pay483 s) (k0_pay489 (k0_pay483 s) l) (k0_pay490 Y))
  (k0_pay512 (k0_pay60 g3) (k0_pay483 s) (k0_pay489 (k0_pay483 s) l) (k0_pay490 Y)) 1#32⟩,
  ⟨Rect.unit ![2, 768, 0] ![1, 128, 128] inb_S8x2048x128_S1x128x128_2_768_0, k0_pay505 (F := Ideal) (k0_pay503 (k0_pay59 g2) (k0_pay483 s) (k0_pay489
  (k0_pay483 s) l) (k0_pay490 Y)) 0#32⟩,
  ⟨Rect.unit ![1, 768, 0] ![1, 128, 128] inb_S8x2048x128_S1x128x128_1_768_0, k0_pay501 (F := Ideal) (k0_pay499 (k0_pay489 (k0_pay483 s) l) (k0_pay490
  Y) (k0_pay498 (k0_pay58 g1) (k0_pay483 s)) 1#32)⟩,
  ⟨Rect.unit ![0, 768, 0] ![1, 128, 128] inb_S8x2048x128_S1x128x128_0_768_0, k0_pay496 (F := Ideal) (k0_pay492 (k0_pay57 g0) (k0_pay483 s) l Y)
  (k0_pay493 (k0_pay57 g0) (k0_pay483 s) l Y) k0_pay494⟩]

/-- are the blocks of scales. -/
theorem row768_eq (g0 g1 g2 g3 g4 g5 g6 g7 : Vec Ideal S1x128x128 .f32) (s l : Vec Ideal S128x128 .f32) (Y : Vec Ideal S128x128 .i32) :
    row768 g0 g1 g2 g3 g4 g5 g6 g7 s l Y = rowP 768 inb_S8x2048x128_S1x128x128_0_768_0 inb_S8x2048x128_S1x128x128_1_768_0 inb_S8x2048x128_S1x128x128_2_768_0 inb_S8x2048x128_S1x128x128_3_768_0 inb_S8x2048x128_S1x128x128_4_768_0 inb_S8x2048x128_S1x128x128_5_768_0 inb_S8x2048x128_S1x128x128_6_768_0 inb_S8x2048x128_S1x128x128_7_768_0 g0 g1 g2 g3 g4 g5 g6 g7 s l Y := rfl

/-- The blocks stored for rows 640 to 767, as the kernel computes them, -/
def row640 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 640, 0] ![1, 128, 128] inb_S8x2048x128_S1x128x128_7_640_0, k0_pay481 (F := Ideal) (k0_pay477 (k0_pay56 g7) (k0_pay423 s) (k0_pay429
  s l) (k0_pay430 Y)) (k0_pay478 (k0_pay56 g7) (k0_pay423 s) (k0_pay429 s l) (k0_pay430 Y)) (k0_pay479 (k0_pay56 g7) (k0_pay423 s) (k0_pay429 s l)
  (k0_pay430 Y))⟩,
  ⟨Rect.unit ![6, 640, 0] ![1, 128, 128] inb_S8x2048x128_S1x128x128_6_640_0, k0_pay475 (F := Ideal) (k0_pay471 (k0_pay55 g6) (k0_pay423 s) (k0_pay429
  s l) (k0_pay430 Y)) (k0_pay472 (k0_pay55 g6) (k0_pay423 s) (k0_pay429 s l) (k0_pay430 Y)) k0_pay473⟩,
  ⟨Rect.unit ![5, 640, 0] ![1, 128, 128] inb_S8x2048x128_S1x128x128_5_640_0, k0_pay469 (F := Ideal) (k0_pay466 (k0_pay54 g5) (k0_pay423 s) (k0_pay429
  s l) (k0_pay430 Y)) (k0_pay467 (k0_pay54 g5) (k0_pay423 s) (k0_pay429 s l) (k0_pay430 Y)) 0#32⟩,
  ⟨Rect.unit ![4, 640, 0] ![1, 128, 128] inb_S8x2048x128_S1x128x128_4_640_0, k0_pay463 (F := Ideal) (k0_pay462 (k0_pay459 (k0_pay430 Y)) (k0_pay460
  (k0_pay53 (k0_pay52 g4)) (k0_pay423 s) (k0_pay429 s l)) (k0_pay461 (k0_pay53 (k0_pay52 g4)) (k0_pay423 s)))⟩,
  ⟨Rect.unit ![3, 640, 0] ![1, 128, 128] inb_S8x2048x128_S1x128x128_3_640_0, k0_pay456 (F := Ideal) (k0_pay452 (k0_pay51 g3) (k0_pay423 s) (k0_pay429
  s l) (k0_pay430 Y)) (k0_pay453 (k0_pay51 g3) (k0_pay423 s) (k0_pay429 s l) (k0_pay430 Y)) k0_pay454⟩,
  ⟨Rect.unit ![2, 640, 0] ![1, 128, 128] inb_S8x2048x128_S1x128x128_2_640_0, k0_pay450 (F := Ideal) (k0_pay442 (k0_pay50 g2) (k0_pay423 s) (k0_pay429
  s l) (k0_pay430 Y)) (k0_pay443 (k0_pay50 g2) (k0_pay423 s) (k0_pay429 s l) (k0_pay430 Y)) (k0_pay445 (k0_pay50 g2) (k0_pay423 s) (k0_pay429 s l)
  (k0_pay430 Y)) (k0_pay446 (k0_pay50 g2) (k0_pay423 s) (k0_pay429 s l) (k0_pay430 Y)) (k0_pay447 (k0_pay50 g2) (k0_pay423 s) (k0_pay429 s l)
  (k0_pay430 Y)) (k0_pay448 (k0_pay50 g2) (k0_pay423 s) (k0_pay429 s l) (k0_pay430 Y))⟩,
  ⟨Rect.unit ![1, 640, 0] ![1, 128, 128] inb_S8x2048x128_S1x128x128_1_640_0, k0_pay440 (F := Ideal) (k0_pay437 (k0_pay49 g1) (k0_pay423 s) (k0_pay429
  s l) (k0_pay430 Y)) (k0_pay438 (k0_pay49 g1) (k0_pay423 s) (k0_pay429 s l) (k0_pay430 Y))⟩,
  ⟨Rect.unit ![0, 640, 0] ![1, 128, 128] inb_S8x2048x128_S1x128x128_0_640_0, k0_pay435 (F := Ideal) (k0_pay434 (k0_pay429 s l) (k0_pay432 (k0_pay48
  g0) s) (k0_pay433 Y))⟩]

/-- are the blocks of scales. -/
theorem row640_eq (g0 g1 g2 g3 g4 g5 g6 g7 : Vec Ideal S1x128x128 .f32) (s l : Vec Ideal S128x128 .f32) (Y : Vec Ideal S128x128 .i32) :
    row640 g0 g1 g2 g3 g4 g5 g6 g7 s l Y = rowP 640 inb_S8x2048x128_S1x128x128_0_640_0 inb_S8x2048x128_S1x128x128_1_640_0 inb_S8x2048x128_S1x128x128_2_640_0 inb_S8x2048x128_S1x128x128_3_640_0 inb_S8x2048x128_S1x128x128_4_640_0 inb_S8x2048x128_S1x128x128_5_640_0 inb_S8x2048x128_S1x128x128_6_640_0 inb_S8x2048x128_S1x128x128_7_640_0 g0 g1 g2 g3 g4 g5 g6 g7 s l Y := rfl

/-- The blocks stored for rows 512 to 639, as the kernel computes them, -/
def row512 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 512, 0] ![1, 128, 128] inb_S8x2048x128_S1x128x128_7_512_0, k0_pay420 (F := Ideal) (k0_pay417 (k0_pay47 g7) (k0_pay370 s) (k0_pay376
  s l) (k0_pay377 Y)) (k0_pay418 (k0_pay47 g7) (k0_pay370 s) (k0_pay376 s l) (k0_pay377 Y))⟩,
  ⟨Rect.unit ![6, 512, 0] ![1, 128, 128] inb_S8x2048x128_S1x128x128_6_512_0, k0_pay415 (F := Ideal) (k0_pay410 (k0_pay46 g6) (k0_pay370 s) (k0_pay376
  s l) (k0_pay377 Y)) (k0_pay411 (k0_pay46 g6) (k0_pay370 s) (k0_pay376 s l) (k0_pay377 Y)) (k0_pay412 (k0_pay46 g6) (k0_pay370 s) (k0_pay376 s l)
  (k0_pay377 Y)) (k0_pay413 (k0_pay46 g6) (k0_pay370 s) (k0_pay376 s l) (k0_pay377 Y))⟩,
  ⟨Rect.unit ![5, 512, 0] ![1, 128, 128] inb_S8x2048x128_S1x128x128_5_512_0, k0_pay408 (F := Ideal) (k0_pay405 (k0_pay45 g5) (k0_pay370 s) (k0_pay376
  s l) (k0_pay377 Y)) (k0_pay406 (k0_pay45 g5) (k0_pay370 s) (k0_pay376 s l) (k0_pay377 Y)) 127#32⟩,
  ⟨Rect.unit ![4, 512, 0] ![1, 128, 128] inb_S8x2048x128_S1x128x128_4_512_0, k0_pay402 (F := Ideal) (k0_pay400 (k0_pay44 g4) (k0_pay370 s) (k0_pay376
  s l) (k0_pay377 Y))⟩,
  ⟨Rect.unit ![3, 512, 0] ![1, 128, 128] inb_S8x2048x128_S1x128x128_3_512_0, k0_pay398 (F := Ideal) (k0_pay396 (k0_pay43 g3) (k0_pay370 s) (k0_pay376
  s l) (k0_pay377 Y))⟩,
  ⟨Rect.unit ![2, 512, 0] ![1, 128, 128] inb_S8x2048x128_S1x128x128_2_512_0, k0_pay394 (F := Ideal) (k0_pay390 (k0_pay42 g2) (k0_pay370 s) (k0_pay376
  s l) (k0_pay377 Y)) (k0_pay391 (k0_pay42 g2) (k0_pay370 s) (k0_pay376 s l) (k0_pay377 Y)) (k0_pay392 (k0_pay42 g2) (k0_pay370 s) (k0_pay376 s l)
  (k0_pay377 Y)) 23#32⟩,
  ⟨Rect.unit ![1, 512, 0] ![1, 128, 128] inb_S8x2048x128_S1x128x128_1_512_0, k0_pay388 (F := Ideal) (k0_pay385 (k0_pay41 g1) (k0_pay370 s) (k0_pay376
  s l) (k0_pay377 Y)) (k0_pay386 (k0_pay41 g1) (k0_pay370 s) (k0_pay376 s l) (k0_pay377 Y))⟩,
  ⟨Rect.unit ![0, 512, 0] ![1, 128, 128] inb_S8x2048x128_S1x128x128_0_512_0, k0_pay383 (F := Ideal) (k0_pay379 (k0_pay40 g0) (k0_pay370 s) (k0_pay376
  s l) Y) (k0_pay380 (k0_pay40 g0) (k0_pay370 s) (k0_pay376 s l) Y) k0_pay381⟩]

/-- are the blocks of scales. -/
theorem row512_eq (g0 g1 g2 g3 g4 g5 g6 g7 : Vec Ideal S1x128x128 .f32) (s l : Vec Ideal S128x128 .f32) (Y : Vec Ideal S128x128 .i32) :
    row512 g0 g1 g2 g3 g4 g5 g6 g7 s l Y = rowP 512 inb_S8x2048x128_S1x128x128_0_512_0 inb_S8x2048x128_S1x128x128_1_512_0 inb_S8x2048x128_S1x128x128_2_512_0 inb_S8x2048x128_S1x128x128_3_512_0 inb_S8x2048x128_S1x128x128_4_512_0 inb_S8x2048x128_S1x128x128_5_512_0 inb_S8x2048x128_S1x128x128_6_512_0 inb_S8x2048x128_S1x128x128_7_512_0 g0 g1 g2 g3 g4 g5 g6 g7 s l Y := rfl

/-- The blocks stored for rows 384 to 511, as the kernel computes them, -/
def row384 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 384, 0] ![1, 128, 128] inb_S8x2048x128_S1x128x128_7_384_0, k0_pay368 (F := Ideal) (k0_pay366 (k0_pay319 (k0_pay314 l) (k0_pay315 s)
  (k0_pay316 l)) (k0_pay320 Y) (k0_pay365 (k0_pay39 g7) (k0_pay313 s)) 7#32)⟩,
  ⟨Rect.unit ![6, 384, 0] ![1, 128, 128] inb_S8x2048x128_S1x128x128_6_384_0, k0_pay363 (F := Ideal) (k0_pay359 (k0_pay38 g6) (k0_pay313 s) (k0_pay319
  (k0_pay314 l) (k0_pay315 s) (k0_pay316 l)) (k0_pay320 Y)) (k0_pay360 (k0_pay38 g6) (k0_pay313 s) (k0_pay319 (k0_pay314 l) (k0_pay315 s) (k0_pay316
  l)) (k0_pay320 Y)) k0_pay361⟩,
  ⟨Rect.unit ![5, 384, 0] ![1, 128, 128] inb_S8x2048x128_S1x128x128_5_384_0, k0_pay357 (F := Ideal) (k0_pay351 (k0_pay37 (k0_pay36 g5)) (k0_pay313 s)
  (k0_pay319 (k0_pay314 l) (k0_pay315 s) (k0_pay316 l)) (k0_pay320 Y)) (k0_pay352 (k0_pay37 (k0_pay36 g5)) (k0_pay313 s) (k0_pay319 (k0_pay314 l)
  (k0_pay315 s) (k0_pay316 l)) (k0_pay320 Y)) (k0_pay353 (k0_pay37 (k0_pay36 g5)) (k0_pay313 s) (k0_pay319 (k0_pay314 l) (k0_pay315 s) (k0_pay316 l))
  (k0_pay320 Y)) (k0_pay354 (k0_pay37 (k0_pay36 g5)) (k0_pay313 s) (k0_pay319 (k0_pay314 l) (k0_pay315 s) (k0_pay316 l)) (k0_pay320 Y)) k0_pay355⟩,
  ⟨Rect.unit ![4, 384, 0] ![1, 128, 128] inb_S8x2048x128_S1x128x128_4_384_0, k0_pay349 (F := Ideal) (k0_pay346 (k0_pay35 g4) (k0_pay313 s) (k0_pay319
  (k0_pay314 l) (k0_pay315 s) (k0_pay316 l)) (k0_pay320 Y)) (k0_pay347 (k0_pay35 g4) (k0_pay313 s) (k0_pay319 (k0_pay314 l) (k0_pay315 s) (k0_pay316
  l)) (k0_pay320 Y))⟩,
  ⟨Rect.unit ![3, 384, 0] ![1, 128, 128] inb_S8x2048x128_S1x128x128_3_384_0, k0_pay343 (F := Ideal) (k0_pay340 (k0_pay34 g3) (k0_pay313 s) (k0_pay319
  (k0_pay314 l) (k0_pay315 s) (k0_pay316 l)) (k0_pay320 Y)) k0_pay341⟩,
  ⟨Rect.unit ![2, 384, 0] ![1, 128, 128] inb_S8x2048x128_S1x128x128_2_384_0, k0_pay337 (F := Ideal) (k0_pay334 (k0_pay33 g2) (k0_pay313 s) (k0_pay319
  (k0_pay314 l) (k0_pay315 s) (k0_pay316 l)) (k0_pay320 Y)) k0_pay335⟩,
  ⟨Rect.unit ![1, 384, 0] ![1, 128, 128] inb_S8x2048x128_S1x128x128_1_384_0, k0_pay332 (F := Ideal) (k0_pay328 (k0_pay32 g1) (k0_pay313 s) (k0_pay319
  (k0_pay314 l) (k0_pay315 s) (k0_pay316 l)) (k0_pay320 Y)) (k0_pay329 (k0_pay32 g1) (k0_pay313 s) (k0_pay319 (k0_pay314 l) (k0_pay315 s) (k0_pay316
  l)) (k0_pay320 Y)) (k0_pay330 (k0_pay32 g1) (k0_pay313 s) (k0_pay319 (k0_pay314 l) (k0_pay315 s) (k0_pay316 l)) (k0_pay320 Y))⟩,
  ⟨Rect.unit ![0, 384, 0] ![1, 128, 128] inb_S8x2048x128_S1x128x128_0_384_0, k0_pay326 (F := Ideal) (k0_pay322 (k0_pay31 g0) (k0_pay313 s) (k0_pay314
  l) (k0_pay315 s) (k0_pay316 l) Y) (k0_pay323 (k0_pay31 g0) (k0_pay313 s) (k0_pay314 l) (k0_pay315 s) (k0_pay316 l) Y) k0_pay324⟩]

/-- are the blocks of scales. -/
theorem row384_eq (g0 g1 g2 g3 g4 g5 g6 g7 : Vec Ideal S1x128x128 .f32) (s l : Vec Ideal S128x128 .f32) (Y : Vec Ideal S128x128 .i32) :
    row384 g0 g1 g2 g3 g4 g5 g6 g7 s l Y = rowP 384 inb_S8x2048x128_S1x128x128_0_384_0 inb_S8x2048x128_S1x128x128_1_384_0 inb_S8x2048x128_S1x128x128_2_384_0 inb_S8x2048x128_S1x128x128_3_384_0 inb_S8x2048x128_S1x128x128_4_384_0 inb_S8x2048x128_S1x128x128_5_384_0 inb_S8x2048x128_S1x128x128_6_384_0 inb_S8x2048x128_S1x128x128_7_384_0 g0 g1 g2 g3 g4 g5 g6 g7 s l Y := rfl

/-- The blocks stored for rows 256 to 383, as the kernel computes them, -/
def row256 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 256, 0] ![1, 128, 128] inb_S8x2048x128_S1x128x128_7_256_0, k0_pay311 (F := Ideal) (k0_pay308 (k0_pay30 g7) (k0_pay257 s) (k0_pay263
  (k0_pay258 l) (k0_pay259 s) (k0_pay260 l)) (k0_pay264 Y)) (k0_pay309 (k0_pay30 g7) (k0_pay257 s) (k0_pay263 (k0_pay258 l) (k0_pay259 s) (k0_pay260
  l)) (k0_pay264 Y))⟩,
  ⟨Rect.unit ![6, 256, 0] ![1, 128, 128] inb_S8x2048x128_S1x128x128_6_256_0, k0_pay306 (F := Ideal) (k0_pay305 (k0_pay263 (k0_pay258 l) (k0_pay259 s)
  (k0_pay260 l)) (k0_pay303 (k0_pay29 g6) (k0_pay257 s)) (k0_pay304 (k0_pay264 Y)))⟩,
  ⟨Rect.unit ![5, 256, 0] ![1, 128, 128] inb_S8x2048x128_S1x128x128_5_256_0, k0_pay301 (F := Ideal) (k0_pay298 (k0_pay28 g5) (k0_pay257 s) (k0_pay263
  (k0_pay258 l) (k0_pay259 s) (k0_pay260 l)) (k0_pay264 Y)) (k0_pay299 (k0_pay28 g5) (k0_pay257 s) (k0_pay263 (k0_pay258 l) (k0_pay259 s) (k0_pay260
  l)) (k0_pay264 Y))⟩,
  ⟨Rect.unit ![4, 256, 0] ![1, 128, 128] inb_S8x2048x128_S1x128x128_4_256_0, k0_pay296 (F := Ideal) (k0_pay289 (k0_pay27 g4) (k0_pay257 s) (k0_pay263
  (k0_pay258 l) (k0_pay259 s) (k0_pay260 l)) (k0_pay264 Y)) (k0_pay290 (k0_pay27 g4) (k0_pay257 s) (k0_pay263 (k0_pay258 l) (k0_pay259 s) (k0_pay260
  l)) (k0_pay264 Y)) (k0_pay292 (k0_pay27 g4) (k0_pay257 s) (k0_pay263 (k0_pay258 l) (k0_pay259 s) (k0_pay260 l)) (k0_pay264 Y)) (k0_pay293 (k0_pay27
  g4) (k0_pay257 s) (k0_pay263 (k0_pay258 l) (k0_pay259 s) (k0_pay260 l)) (k0_pay264 Y)) (k0_pay294 (k0_pay27 g4) (k0_pay257 s) (k0_pay263 (k0_pay258
  l) (k0_pay259 s) (k0_pay260 l)) (k0_pay264 Y))⟩,
  ⟨Rect.unit ![3, 256, 0] ![1, 128, 128] inb_S8x2048x128_S1x128x128_3_256_0, k0_pay287 (F := Ideal) (k0_pay283 (k0_pay26 g3) (k0_pay257 s) (k0_pay263
  (k0_pay258 l) (k0_pay259 s) (k0_pay260 l)) (k0_pay264 Y)) (k0_pay284 (k0_pay26 g3) (k0_pay257 s) (k0_pay263 (k0_pay258 l) (k0_pay259 s) (k0_pay260
  l)) (k0_pay264 Y)) k0_pay285⟩,
  ⟨Rect.unit ![2, 256, 0] ![1, 128, 128] inb_S8x2048x128_S1x128x128_2_256_0, k0_pay280 (F := Ideal) (k0_pay278 (k0_pay25 g2) (k0_pay257 s) (k0_pay263
  (k0_pay258 l) (k0_pay259 s) (k0_pay260 l)) (k0_pay264 Y)) 23#32⟩,
  ⟨Rect.unit ![1, 256, 0] ![1, 128, 128] inb_S8x2048x128_S1x128x128_1_256_0, k0_pay276 (F := Ideal) (k0_pay273 (k0_pay24 g1) (k0_pay257 s) (k0_pay263
  (k0_pay258 l) (k0_pay259 s) (k0_pay260 l)) (k0_pay264 Y)) (k0_pay274 (k0_pay24 g1) (k0_pay257 s) (k0_pay263 (k0_pay258 l) (k0_pay259 s) (k0_pay260
  l)) (k0_pay264 Y))⟩,
  ⟨Rect.unit ![0, 256, 0] ![1, 128, 128] inb_S8x2048x128_S1x128x128_0_256_0, k0_pay271 (F := Ideal) (k0_pay266 (k0_pay23 g0) (k0_pay257 s) (k0_pay258
  l) (k0_pay259 s) (k0_pay260 l) Y) (k0_pay267 (k0_pay23 g0) (k0_pay257 s) (k0_pay258 l) (k0_pay259 s) (k0_pay260 l) Y) (k0_pay268 (k0_pay23 g0)
  (k0_pay257 s) (k0_pay258 l) (k0_pay259 s) (k0_pay260 l) Y) (k0_pay269 (k0_pay23 g0) (k0_pay257 s) (k0_pay258 l) (k0_pay259 s) (k0_pay260 l) Y)⟩]

/-- are the blocks of scales. -/
theorem row256_eq (g0 g1 g2 g3 g4 g5 g6 g7 : Vec Ideal S1x128x128 .f32) (s l : Vec Ideal S128x128 .f32) (Y : Vec Ideal S128x128 .i32) :
    row256 g0 g1 g2 g3 g4 g5 g6 g7 s l Y = rowP 256 inb_S8x2048x128_S1x128x128_0_256_0 inb_S8x2048x128_S1x128x128_1_256_0 inb_S8x2048x128_S1x128x128_2_256_0 inb_S8x2048x128_S1x128x128_3_256_0 inb_S8x2048x128_S1x128x128_4_256_0 inb_S8x2048x128_S1x128x128_5_256_0 inb_S8x2048x128_S1x128x128_6_256_0 inb_S8x2048x128_S1x128x128_7_256_0 g0 g1 g2 g3 g4 g5 g6 g7 s l Y := rfl

/-- The blocks stored for rows 128 to 255, as the kernel computes them, -/
def row128 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 128, 0] ![1, 128, 128] inb_S8x2048x128_S1x128x128_7_128_0, k0_pay255 (F := Ideal) (k0_pay252 (k0_pay22 g7) (k0_pay202 s) (k0_pay208
  (k0_pay202 s) l) (k0_pay209 Y)) (k0_pay253 (k0_pay22 g7) (k0_pay202 s) (k0_pay208 (k0_pay202 s) l) (k0_pay209 Y))⟩,
  ⟨Rect.unit ![6, 128, 0] ![1, 128, 128] inb_S8x2048x128_S1x128x128_6_128_0, k0_pay250 (F := Ideal) (k0_pay246 (k0_pay21 (k0_pay20 g6)) (k0_pay202 s)
  (k0_pay208 (k0_pay202 s) l) (k0_pay209 Y)) (k0_pay247 (k0_pay21 (k0_pay20 g6)) (k0_pay202 s) (k0_pay208 (k0_pay202 s) l) (k0_pay209 Y)) k0_pay248⟩,
  ⟨Rect.unit ![5, 128, 0] ![1, 128, 128] inb_S8x2048x128_S1x128x128_5_128_0, k0_pay244 (F := Ideal) (k0_pay243 (k0_pay240 (k0_pay19 g5) (k0_pay202 s))
  (k0_pay241 (k0_pay209 Y)) (k0_pay242 (k0_pay19 g5) (k0_pay202 s) (k0_pay208 (k0_pay202 s) l)))⟩,
  ⟨Rect.unit ![4, 128, 0] ![1, 128, 128] inb_S8x2048x128_S1x128x128_4_128_0, k0_pay238 (F := Ideal) (k0_pay235 (k0_pay18 g4) (k0_pay202 s) (k0_pay208
  (k0_pay202 s) l) (k0_pay209 Y)) (k0_pay236 (k0_pay18 g4) (k0_pay202 s) (k0_pay208 (k0_pay202 s) l) (k0_pay209 Y))⟩,
  ⟨Rect.unit ![3, 128, 0] ![1, 128, 128] inb_S8x2048x128_S1x128x128_3_128_0, k0_pay233 (F := Ideal) (k0_pay226 (k0_pay17 g3) (k0_pay202 s) (k0_pay208
  (k0_pay202 s) l) (k0_pay209 Y)) (k0_pay227 (k0_pay17 g3) (k0_pay202 s) (k0_pay208 (k0_pay202 s) l) (k0_pay209 Y)) (k0_pay229 (k0_pay17 g3)
  (k0_pay202 s) (k0_pay208 (k0_pay202 s) l) (k0_pay209 Y)) (k0_pay230 (k0_pay17 g3) (k0_pay202 s) (k0_pay208 (k0_pay202 s) l) (k0_pay209 Y))
  (k0_pay231 (k0_pay17 g3) (k0_pay202 s) (k0_pay208 (k0_pay202 s) l) (k0_pay209 Y)) 1#32⟩,
  ⟨Rect.unit ![2, 128, 0] ![1, 128, 128] inb_S8x2048x128_S1x128x128_2_128_0, k0_pay224 (F := Ideal) (k0_pay222 (k0_pay16 g2) (k0_pay202 s) (k0_pay208
  (k0_pay202 s) l) (k0_pay209 Y)) 0#32⟩,
  ⟨Rect.unit ![1, 128, 0] ![1, 128, 128] inb_S8x2048x128_S1x128x128_1_128_0, k0_pay220 (F := Ideal) (k0_pay218 (k0_pay208 (k0_pay202 s) l) (k0_pay209
  Y) (k0_pay217 (k0_pay15 g1) (k0_pay202 s)) 1#32)⟩,
  ⟨Rect.unit ![0, 128, 0] ![1, 128, 128] inb_S8x2048x128_S1x128x128_0_128_0, k0_pay215 (F := Ideal) (k0_pay211 (k0_pay14 g0) (k0_pay202 s) l Y)
  (k0_pay212 (k0_pay14 g0) (k0_pay202 s) l Y) k0_pay213⟩]

/-- are the blocks of scales. -/
theorem row128_eq (g0 g1 g2 g3 g4 g5 g6 g7 : Vec Ideal S1x128x128 .f32) (s l : Vec Ideal S128x128 .f32) (Y : Vec Ideal S128x128 .i32) :
    row128 g0 g1 g2 g3 g4 g5 g6 g7 s l Y = rowP 128 inb_S8x2048x128_S1x128x128_0_128_0 inb_S8x2048x128_S1x128x128_1_128_0 inb_S8x2048x128_S1x128x128_2_128_0 inb_S8x2048x128_S1x128x128_3_128_0 inb_S8x2048x128_S1x128x128_4_128_0 inb_S8x2048x128_S1x128x128_5_128_0 inb_S8x2048x128_S1x128x128_6_128_0 inb_S8x2048x128_S1x128x128_7_128_0 g0 g1 g2 g3 g4 g5 g6 g7 s l Y := rfl

/-- The blocks stored for rows 0 to 127, as the kernel computes them, -/
def row0 (g0 g1 g2 g3 g4 g5 g6 g7 : Vec Ideal S1x128x128 .f32) (s l : Vec Ideal S128x128 .f32) (Y : Vec Ideal S128x128 .i32) :
    List (View.Piece (Elt Ideal) S8x2048x128 .f32) := [
  ⟨Rect.unit ![7, 0, 0] ![1, 128, 128] inb_S8x2048x128_S1x128x128_7_0_0, k0_pay200 (F := Ideal) (k0_pay196 (k0_pay13 g7) (k0_pay142 s) (k0_pay148 s l)
  (k0_pay149 Y)) (k0_pay197 (k0_pay13 g7) (k0_pay142 s) (k0_pay148 s l) (k0_pay149 Y)) (k0_pay198 (k0_pay13 g7) (k0_pay142 s) (k0_pay148 s l)
  (k0_pay149 Y))⟩,
  ⟨Rect.unit ![6, 0, 0] ![1, 128, 128] inb_S8x2048x128_S1x128x128_6_0_0, k0_pay194 (F := Ideal) (k0_pay190 (k0_pay12 g6) (k0_pay142 s) (k0_pay148 s l)
  (k0_pay149 Y)) (k0_pay191 (k0_pay12 g6) (k0_pay142 s) (k0_pay148 s l) (k0_pay149 Y)) k0_pay192⟩,
  ⟨Rect.unit ![5, 0, 0] ![1, 128, 128] inb_S8x2048x128_S1x128x128_5_0_0, k0_pay188 (F := Ideal) (k0_pay185 (k0_pay11 g5) (k0_pay142 s) (k0_pay148 s l)
  (k0_pay149 Y)) (k0_pay186 (k0_pay11 g5) (k0_pay142 s) (k0_pay148 s l) (k0_pay149 Y)) 0#32⟩,
  ⟨Rect.unit ![4, 0, 0] ![1, 128, 128] inb_S8x2048x128_S1x128x128_4_0_0, k0_pay182 (F := Ideal) (k0_pay181 (k0_pay178 (k0_pay149 Y)) (k0_pay179
  (k0_pay10 g4) (k0_pay142 s) (k0_pay148 s l)) (k0_pay180 (k0_pay10 g4) (k0_pay142 s)))⟩,
  ⟨Rect.unit ![3, 0, 0] ![1, 128, 128] inb_S8x2048x128_S1x128x128_3_0_0, k0_pay175 (F := Ideal) (k0_pay171 (k0_pay9 g3) (k0_pay142 s) (k0_pay148 s l)
  (k0_pay149 Y)) (k0_pay172 (k0_pay9 g3) (k0_pay142 s) (k0_pay148 s l) (k0_pay149 Y)) k0_pay173⟩,
  ⟨Rect.unit ![2, 0, 0] ![1, 128, 128] inb_S8x2048x128_S1x128x128_2_0_0, k0_pay169 (F := Ideal) (k0_pay161 (k0_pay8 g2) (k0_pay142 s) (k0_pay148 s l)
  (k0_pay149 Y)) (k0_pay162 (k0_pay8 g2) (k0_pay142 s) (k0_pay148 s l) (k0_pay149 Y)) (k0_pay164 (k0_pay8 g2) (k0_pay142 s) (k0_pay148 s l) (k0_pay149
  Y)) (k0_pay165 (k0_pay8 g2) (k0_pay142 s) (k0_pay148 s l) (k0_pay149 Y)) (k0_pay166 (k0_pay8 g2) (k0_pay142 s) (k0_pay148 s l) (k0_pay149 Y))
  (k0_pay167 (k0_pay8 g2) (k0_pay142 s) (k0_pay148 s l) (k0_pay149 Y))⟩,
  ⟨Rect.unit ![1, 0, 0] ![1, 128, 128] inb_S8x2048x128_S1x128x128_1_0_0, k0_pay159 (F := Ideal) (k0_pay156 (k0_pay7 g1) (k0_pay142 s) (k0_pay148 s l)
  (k0_pay149 Y)) (k0_pay157 (k0_pay7 g1) (k0_pay142 s) (k0_pay148 s l) (k0_pay149 Y))⟩,
  ⟨Rect.unit ![0, 0, 0] ![1, 128, 128] inb_S8x2048x128_S1x128x128_0_0_0, k0_pay154 (F := Ideal) (k0_pay153 (k0_pay148 s l) (k0_pay151 (k0_pay6 g0) s)
  (k0_pay152 Y))⟩]

/-- are the blocks of scales. -/
theorem row0_eq (g0 g1 g2 g3 g4 g5 g6 g7 : Vec Ideal S1x128x128 .f32) (s l : Vec Ideal S128x128 .f32) (Y : Vec Ideal S128x128 .i32) :
    row0 g0 g1 g2 g3 g4 g5 g6 g7 s l Y = rowP 0 inb_S8x2048x128_S1x128x128_0_0_0 inb_S8x2048x128_S1x128x128_1_0_0 inb_S8x2048x128_S1x128x128_2_0_0 inb_S8x2048x128_S1x128x128_3_0_0 inb_S8x2048x128_S1x128x128_4_0_0 inb_S8x2048x128_S1x128x128_5_0_0 inb_S8x2048x128_S1x128x128_6_0_0 inb_S8x2048x128_S1x128x128_7_0_0 g0 g1 g2 g3 g4 g5 g6 g7 s l Y := rfl

/-- Everything stored to the groups' maxima at the end, newest first. -/
def gsL : List (View.Piece (Elt Ideal) S8x2048x128 .f32) :=
  row1920 (View.ld G (Rect.unit (s := S8x2048x128) ![0, 1920, 0] ![1, 128, 128] inb_S8x2048x128_S1x128x128_0_1920_0)) (View.ld G (Rect.unit (s :=
  S8x2048x128) ![1, 1920, 0] ![1, 128, 128] inb_S8x2048x128_S1x128x128_1_1920_0)) (View.ld G (Rect.unit (s := S8x2048x128) ![2, 1920, 0] ![1, 128,
  128] inb_S8x2048x128_S1x128x128_2_1920_0)) (View.ld G (Rect.unit (s := S8x2048x128) ![3, 1920, 0] ![1, 128, 128]
  inb_S8x2048x128_S1x128x128_3_1920_0)) (View.ld G (Rect.unit (s := S8x2048x128) ![4, 1920, 0] ![1, 128, 128] inb_S8x2048x128_S1x128x128_4_1920_0))
  (View.ld G (Rect.unit (s := S8x2048x128) ![5, 1920, 0] ![1, 128, 128] inb_S8x2048x128_S1x128x128_5_1920_0)) (View.ld G (Rect.unit (s := S8x2048x128)
  ![6, 1920, 0] ![1, 128, 128] inb_S8x2048x128_S1x128x128_6_1920_0)) (View.ld G (Rect.unit (s := S8x2048x128) ![7, 1920, 0] ![1, 128, 128]
  inb_S8x2048x128_S1x128x128_7_1920_0)) (View.ld S (Rect.unit (s := S2048x128) ![1920, 0] ![128, 128] inb_S2048x128_S128x128_1920_0)) (View.ld TL
  (Rect.unit (s := S2048x128) ![1920, 0] ![128, 128] inb_S2048x128_S128x128_1920_0)) (View.ld Y (Rect.unit (s := S2048x128) ![1920, 0] ![128, 128]
  inb_S2048x128_S128x128_1920_0)) ++ (
  row1792 (View.ld G (Rect.unit (s := S8x2048x128) ![0, 1792, 0] ![1, 128, 128] inb_S8x2048x128_S1x128x128_0_1792_0)) (View.ld G (Rect.unit (s :=
  S8x2048x128) ![1, 1792, 0] ![1, 128, 128] inb_S8x2048x128_S1x128x128_1_1792_0)) (View.ld G (Rect.unit (s := S8x2048x128) ![2, 1792, 0] ![1, 128,
  128] inb_S8x2048x128_S1x128x128_2_1792_0)) (View.ld G (Rect.unit (s := S8x2048x128) ![3, 1792, 0] ![1, 128, 128]
  inb_S8x2048x128_S1x128x128_3_1792_0)) (View.ld G (Rect.unit (s := S8x2048x128) ![4, 1792, 0] ![1, 128, 128] inb_S8x2048x128_S1x128x128_4_1792_0))
  (View.ld G (Rect.unit (s := S8x2048x128) ![5, 1792, 0] ![1, 128, 128] inb_S8x2048x128_S1x128x128_5_1792_0)) (View.ld G (Rect.unit (s := S8x2048x128)
  ![6, 1792, 0] ![1, 128, 128] inb_S8x2048x128_S1x128x128_6_1792_0)) (View.ld G (Rect.unit (s := S8x2048x128) ![7, 1792, 0] ![1, 128, 128]
  inb_S8x2048x128_S1x128x128_7_1792_0)) (View.ld S (Rect.unit (s := S2048x128) ![1792, 0] ![128, 128] inb_S2048x128_S128x128_1792_0)) (View.ld TL
  (Rect.unit (s := S2048x128) ![1792, 0] ![128, 128] inb_S2048x128_S128x128_1792_0)) (View.ld Y (Rect.unit (s := S2048x128) ![1792, 0] ![128, 128]
  inb_S2048x128_S128x128_1792_0)) ++ (
  row1664 (View.ld G (Rect.unit (s := S8x2048x128) ![0, 1664, 0] ![1, 128, 128] inb_S8x2048x128_S1x128x128_0_1664_0)) (View.ld G (Rect.unit (s :=
  S8x2048x128) ![1, 1664, 0] ![1, 128, 128] inb_S8x2048x128_S1x128x128_1_1664_0)) (View.ld G (Rect.unit (s := S8x2048x128) ![2, 1664, 0] ![1, 128,
  128] inb_S8x2048x128_S1x128x128_2_1664_0)) (View.ld G (Rect.unit (s := S8x2048x128) ![3, 1664, 0] ![1, 128, 128]
  inb_S8x2048x128_S1x128x128_3_1664_0)) (View.ld G (Rect.unit (s := S8x2048x128) ![4, 1664, 0] ![1, 128, 128] inb_S8x2048x128_S1x128x128_4_1664_0))
  (View.ld G (Rect.unit (s := S8x2048x128) ![5, 1664, 0] ![1, 128, 128] inb_S8x2048x128_S1x128x128_5_1664_0)) (View.ld G (Rect.unit (s := S8x2048x128)
  ![6, 1664, 0] ![1, 128, 128] inb_S8x2048x128_S1x128x128_6_1664_0)) (View.ld G (Rect.unit (s := S8x2048x128) ![7, 1664, 0] ![1, 128, 128]
  inb_S8x2048x128_S1x128x128_7_1664_0)) (View.ld S (Rect.unit (s := S2048x128) ![1664, 0] ![128, 128] inb_S2048x128_S128x128_1664_0)) (View.ld TL
  (Rect.unit (s := S2048x128) ![1664, 0] ![128, 128] inb_S2048x128_S128x128_1664_0)) (View.ld Y (Rect.unit (s := S2048x128) ![1664, 0] ![128, 128]
  inb_S2048x128_S128x128_1664_0)) ++ (
  row1536 (View.ld G (Rect.unit (s := S8x2048x128) ![0, 1536, 0] ![1, 128, 128] inb_S8x2048x128_S1x128x128_0_1536_0)) (View.ld G (Rect.unit (s :=
  S8x2048x128) ![1, 1536, 0] ![1, 128, 128] inb_S8x2048x128_S1x128x128_1_1536_0)) (View.ld G (Rect.unit (s := S8x2048x128) ![2, 1536, 0] ![1, 128,
  128] inb_S8x2048x128_S1x128x128_2_1536_0)) (View.ld G (Rect.unit (s := S8x2048x128) ![3, 1536, 0] ![1, 128, 128]
  inb_S8x2048x128_S1x128x128_3_1536_0)) (View.ld G (Rect.unit (s := S8x2048x128) ![4, 1536, 0] ![1, 128, 128] inb_S8x2048x128_S1x128x128_4_1536_0))
  (View.ld G (Rect.unit (s := S8x2048x128) ![5, 1536, 0] ![1, 128, 128] inb_S8x2048x128_S1x128x128_5_1536_0)) (View.ld G (Rect.unit (s := S8x2048x128)
  ![6, 1536, 0] ![1, 128, 128] inb_S8x2048x128_S1x128x128_6_1536_0)) (View.ld G (Rect.unit (s := S8x2048x128) ![7, 1536, 0] ![1, 128, 128]
  inb_S8x2048x128_S1x128x128_7_1536_0)) (View.ld S (Rect.unit (s := S2048x128) ![1536, 0] ![128, 128] inb_S2048x128_S128x128_1536_0)) (View.ld TL
  (Rect.unit (s := S2048x128) ![1536, 0] ![128, 128] inb_S2048x128_S128x128_1536_0)) (View.ld Y (Rect.unit (s := S2048x128) ![1536, 0] ![128, 128]
  inb_S2048x128_S128x128_1536_0)) ++ (
  row1408 (View.ld G (Rect.unit (s := S8x2048x128) ![0, 1408, 0] ![1, 128, 128] inb_S8x2048x128_S1x128x128_0_1408_0)) (View.ld G (Rect.unit (s :=
  S8x2048x128) ![1, 1408, 0] ![1, 128, 128] inb_S8x2048x128_S1x128x128_1_1408_0)) (View.ld G (Rect.unit (s := S8x2048x128) ![2, 1408, 0] ![1, 128,
  128] inb_S8x2048x128_S1x128x128_2_1408_0)) (View.ld G (Rect.unit (s := S8x2048x128) ![3, 1408, 0] ![1, 128, 128]
  inb_S8x2048x128_S1x128x128_3_1408_0)) (View.ld G (Rect.unit (s := S8x2048x128) ![4, 1408, 0] ![1, 128, 128] inb_S8x2048x128_S1x128x128_4_1408_0))
  (View.ld G (Rect.unit (s := S8x2048x128) ![5, 1408, 0] ![1, 128, 128] inb_S8x2048x128_S1x128x128_5_1408_0)) (View.ld G (Rect.unit (s := S8x2048x128)
  ![6, 1408, 0] ![1, 128, 128] inb_S8x2048x128_S1x128x128_6_1408_0)) (View.ld G (Rect.unit (s := S8x2048x128) ![7, 1408, 0] ![1, 128, 128]
  inb_S8x2048x128_S1x128x128_7_1408_0)) (View.ld S (Rect.unit (s := S2048x128) ![1408, 0] ![128, 128] inb_S2048x128_S128x128_1408_0)) (View.ld TL
  (Rect.unit (s := S2048x128) ![1408, 0] ![128, 128] inb_S2048x128_S128x128_1408_0)) (View.ld Y (Rect.unit (s := S2048x128) ![1408, 0] ![128, 128]
  inb_S2048x128_S128x128_1408_0)) ++ (
  row1280 (View.ld G (Rect.unit (s := S8x2048x128) ![0, 1280, 0] ![1, 128, 128] inb_S8x2048x128_S1x128x128_0_1280_0)) (View.ld G (Rect.unit (s :=
  S8x2048x128) ![1, 1280, 0] ![1, 128, 128] inb_S8x2048x128_S1x128x128_1_1280_0)) (View.ld G (Rect.unit (s := S8x2048x128) ![2, 1280, 0] ![1, 128,
  128] inb_S8x2048x128_S1x128x128_2_1280_0)) (View.ld G (Rect.unit (s := S8x2048x128) ![3, 1280, 0] ![1, 128, 128]
  inb_S8x2048x128_S1x128x128_3_1280_0)) (View.ld G (Rect.unit (s := S8x2048x128) ![4, 1280, 0] ![1, 128, 128] inb_S8x2048x128_S1x128x128_4_1280_0))
  (View.ld G (Rect.unit (s := S8x2048x128) ![5, 1280, 0] ![1, 128, 128] inb_S8x2048x128_S1x128x128_5_1280_0)) (View.ld G (Rect.unit (s := S8x2048x128)
  ![6, 1280, 0] ![1, 128, 128] inb_S8x2048x128_S1x128x128_6_1280_0)) (View.ld G (Rect.unit (s := S8x2048x128) ![7, 1280, 0] ![1, 128, 128]
  inb_S8x2048x128_S1x128x128_7_1280_0)) (View.ld S (Rect.unit (s := S2048x128) ![1280, 0] ![128, 128] inb_S2048x128_S128x128_1280_0)) (View.ld TL
  (Rect.unit (s := S2048x128) ![1280, 0] ![128, 128] inb_S2048x128_S128x128_1280_0)) (View.ld Y (Rect.unit (s := S2048x128) ![1280, 0] ![128, 128]
  inb_S2048x128_S128x128_1280_0)) ++ (
  row1152 (View.ld G (Rect.unit (s := S8x2048x128) ![0, 1152, 0] ![1, 128, 128] inb_S8x2048x128_S1x128x128_0_1152_0)) (View.ld G (Rect.unit (s :=
  S8x2048x128) ![1, 1152, 0] ![1, 128, 128] inb_S8x2048x128_S1x128x128_1_1152_0)) (View.ld G (Rect.unit (s := S8x2048x128) ![2, 1152, 0] ![1, 128,
  128] inb_S8x2048x128_S1x128x128_2_1152_0)) (View.ld G (Rect.unit (s := S8x2048x128) ![3, 1152, 0] ![1, 128, 128]
  inb_S8x2048x128_S1x128x128_3_1152_0)) (View.ld G (Rect.unit (s := S8x2048x128) ![4, 1152, 0] ![1, 128, 128] inb_S8x2048x128_S1x128x128_4_1152_0))
  (View.ld G (Rect.unit (s := S8x2048x128) ![5, 1152, 0] ![1, 128, 128] inb_S8x2048x128_S1x128x128_5_1152_0)) (View.ld G (Rect.unit (s := S8x2048x128)
  ![6, 1152, 0] ![1, 128, 128] inb_S8x2048x128_S1x128x128_6_1152_0)) (View.ld G (Rect.unit (s := S8x2048x128) ![7, 1152, 0] ![1, 128, 128]
  inb_S8x2048x128_S1x128x128_7_1152_0)) (View.ld S (Rect.unit (s := S2048x128) ![1152, 0] ![128, 128] inb_S2048x128_S128x128_1152_0)) (View.ld TL
  (Rect.unit (s := S2048x128) ![1152, 0] ![128, 128] inb_S2048x128_S128x128_1152_0)) (View.ld Y (Rect.unit (s := S2048x128) ![1152, 0] ![128, 128]
  inb_S2048x128_S128x128_1152_0)) ++ (
  row1024 (View.ld G (Rect.unit (s := S8x2048x128) ![0, 1024, 0] ![1, 128, 128] inb_S8x2048x128_S1x128x128_0_1024_0)) (View.ld G (Rect.unit (s :=
  S8x2048x128) ![1, 1024, 0] ![1, 128, 128] inb_S8x2048x128_S1x128x128_1_1024_0)) (View.ld G (Rect.unit (s := S8x2048x128) ![2, 1024, 0] ![1, 128,
  128] inb_S8x2048x128_S1x128x128_2_1024_0)) (View.ld G (Rect.unit (s := S8x2048x128) ![3, 1024, 0] ![1, 128, 128]
  inb_S8x2048x128_S1x128x128_3_1024_0)) (View.ld G (Rect.unit (s := S8x2048x128) ![4, 1024, 0] ![1, 128, 128] inb_S8x2048x128_S1x128x128_4_1024_0))
  (View.ld G (Rect.unit (s := S8x2048x128) ![5, 1024, 0] ![1, 128, 128] inb_S8x2048x128_S1x128x128_5_1024_0)) (View.ld G (Rect.unit (s := S8x2048x128)
  ![6, 1024, 0] ![1, 128, 128] inb_S8x2048x128_S1x128x128_6_1024_0)) (View.ld G (Rect.unit (s := S8x2048x128) ![7, 1024, 0] ![1, 128, 128]
  inb_S8x2048x128_S1x128x128_7_1024_0)) (View.ld S (Rect.unit (s := S2048x128) ![1024, 0] ![128, 128] inb_S2048x128_S128x128_1024_0)) (View.ld TL
  (Rect.unit (s := S2048x128) ![1024, 0] ![128, 128] inb_S2048x128_S128x128_1024_0)) (View.ld Y (Rect.unit (s := S2048x128) ![1024, 0] ![128, 128]
  inb_S2048x128_S128x128_1024_0)) ++ (
  row896 (View.ld G (Rect.unit (s := S8x2048x128) ![0, 896, 0] ![1, 128, 128] inb_S8x2048x128_S1x128x128_0_896_0)) (View.ld G (Rect.unit (s :=
  S8x2048x128) ![1, 896, 0] ![1, 128, 128] inb_S8x2048x128_S1x128x128_1_896_0)) (View.ld G (Rect.unit (s := S8x2048x128) ![2, 896, 0] ![1, 128, 128]
  inb_S8x2048x128_S1x128x128_2_896_0)) (View.ld G (Rect.unit (s := S8x2048x128) ![3, 896, 0] ![1, 128, 128] inb_S8x2048x128_S1x128x128_3_896_0))
  (View.ld G (Rect.unit (s := S8x2048x128) ![4, 896, 0] ![1, 128, 128] inb_S8x2048x128_S1x128x128_4_896_0)) (View.ld G (Rect.unit (s := S8x2048x128)
  ![5, 896, 0] ![1, 128, 128] inb_S8x2048x128_S1x128x128_5_896_0)) (View.ld G (Rect.unit (s := S8x2048x128) ![6, 896, 0] ![1, 128, 128]
  inb_S8x2048x128_S1x128x128_6_896_0)) (View.ld G (Rect.unit (s := S8x2048x128) ![7, 896, 0] ![1, 128, 128] inb_S8x2048x128_S1x128x128_7_896_0))
  (View.ld S (Rect.unit (s := S2048x128) ![896, 0] ![128, 128] inb_S2048x128_S128x128_896_0)) (View.ld TL (Rect.unit (s := S2048x128) ![896, 0] ![128,
  128] inb_S2048x128_S128x128_896_0)) (View.ld Y (Rect.unit (s := S2048x128) ![896, 0] ![128, 128] inb_S2048x128_S128x128_896_0)) ++ (
  row768 (View.ld G (Rect.unit (s := S8x2048x128) ![0, 768, 0] ![1, 128, 128] inb_S8x2048x128_S1x128x128_0_768_0)) (View.ld G (Rect.unit (s :=
  S8x2048x128) ![1, 768, 0] ![1, 128, 128] inb_S8x2048x128_S1x128x128_1_768_0)) (View.ld G (Rect.unit (s := S8x2048x128) ![2, 768, 0] ![1, 128, 128]
  inb_S8x2048x128_S1x128x128_2_768_0)) (View.ld G (Rect.unit (s := S8x2048x128) ![3, 768, 0] ![1, 128, 128] inb_S8x2048x128_S1x128x128_3_768_0))
  (View.ld G (Rect.unit (s := S8x2048x128) ![4, 768, 0] ![1, 128, 128] inb_S8x2048x128_S1x128x128_4_768_0)) (View.ld G (Rect.unit (s := S8x2048x128)
  ![5, 768, 0] ![1, 128, 128] inb_S8x2048x128_S1x128x128_5_768_0)) (View.ld G (Rect.unit (s := S8x2048x128) ![6, 768, 0] ![1, 128, 128]
  inb_S8x2048x128_S1x128x128_6_768_0)) (View.ld G (Rect.unit (s := S8x2048x128) ![7, 768, 0] ![1, 128, 128] inb_S8x2048x128_S1x128x128_7_768_0))
  (View.ld S (Rect.unit (s := S2048x128) ![768, 0] ![128, 128] inb_S2048x128_S128x128_768_0)) (View.ld TL (Rect.unit (s := S2048x128) ![768, 0] ![128,
  128] inb_S2048x128_S128x128_768_0)) (View.ld Y (Rect.unit (s := S2048x128) ![768, 0] ![128, 128] inb_S2048x128_S128x128_768_0)) ++ (
  row640 (View.ld G (Rect.unit (s := S8x2048x128) ![0, 640, 0] ![1, 128, 128] inb_S8x2048x128_S1x128x128_0_640_0)) (View.ld G (Rect.unit (s :=
  S8x2048x128) ![1, 640, 0] ![1, 128, 128] inb_S8x2048x128_S1x128x128_1_640_0)) (View.ld G (Rect.unit (s := S8x2048x128) ![2, 640, 0] ![1, 128, 128]
  inb_S8x2048x128_S1x128x128_2_640_0)) (View.ld G (Rect.unit (s := S8x2048x128) ![3, 640, 0] ![1, 128, 128] inb_S8x2048x128_S1x128x128_3_640_0))
  (View.ld G (Rect.unit (s := S8x2048x128) ![4, 640, 0] ![1, 128, 128] inb_S8x2048x128_S1x128x128_4_640_0)) (View.ld G (Rect.unit (s := S8x2048x128)
  ![5, 640, 0] ![1, 128, 128] inb_S8x2048x128_S1x128x128_5_640_0)) (View.ld G (Rect.unit (s := S8x2048x128) ![6, 640, 0] ![1, 128, 128]
  inb_S8x2048x128_S1x128x128_6_640_0)) (View.ld G (Rect.unit (s := S8x2048x128) ![7, 640, 0] ![1, 128, 128] inb_S8x2048x128_S1x128x128_7_640_0))
  (View.ld S (Rect.unit (s := S2048x128) ![640, 0] ![128, 128] inb_S2048x128_S128x128_640_0)) (View.ld TL (Rect.unit (s := S2048x128) ![640, 0] ![128,
  128] inb_S2048x128_S128x128_640_0)) (View.ld Y (Rect.unit (s := S2048x128) ![640, 0] ![128, 128] inb_S2048x128_S128x128_640_0)) ++ (
  row512 (View.ld G (Rect.unit (s := S8x2048x128) ![0, 512, 0] ![1, 128, 128] inb_S8x2048x128_S1x128x128_0_512_0)) (View.ld G (Rect.unit (s :=
  S8x2048x128) ![1, 512, 0] ![1, 128, 128] inb_S8x2048x128_S1x128x128_1_512_0)) (View.ld G (Rect.unit (s := S8x2048x128) ![2, 512, 0] ![1, 128, 128]
  inb_S8x2048x128_S1x128x128_2_512_0)) (View.ld G (Rect.unit (s := S8x2048x128) ![3, 512, 0] ![1, 128, 128] inb_S8x2048x128_S1x128x128_3_512_0))
  (View.ld G (Rect.unit (s := S8x2048x128) ![4, 512, 0] ![1, 128, 128] inb_S8x2048x128_S1x128x128_4_512_0)) (View.ld G (Rect.unit (s := S8x2048x128)
  ![5, 512, 0] ![1, 128, 128] inb_S8x2048x128_S1x128x128_5_512_0)) (View.ld G (Rect.unit (s := S8x2048x128) ![6, 512, 0] ![1, 128, 128]
  inb_S8x2048x128_S1x128x128_6_512_0)) (View.ld G (Rect.unit (s := S8x2048x128) ![7, 512, 0] ![1, 128, 128] inb_S8x2048x128_S1x128x128_7_512_0))
  (View.ld S (Rect.unit (s := S2048x128) ![512, 0] ![128, 128] inb_S2048x128_S128x128_512_0)) (View.ld TL (Rect.unit (s := S2048x128) ![512, 0] ![128,
  128] inb_S2048x128_S128x128_512_0)) (View.ld Y (Rect.unit (s := S2048x128) ![512, 0] ![128, 128] inb_S2048x128_S128x128_512_0)) ++ (
  row384 (View.ld G (Rect.unit (s := S8x2048x128) ![0, 384, 0] ![1, 128, 128] inb_S8x2048x128_S1x128x128_0_384_0)) (View.ld G (Rect.unit (s :=
  S8x2048x128) ![1, 384, 0] ![1, 128, 128] inb_S8x2048x128_S1x128x128_1_384_0)) (View.ld G (Rect.unit (s := S8x2048x128) ![2, 384, 0] ![1, 128, 128]
  inb_S8x2048x128_S1x128x128_2_384_0)) (View.ld G (Rect.unit (s := S8x2048x128) ![3, 384, 0] ![1, 128, 128] inb_S8x2048x128_S1x128x128_3_384_0))
  (View.ld G (Rect.unit (s := S8x2048x128) ![4, 384, 0] ![1, 128, 128] inb_S8x2048x128_S1x128x128_4_384_0)) (View.ld G (Rect.unit (s := S8x2048x128)
  ![5, 384, 0] ![1, 128, 128] inb_S8x2048x128_S1x128x128_5_384_0)) (View.ld G (Rect.unit (s := S8x2048x128) ![6, 384, 0] ![1, 128, 128]
  inb_S8x2048x128_S1x128x128_6_384_0)) (View.ld G (Rect.unit (s := S8x2048x128) ![7, 384, 0] ![1, 128, 128] inb_S8x2048x128_S1x128x128_7_384_0))
  (View.ld S (Rect.unit (s := S2048x128) ![384, 0] ![128, 128] inb_S2048x128_S128x128_384_0)) (View.ld TL (Rect.unit (s := S2048x128) ![384, 0] ![128,
  128] inb_S2048x128_S128x128_384_0)) (View.ld Y (Rect.unit (s := S2048x128) ![384, 0] ![128, 128] inb_S2048x128_S128x128_384_0)) ++ (
  row256 (View.ld G (Rect.unit (s := S8x2048x128) ![0, 256, 0] ![1, 128, 128] inb_S8x2048x128_S1x128x128_0_256_0)) (View.ld G (Rect.unit (s :=
  S8x2048x128) ![1, 256, 0] ![1, 128, 128] inb_S8x2048x128_S1x128x128_1_256_0)) (View.ld G (Rect.unit (s := S8x2048x128) ![2, 256, 0] ![1, 128, 128]
  inb_S8x2048x128_S1x128x128_2_256_0)) (View.ld G (Rect.unit (s := S8x2048x128) ![3, 256, 0] ![1, 128, 128] inb_S8x2048x128_S1x128x128_3_256_0))
  (View.ld G (Rect.unit (s := S8x2048x128) ![4, 256, 0] ![1, 128, 128] inb_S8x2048x128_S1x128x128_4_256_0)) (View.ld G (Rect.unit (s := S8x2048x128)
  ![5, 256, 0] ![1, 128, 128] inb_S8x2048x128_S1x128x128_5_256_0)) (View.ld G (Rect.unit (s := S8x2048x128) ![6, 256, 0] ![1, 128, 128]
  inb_S8x2048x128_S1x128x128_6_256_0)) (View.ld G (Rect.unit (s := S8x2048x128) ![7, 256, 0] ![1, 128, 128] inb_S8x2048x128_S1x128x128_7_256_0))
  (View.ld S (Rect.unit (s := S2048x128) ![256, 0] ![128, 128] inb_S2048x128_S128x128_256_0)) (View.ld TL (Rect.unit (s := S2048x128) ![256, 0] ![128,
  128] inb_S2048x128_S128x128_256_0)) (View.ld Y (Rect.unit (s := S2048x128) ![256, 0] ![128, 128] inb_S2048x128_S128x128_256_0)) ++ (
  row128 (View.ld G (Rect.unit (s := S8x2048x128) ![0, 128, 0] ![1, 128, 128] inb_S8x2048x128_S1x128x128_0_128_0)) (View.ld G (Rect.unit (s :=
  S8x2048x128) ![1, 128, 0] ![1, 128, 128] inb_S8x2048x128_S1x128x128_1_128_0)) (View.ld G (Rect.unit (s := S8x2048x128) ![2, 128, 0] ![1, 128, 128]
  inb_S8x2048x128_S1x128x128_2_128_0)) (View.ld G (Rect.unit (s := S8x2048x128) ![3, 128, 0] ![1, 128, 128] inb_S8x2048x128_S1x128x128_3_128_0))
  (View.ld G (Rect.unit (s := S8x2048x128) ![4, 128, 0] ![1, 128, 128] inb_S8x2048x128_S1x128x128_4_128_0)) (View.ld G (Rect.unit (s := S8x2048x128)
  ![5, 128, 0] ![1, 128, 128] inb_S8x2048x128_S1x128x128_5_128_0)) (View.ld G (Rect.unit (s := S8x2048x128) ![6, 128, 0] ![1, 128, 128]
  inb_S8x2048x128_S1x128x128_6_128_0)) (View.ld G (Rect.unit (s := S8x2048x128) ![7, 128, 0] ![1, 128, 128] inb_S8x2048x128_S1x128x128_7_128_0))
  (View.ld S (Rect.unit (s := S2048x128) ![128, 0] ![128, 128] inb_S2048x128_S128x128_128_0)) (View.ld TL (Rect.unit (s := S2048x128) ![128, 0] ![128,
  128] inb_S2048x128_S128x128_128_0)) (View.ld Y (Rect.unit (s := S2048x128) ![128, 0] ![128, 128] inb_S2048x128_S128x128_128_0)) ++ (
  row0 (View.ld G (Rect.unit (s := S8x2048x128) ![0, 0, 0] ![1, 128, 128] inb_S8x2048x128_S1x128x128_0_0_0)) (View.ld G (Rect.unit (s := S8x2048x128)
  ![1, 0, 0] ![1, 128, 128] inb_S8x2048x128_S1x128x128_1_0_0)) (View.ld G (Rect.unit (s := S8x2048x128) ![2, 0, 0] ![1, 128, 128]
  inb_S8x2048x128_S1x128x128_2_0_0)) (View.ld G (Rect.unit (s := S8x2048x128) ![3, 0, 0] ![1, 128, 128] inb_S8x2048x128_S1x128x128_3_0_0)) (View.ld G
  (Rect.unit (s := S8x2048x128) ![4, 0, 0] ![1, 128, 128] inb_S8x2048x128_S1x128x128_4_0_0)) (View.ld G (Rect.unit (s := S8x2048x128) ![5, 0, 0] ![1,
  128, 128] inb_S8x2048x128_S1x128x128_5_0_0)) (View.ld G (Rect.unit (s := S8x2048x128) ![6, 0, 0] ![1, 128, 128] inb_S8x2048x128_S1x128x128_6_0_0))
  (View.ld G (Rect.unit (s := S8x2048x128) ![7, 0, 0] ![1, 128, 128] inb_S8x2048x128_S1x128x128_7_0_0)) (View.ld S (Rect.unit (s := S2048x128) ![0, 0]
  ![128, 128] inb_S2048x128_S128x128_0_0)) (View.ld TL (Rect.unit (s := S2048x128) ![0, 0] ![128, 128] inb_S2048x128_S128x128_0_0)) (View.ld Y
  (Rect.unit (s := S2048x128) ![0, 0] ![128, 128] inb_S2048x128_S128x128_0_0)))))))))))))))))

/-- Each of the eight pieces is a block of the scales. -/
theorem rowP_pieces (o : ℕ) (hb) (h0 : ∀ a, (![0, o, 0] : Fin S8x2048x128.rank → ℕ) a + ![1, 128, 128] a ≤ S8x2048x128.size a) (h1 : ∀ a, (![1, o, 0] : Fin S8x2048x128.rank → ℕ) a + ![1, 128, 128] a ≤ S8x2048x128.size a) (h2 : ∀ a, (![2, o, 0] : Fin S8x2048x128.rank → ℕ) a + ![1, 128, 128] a ≤ S8x2048x128.size a) (h3 : ∀ a, (![3, o, 0] : Fin S8x2048x128.rank → ℕ) a + ![1, 128, 128] a ≤ S8x2048x128.size a) (h4 : ∀ a, (![4, o, 0] : Fin S8x2048x128.rank → ℕ) a + ![1, 128, 128] a ≤ S8x2048x128.size a) (h5 : ∀ a, (![5, o, 0] : Fin S8x2048x128.rank → ℕ) a + ![1, 128, 128] a ≤ S8x2048x128.size a) (h6 : ∀ a, (![6, o, 0] : Fin S8x2048x128.rank → ℕ) a + ![1, 128, 128] a ≤ S8x2048x128.size a) (h7 : ∀ a, (![7, o, 0] : Fin S8x2048x128.rank → ℕ) a + ![1, 128, 128] a ≤ S8x2048x128.size a) :
    ∀ p ∈ rowP o h0 h1 h2 h3 h4 h5 h6 h7 (View.ld G (Rect.unit (s := S8x2048x128) ![0, o, 0] ![1, 128, 128] h0)) (View.ld G (Rect.unit (s := S8x2048x128) ![1, o, 0] ![1, 128, 128] h1)) (View.ld G (Rect.unit (s := S8x2048x128) ![2, o, 0] ![1, 128, 128] h2)) (View.ld G (Rect.unit (s := S8x2048x128) ![3, o, 0] ![1, 128, 128] h3)) (View.ld G (Rect.unit (s := S8x2048x128) ![4, o, 0] ![1, 128, 128] h4)) (View.ld G (Rect.unit (s := S8x2048x128) ![5, o, 0] ![1, 128, 128] h5)) (View.ld G (Rect.unit (s := S8x2048x128) ![6, o, 0] ![1, 128, 128] h6)) (View.ld G (Rect.unit (s := S8x2048x128) ![7, o, 0] ![1, 128, 128] h7))
      (View.ld S (Rect.unit (s := S2048x128) ![o, 0] ![128, 128] hb)) (View.ld TL (Rect.unit (s := S2048x128) ![o, 0] ![128, 128] hb)) (View.ld Y (Rect.unit (s := S2048x128) ![o, 0] ![128, 128] hb)),
      ∀ x, p.2 x = (fun y : S8x2048x128.Idx => RT S TL Y G (y 0) (y 1) (y 2)) (p.1.emb x) := by
  unfold rowP
  refine List.forall_mem_cons.mpr ⟨fun x => p7_apply S TL Y G 7 o hb h7 (by decide) x, ?_⟩
  refine List.forall_mem_cons.mpr ⟨fun x => p7_apply S TL Y G 6 o hb h6 (by decide) x, ?_⟩
  refine List.forall_mem_cons.mpr ⟨fun x => p7_apply S TL Y G 5 o hb h5 (by decide) x, ?_⟩
  refine List.forall_mem_cons.mpr ⟨fun x => p7_apply S TL Y G 4 o hb h4 (by decide) x, ?_⟩
  refine List.forall_mem_cons.mpr ⟨fun x => p7_apply S TL Y G 3 o hb h3 (by decide) x, ?_⟩
  refine List.forall_mem_cons.mpr ⟨fun x => p7_apply S TL Y G 2 o hb h2 (by decide) x, ?_⟩
  refine List.forall_mem_cons.mpr ⟨fun x => p7_apply S TL Y G 1 o hb h1 (by decide) x, ?_⟩
  refine List.forall_mem_cons.mpr ⟨fun x => p7_apply S TL Y G 0 o hb h0 (by decide) x, ?_⟩
  exact fun p hp => absurd hp List.not_mem_nil

/-- So is each of all of them. -/
theorem gsL_pieces : ∀ p ∈ gsL S TL Y G, ∀ x, p.2 x = (fun y : S8x2048x128.Idx => RT S TL Y G (y 0) (y 1) (y 2)) (p.1.emb x) := by
  unfold gsL
  rw [row1920_eq, row1792_eq, row1664_eq, row1536_eq, row1408_eq, row1280_eq, row1152_eq, row1024_eq, row896_eq, row768_eq, row640_eq, row512_eq, row384_eq, row256_eq, row128_eq, row0_eq]
  refine List.forall_mem_append.mpr ⟨rowP_pieces S TL Y G 1920 inb_S2048x128_S128x128_1920_0 inb_S8x2048x128_S1x128x128_0_1920_0 inb_S8x2048x128_S1x128x128_1_1920_0 inb_S8x2048x128_S1x128x128_2_1920_0 inb_S8x2048x128_S1x128x128_3_1920_0 inb_S8x2048x128_S1x128x128_4_1920_0 inb_S8x2048x128_S1x128x128_5_1920_0 inb_S8x2048x128_S1x128x128_6_1920_0 inb_S8x2048x128_S1x128x128_7_1920_0, ?_⟩
  refine List.forall_mem_append.mpr ⟨rowP_pieces S TL Y G 1792 inb_S2048x128_S128x128_1792_0 inb_S8x2048x128_S1x128x128_0_1792_0 inb_S8x2048x128_S1x128x128_1_1792_0 inb_S8x2048x128_S1x128x128_2_1792_0 inb_S8x2048x128_S1x128x128_3_1792_0 inb_S8x2048x128_S1x128x128_4_1792_0 inb_S8x2048x128_S1x128x128_5_1792_0 inb_S8x2048x128_S1x128x128_6_1792_0 inb_S8x2048x128_S1x128x128_7_1792_0, ?_⟩
  refine List.forall_mem_append.mpr ⟨rowP_pieces S TL Y G 1664 inb_S2048x128_S128x128_1664_0 inb_S8x2048x128_S1x128x128_0_1664_0 inb_S8x2048x128_S1x128x128_1_1664_0 inb_S8x2048x128_S1x128x128_2_1664_0 inb_S8x2048x128_S1x128x128_3_1664_0 inb_S8x2048x128_S1x128x128_4_1664_0 inb_S8x2048x128_S1x128x128_5_1664_0 inb_S8x2048x128_S1x128x128_6_1664_0 inb_S8x2048x128_S1x128x128_7_1664_0, ?_⟩
  refine List.forall_mem_append.mpr ⟨rowP_pieces S TL Y G 1536 inb_S2048x128_S128x128_1536_0 inb_S8x2048x128_S1x128x128_0_1536_0 inb_S8x2048x128_S1x128x128_1_1536_0 inb_S8x2048x128_S1x128x128_2_1536_0 inb_S8x2048x128_S1x128x128_3_1536_0 inb_S8x2048x128_S1x128x128_4_1536_0 inb_S8x2048x128_S1x128x128_5_1536_0 inb_S8x2048x128_S1x128x128_6_1536_0 inb_S8x2048x128_S1x128x128_7_1536_0, ?_⟩
  refine List.forall_mem_append.mpr ⟨rowP_pieces S TL Y G 1408 inb_S2048x128_S128x128_1408_0 inb_S8x2048x128_S1x128x128_0_1408_0 inb_S8x2048x128_S1x128x128_1_1408_0 inb_S8x2048x128_S1x128x128_2_1408_0 inb_S8x2048x128_S1x128x128_3_1408_0 inb_S8x2048x128_S1x128x128_4_1408_0 inb_S8x2048x128_S1x128x128_5_1408_0 inb_S8x2048x128_S1x128x128_6_1408_0 inb_S8x2048x128_S1x128x128_7_1408_0, ?_⟩
  refine List.forall_mem_append.mpr ⟨rowP_pieces S TL Y G 1280 inb_S2048x128_S128x128_1280_0 inb_S8x2048x128_S1x128x128_0_1280_0 inb_S8x2048x128_S1x128x128_1_1280_0 inb_S8x2048x128_S1x128x128_2_1280_0 inb_S8x2048x128_S1x128x128_3_1280_0 inb_S8x2048x128_S1x128x128_4_1280_0 inb_S8x2048x128_S1x128x128_5_1280_0 inb_S8x2048x128_S1x128x128_6_1280_0 inb_S8x2048x128_S1x128x128_7_1280_0, ?_⟩
  refine List.forall_mem_append.mpr ⟨rowP_pieces S TL Y G 1152 inb_S2048x128_S128x128_1152_0 inb_S8x2048x128_S1x128x128_0_1152_0 inb_S8x2048x128_S1x128x128_1_1152_0 inb_S8x2048x128_S1x128x128_2_1152_0 inb_S8x2048x128_S1x128x128_3_1152_0 inb_S8x2048x128_S1x128x128_4_1152_0 inb_S8x2048x128_S1x128x128_5_1152_0 inb_S8x2048x128_S1x128x128_6_1152_0 inb_S8x2048x128_S1x128x128_7_1152_0, ?_⟩
  refine List.forall_mem_append.mpr ⟨rowP_pieces S TL Y G 1024 inb_S2048x128_S128x128_1024_0 inb_S8x2048x128_S1x128x128_0_1024_0 inb_S8x2048x128_S1x128x128_1_1024_0 inb_S8x2048x128_S1x128x128_2_1024_0 inb_S8x2048x128_S1x128x128_3_1024_0 inb_S8x2048x128_S1x128x128_4_1024_0 inb_S8x2048x128_S1x128x128_5_1024_0 inb_S8x2048x128_S1x128x128_6_1024_0 inb_S8x2048x128_S1x128x128_7_1024_0, ?_⟩
  refine List.forall_mem_append.mpr ⟨rowP_pieces S TL Y G 896 inb_S2048x128_S128x128_896_0 inb_S8x2048x128_S1x128x128_0_896_0 inb_S8x2048x128_S1x128x128_1_896_0 inb_S8x2048x128_S1x128x128_2_896_0 inb_S8x2048x128_S1x128x128_3_896_0 inb_S8x2048x128_S1x128x128_4_896_0 inb_S8x2048x128_S1x128x128_5_896_0 inb_S8x2048x128_S1x128x128_6_896_0 inb_S8x2048x128_S1x128x128_7_896_0, ?_⟩
  refine List.forall_mem_append.mpr ⟨rowP_pieces S TL Y G 768 inb_S2048x128_S128x128_768_0 inb_S8x2048x128_S1x128x128_0_768_0 inb_S8x2048x128_S1x128x128_1_768_0 inb_S8x2048x128_S1x128x128_2_768_0 inb_S8x2048x128_S1x128x128_3_768_0 inb_S8x2048x128_S1x128x128_4_768_0 inb_S8x2048x128_S1x128x128_5_768_0 inb_S8x2048x128_S1x128x128_6_768_0 inb_S8x2048x128_S1x128x128_7_768_0, ?_⟩
  refine List.forall_mem_append.mpr ⟨rowP_pieces S TL Y G 640 inb_S2048x128_S128x128_640_0 inb_S8x2048x128_S1x128x128_0_640_0 inb_S8x2048x128_S1x128x128_1_640_0 inb_S8x2048x128_S1x128x128_2_640_0 inb_S8x2048x128_S1x128x128_3_640_0 inb_S8x2048x128_S1x128x128_4_640_0 inb_S8x2048x128_S1x128x128_5_640_0 inb_S8x2048x128_S1x128x128_6_640_0 inb_S8x2048x128_S1x128x128_7_640_0, ?_⟩
  refine List.forall_mem_append.mpr ⟨rowP_pieces S TL Y G 512 inb_S2048x128_S128x128_512_0 inb_S8x2048x128_S1x128x128_0_512_0 inb_S8x2048x128_S1x128x128_1_512_0 inb_S8x2048x128_S1x128x128_2_512_0 inb_S8x2048x128_S1x128x128_3_512_0 inb_S8x2048x128_S1x128x128_4_512_0 inb_S8x2048x128_S1x128x128_5_512_0 inb_S8x2048x128_S1x128x128_6_512_0 inb_S8x2048x128_S1x128x128_7_512_0, ?_⟩
  refine List.forall_mem_append.mpr ⟨rowP_pieces S TL Y G 384 inb_S2048x128_S128x128_384_0 inb_S8x2048x128_S1x128x128_0_384_0 inb_S8x2048x128_S1x128x128_1_384_0 inb_S8x2048x128_S1x128x128_2_384_0 inb_S8x2048x128_S1x128x128_3_384_0 inb_S8x2048x128_S1x128x128_4_384_0 inb_S8x2048x128_S1x128x128_5_384_0 inb_S8x2048x128_S1x128x128_6_384_0 inb_S8x2048x128_S1x128x128_7_384_0, ?_⟩
  refine List.forall_mem_append.mpr ⟨rowP_pieces S TL Y G 256 inb_S2048x128_S128x128_256_0 inb_S8x2048x128_S1x128x128_0_256_0 inb_S8x2048x128_S1x128x128_1_256_0 inb_S8x2048x128_S1x128x128_2_256_0 inb_S8x2048x128_S1x128x128_3_256_0 inb_S8x2048x128_S1x128x128_4_256_0 inb_S8x2048x128_S1x128x128_5_256_0 inb_S8x2048x128_S1x128x128_6_256_0 inb_S8x2048x128_S1x128x128_7_256_0, ?_⟩
  refine List.forall_mem_append.mpr ⟨rowP_pieces S TL Y G 128 inb_S2048x128_S128x128_128_0 inb_S8x2048x128_S1x128x128_0_128_0 inb_S8x2048x128_S1x128x128_1_128_0 inb_S8x2048x128_S1x128x128_2_128_0 inb_S8x2048x128_S1x128x128_3_128_0 inb_S8x2048x128_S1x128x128_4_128_0 inb_S8x2048x128_S1x128x128_5_128_0 inb_S8x2048x128_S1x128x128_6_128_0 inb_S8x2048x128_S1x128x128_7_128_0, ?_⟩
  exact rowP_pieces S TL Y G 0 inb_S2048x128_S128x128_0_0 inb_S8x2048x128_S1x128x128_0_0_0 inb_S8x2048x128_S1x128x128_1_0_0 inb_S8x2048x128_S1x128x128_2_0_0 inb_S8x2048x128_S1x128x128_3_0_0 inb_S8x2048x128_S1x128x128_4_0_0 inb_S8x2048x128_S1x128x128_5_0_0 inb_S8x2048x128_S1x128x128_6_0_0 inb_S8x2048x128_S1x128x128_7_0_0

/-- An entry that the newer stores cover reads from them alone. -/
theorem read_newest {κ : Kind} {sp : Space} {s : Shape} {e : EltTy} {Val : EltTy → Type} (v : View sig κ sp s e) (f : v.ty.Contents Val) (R : s.Idx → Val e)
    (Q : List (View.Piece Val s e)) : ∀ L : List (View.Piece Val s e), (∀ p ∈ L, ∀ x : p.1.shape.Idx, p.2 x = R (p.1.emb x)) →
      ∀ y : s.Idx, (∃ p ∈ L, y ∈ p.1.set) → v.read Val (v.writes Val f (L ++ Q)) y = R y
  | [], _, _, h => by obtain ⟨_, hm, _⟩ := h; exact absurd hm List.not_mem_nil
  | p :: L, hG, y, h => by
    rw [List.cons_append]
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine read_newest v f R Q L (fun p' hp' => hG p' (List.mem_cons_of_mem _ hp')) y ?_
      obtain ⟨p', hm, hy''⟩ := h
      rcases List.mem_cons.mp hm with rfl | hm
      · exact absurd hy'' hy
      · exact ⟨p', hm, hy''⟩

/-- What is read back once they are stored: the scales. -/
theorem gsL_read {κ : Kind} {sp : Space} (v : View sig κ sp S8x2048x128 .f32) (f : v.ty.Contents (Elt Ideal)) (Q) (y : S8x2048x128.Idx) :
    v.read (Elt Ideal) (v.writes (Elt Ideal) f (gsL S TL Y G ++ Q)) y = RT S TL Y G (y 0) (y 1) (y 2) :=
  read_newest v f (fun y : S8x2048x128.Idx => RT S TL Y G (y 0) (y 1) (y 2)) Q _ (gsL_pieces S TL Y G) y
    (View.cover_of_tiledL _ ![1, 128, 128] (by sl_kernel_rfl) y)

end Cert.FwdIdeal.Hand

end
-- ==== Proof.FwdGsd.lean ====
module

public import proofs.«01_k».proof.Proof.FwdOut
public import Idealize.ShloMosaic.Lib.Pipeline.ValueKit

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

variable (S TL : Vec Ideal S2048x128 .f32) (Y : Vec Ideal S2048x128 .i32) (G : Vec Ideal S8x2048x128 .f32)

/-- The table's rows 1920 to 2047, as the kernel computes them, -/
def tab1920 (g0 g1 g2 g3 g4 g5 g6 g7 : Vec Ideal S1x128x128 .f32) (s l : Vec Ideal S128x128 .f32) (Y : Vec Ideal S128x128 .i32) : FVec Ideal S128x8 .f32 :=
  k0_pay1044 (F := Ideal) (iota Kind.tc S128x128 32 [1] iota_S128x128_d1_w32) (k0_pay1038 (iota Kind.tc S128x128 32 [1] iota_S128x128_d1_w32)
  (k0_pay1032 (iota Kind.tc S128x128 32 [1] iota_S128x128_d1_w32) (k0_pay1026 (iota Kind.tc S128x128 32 [1] iota_S128x128_d1_w32) (k0_pay1019 (iota
  Kind.tc S128x128 32 [1] iota_S128x128_d1_w32) (k0_pay1013 (iota Kind.tc S128x128 32 [1] iota_S128x128_d1_w32) (k0_pay1003 (iota Kind.tc S128x128 32
  [1] iota_S128x128_d1_w32) (k0_pay998 (iota Kind.tc S128x128 32 [1] iota_S128x128_d1_w32) k0_pay993 (k0_pay996 (k0_pay991 s l) (k0_pay994 (k0_pay134
  g0) s) (k0_pay995 Y))) (k0_pay999 (k0_pay135 g1) (k0_pay985 s) (k0_pay991 s l) (k0_pay992 Y)) (k0_pay1000 (k0_pay135 g1) (k0_pay985 s) (k0_pay991 s
  l) (k0_pay992 Y))) (k0_pay1004 (k0_pay136 g2) (k0_pay985 s) (k0_pay991 s l) (k0_pay992 Y)) (k0_pay1005 (k0_pay136 g2) (k0_pay985 s) (k0_pay991 s l)
  (k0_pay992 Y)) (k0_pay1007 (k0_pay136 g2) (k0_pay985 s) (k0_pay991 s l) (k0_pay992 Y)) (k0_pay1008 (k0_pay136 g2) (k0_pay985 s) (k0_pay991 s l)
  (k0_pay992 Y)) (k0_pay1009 (k0_pay136 g2) (k0_pay985 s) (k0_pay991 s l) (k0_pay992 Y)) (k0_pay1010 (k0_pay136 g2) (k0_pay985 s) (k0_pay991 s l)
  (k0_pay992 Y))) (k0_pay1014 (k0_pay137 g3) (k0_pay985 s) (k0_pay991 s l) (k0_pay992 Y)) (k0_pay1015 (k0_pay137 g3) (k0_pay985 s) (k0_pay991 s l)
  (k0_pay992 Y)) k0_pay1016) (k0_pay1024 (k0_pay1021 (k0_pay992 Y)) (k0_pay1022 (k0_pay138 g4) (k0_pay985 s) (k0_pay991 s l)) (k0_pay1023 (k0_pay138
  g4) (k0_pay985 s)))) (k0_pay1028 (k0_pay139 g5) (k0_pay985 s) (k0_pay991 s l) (k0_pay992 Y)) (k0_pay1029 (k0_pay139 g5) (k0_pay985 s) (k0_pay991 s
  l) (k0_pay992 Y)) 0#32) (k0_pay1033 (k0_pay140 g6) (k0_pay985 s) (k0_pay991 s l) (k0_pay992 Y)) (k0_pay1034 (k0_pay140 g6) (k0_pay985 s) (k0_pay991
  s l) (k0_pay992 Y)) k0_pay1035) (k0_pay1039 (k0_pay141 g7) (k0_pay985 s) (k0_pay991 s l) (k0_pay992 Y)) (k0_pay1040 (k0_pay141 g7) (k0_pay985 s)
  (k0_pay991 s l) (k0_pay992 Y)) (k0_pay1041 (k0_pay141 g7) (k0_pay985 s) (k0_pay991 s l) (k0_pay992 Y))

/-- are the scales. -/
theorem tab1920_eq (g0 g1 g2 g3 g4 g5 g6 g7 : Vec Ideal S1x128x128 .f32) (s l : Vec Ideal S128x128 .f32) (Y : Vec Ideal S128x128 .i32) :
    tab1920 g0 g1 g2 g3 g4 g5 g6 g7 s l Y = p9 g0 g1 g2 g3 g4 g5 g6 g7 s l Y := rfl

/-- The table's rows 1792 to 1919, as the kernel computes them, -/
def tab1792 (g0 g1 g2 g3 g4 g5 g6 g7 : Vec Ideal S1x128x128 .f32) (s l : Vec Ideal S128x128 .f32) (Y : Vec Ideal S128x128 .i32) : FVec Ideal S128x8 .f32 :=
  k0_pay984 (F := Ideal) (k0_pay983 (iota Kind.tc S128x128 32 [1] iota_S128x128_d1_w32) (k0_pay978 (iota Kind.tc S128x128 32 [1] iota_S128x128_d1_w32)
  (k0_pay971 (iota Kind.tc S128x128 32 [1] iota_S128x128_d1_w32) (k0_pay965 (iota Kind.tc S128x128 32 [1] iota_S128x128_d1_w32) (k0_pay961 (iota
  Kind.tc S128x128 32 [1] iota_S128x128_d1_w32) (k0_pay957 (iota Kind.tc S128x128 32 [1] iota_S128x128_d1_w32) (k0_pay951 (iota Kind.tc S128x128 32
  [1] iota_S128x128_d1_w32) (k0_pay946 (iota Kind.tc S128x128 32 [1] iota_S128x128_d1_w32) k0_pay940 (k0_pay941 (k0_pay125 g0) (k0_pay932 s)
  (k0_pay938 s l) Y) (k0_pay942 (k0_pay125 g0) (k0_pay932 s) (k0_pay938 s l) Y) k0_pay943) (k0_pay947 (k0_pay126 g1) (k0_pay932 s) (k0_pay938 s l)
  (k0_pay939 Y)) (k0_pay948 (k0_pay126 g1) (k0_pay932 s) (k0_pay938 s l) (k0_pay939 Y))) (k0_pay952 (k0_pay127 g2) (k0_pay932 s) (k0_pay938 s l)
  (k0_pay939 Y)) (k0_pay953 (k0_pay127 g2) (k0_pay932 s) (k0_pay938 s l) (k0_pay939 Y)) (k0_pay954 (k0_pay127 g2) (k0_pay932 s) (k0_pay938 s l)
  (k0_pay939 Y)) 23#32) (k0_pay959 (k0_pay958 (k0_pay128 g3) (k0_pay932 s) (k0_pay938 s l) (k0_pay939 Y)))) (k0_pay962 (k0_pay129 g4) (k0_pay932 s)
  (k0_pay938 s l) (k0_pay939 Y))) (k0_pay967 (k0_pay130 g5) (k0_pay932 s) (k0_pay938 s l) (k0_pay939 Y)) (k0_pay968 (k0_pay130 g5) (k0_pay932 s)
  (k0_pay938 s l) (k0_pay939 Y)) 127#32) (k0_pay972 (k0_pay131 g6) (k0_pay932 s) (k0_pay938 s l) (k0_pay939 Y)) (k0_pay973 (k0_pay131 g6) (k0_pay932
  s) (k0_pay938 s l) (k0_pay939 Y)) (k0_pay974 (k0_pay131 g6) (k0_pay932 s) (k0_pay938 s l) (k0_pay939 Y)) (k0_pay975 (k0_pay131 g6) (k0_pay932 s)
  (k0_pay938 s l) (k0_pay939 Y))) (k0_pay979 (k0_pay133 (k0_pay132 g7)) (k0_pay932 s) (k0_pay938 s l) (k0_pay939 Y)) (k0_pay980 (k0_pay133 (k0_pay132
  g7)) (k0_pay932 s) (k0_pay938 s l) (k0_pay939 Y)))

/-- are the scales. -/
theorem tab1792_eq (g0 g1 g2 g3 g4 g5 g6 g7 : Vec Ideal S1x128x128 .f32) (s l : Vec Ideal S128x128 .f32) (Y : Vec Ideal S128x128 .i32) :
    tab1792 g0 g1 g2 g3 g4 g5 g6 g7 s l Y = p9 g0 g1 g2 g3 g4 g5 g6 g7 s l Y := rfl

/-- The table's rows 1664 to 1791, as the kernel computes them, -/
def tab1664 (g0 g1 g2 g3 g4 g5 g6 g7 : Vec Ideal S1x128x128 .f32) (s l : Vec Ideal S128x128 .f32) (Y : Vec Ideal S128x128 .i32) : FVec Ideal S128x8 .f32 :=
  k0_pay931 (F := Ideal) (iota Kind.tc S128x128 32 [1] iota_S128x128_d1_w32) (k0_pay926 (iota Kind.tc S128x128 32 [1] iota_S128x128_d1_w32) (k0_pay920
  (iota Kind.tc S128x128 32 [1] iota_S128x128_d1_w32) (k0_pay912 (iota Kind.tc S128x128 32 [1] iota_S128x128_d1_w32) (k0_pay906 (iota Kind.tc S128x128
  32 [1] iota_S128x128_d1_w32) (k0_pay901 (iota Kind.tc S128x128 32 [1] iota_S128x128_d1_w32) (k0_pay895 (iota Kind.tc S128x128 32 [1]
  iota_S128x128_d1_w32) (k0_pay889 (iota Kind.tc S128x128 32 [1] iota_S128x128_d1_w32) k0_pay883 (k0_pay884 (k0_pay117 (k0_pay116 g0)) (k0_pay875 s)
  (k0_pay876 l) (k0_pay877 s) (k0_pay878 l) Y) (k0_pay885 (k0_pay117 (k0_pay116 g0)) (k0_pay875 s) (k0_pay876 l) (k0_pay877 s) (k0_pay878 l) Y)
  k0_pay886) (k0_pay890 (k0_pay118 g1) (k0_pay875 s) (k0_pay881 (k0_pay876 l) (k0_pay877 s) (k0_pay878 l)) (k0_pay882 Y)) (k0_pay891 (k0_pay118 g1)
  (k0_pay875 s) (k0_pay881 (k0_pay876 l) (k0_pay877 s) (k0_pay878 l)) (k0_pay882 Y)) (k0_pay892 (k0_pay118 g1) (k0_pay875 s) (k0_pay881 (k0_pay876 l)
  (k0_pay877 s) (k0_pay878 l)) (k0_pay882 Y))) (k0_pay898 (k0_pay896 (k0_pay119 g2) (k0_pay875 s) (k0_pay881 (k0_pay876 l) (k0_pay877 s) (k0_pay878
  l)) (k0_pay882 Y)) k0_pay897) k0_pay900) (k0_pay902 (k0_pay120 g3) (k0_pay875 s) (k0_pay881 (k0_pay876 l) (k0_pay877 s) (k0_pay878 l)) (k0_pay882
  Y)) k0_pay903) (k0_pay908 (k0_pay121 g4) (k0_pay875 s) (k0_pay881 (k0_pay876 l) (k0_pay877 s) (k0_pay878 l)) (k0_pay882 Y)) (k0_pay909 (k0_pay121
  g4) (k0_pay875 s) (k0_pay881 (k0_pay876 l) (k0_pay877 s) (k0_pay878 l)) (k0_pay882 Y))) (k0_pay913 (k0_pay122 g5) (k0_pay875 s) (k0_pay881
  (k0_pay876 l) (k0_pay877 s) (k0_pay878 l)) (k0_pay882 Y)) (k0_pay914 (k0_pay122 g5) (k0_pay875 s) (k0_pay881 (k0_pay876 l) (k0_pay877 s) (k0_pay878
  l)) (k0_pay882 Y)) (k0_pay915 (k0_pay122 g5) (k0_pay875 s) (k0_pay881 (k0_pay876 l) (k0_pay877 s) (k0_pay878 l)) (k0_pay882 Y)) (k0_pay916
  (k0_pay122 g5) (k0_pay875 s) (k0_pay881 (k0_pay876 l) (k0_pay877 s) (k0_pay878 l)) (k0_pay882 Y)) k0_pay917) (k0_pay921 (k0_pay123 g6) (k0_pay875 s)
  (k0_pay881 (k0_pay876 l) (k0_pay877 s) (k0_pay878 l)) (k0_pay882 Y)) (k0_pay922 (k0_pay123 g6) (k0_pay875 s) (k0_pay881 (k0_pay876 l) (k0_pay877 s)
  (k0_pay878 l)) (k0_pay882 Y)) k0_pay923) (k0_pay928 (k0_pay881 (k0_pay876 l) (k0_pay877 s) (k0_pay878 l)) (k0_pay882 Y) (k0_pay927 (k0_pay124 g7)
  (k0_pay875 s)) 7#32)

/-- are the scales. -/
theorem tab1664_eq (g0 g1 g2 g3 g4 g5 g6 g7 : Vec Ideal S1x128x128 .f32) (s l : Vec Ideal S128x128 .f32) (Y : Vec Ideal S128x128 .i32) :
    tab1664 g0 g1 g2 g3 g4 g5 g6 g7 s l Y = p9 g0 g1 g2 g3 g4 g5 g6 g7 s l Y := rfl

/-- The table's rows 1536 to 1663, as the kernel computes them, -/
def tab1536 (g0 g1 g2 g3 g4 g5 g6 g7 : Vec Ideal S1x128x128 .f32) (s l : Vec Ideal S128x128 .f32) (Y : Vec Ideal S128x128 .i32) : FVec Ideal S128x8 .f32 :=
  k0_pay874 (F := Ideal) (iota Kind.tc S128x128 32 [1] iota_S128x128_d1_w32) (k0_pay869 (iota Kind.tc S128x128 32 [1] iota_S128x128_d1_w32) (k0_pay864
  (iota Kind.tc S128x128 32 [1] iota_S128x128_d1_w32) (k0_pay859 (iota Kind.tc S128x128 32 [1] iota_S128x128_d1_w32) (k0_pay850 (iota Kind.tc S128x128
  32 [1] iota_S128x128_d1_w32) (k0_pay843 (iota Kind.tc S128x128 32 [1] iota_S128x128_d1_w32) (k0_pay839 (iota Kind.tc S128x128 32 [1]
  iota_S128x128_d1_w32) (k0_pay834 (iota Kind.tc S128x128 32 [1] iota_S128x128_d1_w32) k0_pay827 (k0_pay828 (k0_pay108 g0) (k0_pay819 s) (k0_pay820 l)
  (k0_pay821 s) (k0_pay822 l) Y) (k0_pay829 (k0_pay108 g0) (k0_pay819 s) (k0_pay820 l) (k0_pay821 s) (k0_pay822 l) Y) (k0_pay830 (k0_pay108 g0)
  (k0_pay819 s) (k0_pay820 l) (k0_pay821 s) (k0_pay822 l) Y) (k0_pay831 (k0_pay108 g0) (k0_pay819 s) (k0_pay820 l) (k0_pay821 s) (k0_pay822 l) Y))
  (k0_pay835 (k0_pay109 g1) (k0_pay819 s) (k0_pay825 (k0_pay820 l) (k0_pay821 s) (k0_pay822 l)) (k0_pay826 Y)) (k0_pay836 (k0_pay109 g1) (k0_pay819 s)
  (k0_pay825 (k0_pay820 l) (k0_pay821 s) (k0_pay822 l)) (k0_pay826 Y))) (k0_pay840 (k0_pay110 g2) (k0_pay819 s) (k0_pay825 (k0_pay820 l) (k0_pay821 s)
  (k0_pay822 l)) (k0_pay826 Y)) 23#32) (k0_pay845 (k0_pay111 g3) (k0_pay819 s) (k0_pay825 (k0_pay820 l) (k0_pay821 s) (k0_pay822 l)) (k0_pay826 Y))
  (k0_pay846 (k0_pay111 g3) (k0_pay819 s) (k0_pay825 (k0_pay820 l) (k0_pay821 s) (k0_pay822 l)) (k0_pay826 Y)) k0_pay847) (k0_pay851 (k0_pay112 g4)
  (k0_pay819 s) (k0_pay825 (k0_pay820 l) (k0_pay821 s) (k0_pay822 l)) (k0_pay826 Y)) (k0_pay852 (k0_pay112 g4) (k0_pay819 s) (k0_pay825 (k0_pay820 l)
  (k0_pay821 s) (k0_pay822 l)) (k0_pay826 Y)) (k0_pay854 (k0_pay112 g4) (k0_pay819 s) (k0_pay825 (k0_pay820 l) (k0_pay821 s) (k0_pay822 l)) (k0_pay826
  Y)) (k0_pay855 (k0_pay112 g4) (k0_pay819 s) (k0_pay825 (k0_pay820 l) (k0_pay821 s) (k0_pay822 l)) (k0_pay826 Y)) (k0_pay856 (k0_pay112 g4)
  (k0_pay819 s) (k0_pay825 (k0_pay820 l) (k0_pay821 s) (k0_pay822 l)) (k0_pay826 Y))) (k0_pay860 (k0_pay113 g5) (k0_pay819 s) (k0_pay825 (k0_pay820 l)
  (k0_pay821 s) (k0_pay822 l)) (k0_pay826 Y)) (k0_pay861 (k0_pay113 g5) (k0_pay819 s) (k0_pay825 (k0_pay820 l) (k0_pay821 s) (k0_pay822 l)) (k0_pay826
  Y))) (k0_pay867 (k0_pay825 (k0_pay820 l) (k0_pay821 s) (k0_pay822 l)) (k0_pay865 (k0_pay114 g6) (k0_pay819 s)) (k0_pay866 (k0_pay826 Y))))
  (k0_pay870 (k0_pay115 g7) (k0_pay819 s) (k0_pay825 (k0_pay820 l) (k0_pay821 s) (k0_pay822 l)) (k0_pay826 Y)) (k0_pay871 (k0_pay115 g7) (k0_pay819 s)
  (k0_pay825 (k0_pay820 l) (k0_pay821 s) (k0_pay822 l)) (k0_pay826 Y))

/-- are the scales. -/
theorem tab1536_eq (g0 g1 g2 g3 g4 g5 g6 g7 : Vec Ideal S1x128x128 .f32) (s l : Vec Ideal S128x128 .f32) (Y : Vec Ideal S128x128 .i32) :
    tab1536 g0 g1 g2 g3 g4 g5 g6 g7 s l Y = p9 g0 g1 g2 g3 g4 g5 g6 g7 s l Y := rfl

/-- The table's rows 1408 to 1535, as the kernel computes them, -/
def tab1408 (g0 g1 g2 g3 g4 g5 g6 g7 : Vec Ideal S1x128x128 .f32) (s l : Vec Ideal S128x128 .f32) (Y : Vec Ideal S128x128 .i32) : FVec Ideal S128x8 .f32 :=
  k0_pay818 (F := Ideal) (iota Kind.tc S128x128 32 [1] iota_S128x128_d1_w32) (k0_pay813 (iota Kind.tc S128x128 32 [1] iota_S128x128_d1_w32) (k0_pay807
  (iota Kind.tc S128x128 32 [1] iota_S128x128_d1_w32) (k0_pay801 (iota Kind.tc S128x128 32 [1] iota_S128x128_d1_w32) (k0_pay796 (iota Kind.tc S128x128
  32 [1] iota_S128x128_d1_w32) (k0_pay787 (iota Kind.tc S128x128 32 [1] iota_S128x128_d1_w32) (k0_pay783 (iota Kind.tc S128x128 32 [1]
  iota_S128x128_d1_w32) (k0_pay778 (iota Kind.tc S128x128 32 [1] iota_S128x128_d1_w32) k0_pay772 (k0_pay773 (k0_pay99 g0) (k0_pay764 s) l Y)
  (k0_pay774 (k0_pay99 g0) (k0_pay764 s) l Y) k0_pay775) (k0_pay780 (k0_pay770 (k0_pay764 s) l) (k0_pay771 Y) (k0_pay779 (k0_pay101 (k0_pay100 g1))
  (k0_pay764 s)) 1#32)) (k0_pay784 (k0_pay102 g2) (k0_pay764 s) (k0_pay770 (k0_pay764 s) l) (k0_pay771 Y)) 0#32) (k0_pay788 (k0_pay103 g3) (k0_pay764
  s) (k0_pay770 (k0_pay764 s) l) (k0_pay771 Y)) (k0_pay789 (k0_pay103 g3) (k0_pay764 s) (k0_pay770 (k0_pay764 s) l) (k0_pay771 Y)) (k0_pay791
  (k0_pay103 g3) (k0_pay764 s) (k0_pay770 (k0_pay764 s) l) (k0_pay771 Y)) (k0_pay792 (k0_pay103 g3) (k0_pay764 s) (k0_pay770 (k0_pay764 s) l)
  (k0_pay771 Y)) (k0_pay793 (k0_pay103 g3) (k0_pay764 s) (k0_pay770 (k0_pay764 s) l) (k0_pay771 Y)) 1#32) (k0_pay797 (k0_pay104 g4) (k0_pay764 s)
  (k0_pay770 (k0_pay764 s) l) (k0_pay771 Y)) (k0_pay798 (k0_pay104 g4) (k0_pay764 s) (k0_pay770 (k0_pay764 s) l) (k0_pay771 Y))) (k0_pay805 (k0_pay802
  (k0_pay105 g5) (k0_pay764 s)) (k0_pay803 (k0_pay771 Y)) (k0_pay804 (k0_pay105 g5) (k0_pay764 s) (k0_pay770 (k0_pay764 s) l)))) (k0_pay808 (k0_pay106
  g6) (k0_pay764 s) (k0_pay770 (k0_pay764 s) l) (k0_pay771 Y)) (k0_pay809 (k0_pay106 g6) (k0_pay764 s) (k0_pay770 (k0_pay764 s) l) (k0_pay771 Y))
  k0_pay810) (k0_pay814 (k0_pay107 g7) (k0_pay764 s) (k0_pay770 (k0_pay764 s) l) (k0_pay771 Y)) (k0_pay815 (k0_pay107 g7) (k0_pay764 s) (k0_pay770
  (k0_pay764 s) l) (k0_pay771 Y))

/-- are the scales. -/
theorem tab1408_eq (g0 g1 g2 g3 g4 g5 g6 g7 : Vec Ideal S1x128x128 .f32) (s l : Vec Ideal S128x128 .f32) (Y : Vec Ideal S128x128 .i32) :
    tab1408 g0 g1 g2 g3 g4 g5 g6 g7 s l Y = p9 g0 g1 g2 g3 g4 g5 g6 g7 s l Y := rfl

/-- The table's rows 1280 to 1407, as the kernel computes them, -/
def tab1280 (g0 g1 g2 g3 g4 g5 g6 g7 : Vec Ideal S1x128x128 .f32) (s l : Vec Ideal S128x128 .f32) (Y : Vec Ideal S128x128 .i32) : FVec Ideal S128x8 .f32 :=
  k0_pay763 (F := Ideal) (iota Kind.tc S128x128 32 [1] iota_S128x128_d1_w32) (k0_pay757 (iota Kind.tc S128x128 32 [1] iota_S128x128_d1_w32) (k0_pay751
  (iota Kind.tc S128x128 32 [1] iota_S128x128_d1_w32) (k0_pay745 (iota Kind.tc S128x128 32 [1] iota_S128x128_d1_w32) (k0_pay738 (iota Kind.tc S128x128
  32 [1] iota_S128x128_d1_w32) (k0_pay732 (iota Kind.tc S128x128 32 [1] iota_S128x128_d1_w32) (k0_pay722 (iota Kind.tc S128x128 32 [1]
  iota_S128x128_d1_w32) (k0_pay717 (iota Kind.tc S128x128 32 [1] iota_S128x128_d1_w32) k0_pay712 (k0_pay715 (k0_pay710 s l) (k0_pay713 (k0_pay91 g0)
  s) (k0_pay714 Y))) (k0_pay718 (k0_pay92 g1) (k0_pay704 s) (k0_pay710 s l) (k0_pay711 Y)) (k0_pay719 (k0_pay92 g1) (k0_pay704 s) (k0_pay710 s l)
  (k0_pay711 Y))) (k0_pay723 (k0_pay93 g2) (k0_pay704 s) (k0_pay710 s l) (k0_pay711 Y)) (k0_pay724 (k0_pay93 g2) (k0_pay704 s) (k0_pay710 s l)
  (k0_pay711 Y)) (k0_pay726 (k0_pay93 g2) (k0_pay704 s) (k0_pay710 s l) (k0_pay711 Y)) (k0_pay727 (k0_pay93 g2) (k0_pay704 s) (k0_pay710 s l)
  (k0_pay711 Y)) (k0_pay728 (k0_pay93 g2) (k0_pay704 s) (k0_pay710 s l) (k0_pay711 Y)) (k0_pay729 (k0_pay93 g2) (k0_pay704 s) (k0_pay710 s l)
  (k0_pay711 Y))) (k0_pay733 (k0_pay94 g3) (k0_pay704 s) (k0_pay710 s l) (k0_pay711 Y)) (k0_pay734 (k0_pay94 g3) (k0_pay704 s) (k0_pay710 s l)
  (k0_pay711 Y)) k0_pay735) (k0_pay743 (k0_pay740 (k0_pay711 Y)) (k0_pay741 (k0_pay95 g4) (k0_pay704 s) (k0_pay710 s l)) (k0_pay742 (k0_pay95 g4)
  (k0_pay704 s)))) (k0_pay747 (k0_pay96 g5) (k0_pay704 s) (k0_pay710 s l) (k0_pay711 Y)) (k0_pay748 (k0_pay96 g5) (k0_pay704 s) (k0_pay710 s l)
  (k0_pay711 Y)) 0#32) (k0_pay752 (k0_pay97 g6) (k0_pay704 s) (k0_pay710 s l) (k0_pay711 Y)) (k0_pay753 (k0_pay97 g6) (k0_pay704 s) (k0_pay710 s l)
  (k0_pay711 Y)) k0_pay754) (k0_pay758 (k0_pay98 g7) (k0_pay704 s) (k0_pay710 s l) (k0_pay711 Y)) (k0_pay759 (k0_pay98 g7) (k0_pay704 s) (k0_pay710 s
  l) (k0_pay711 Y)) (k0_pay760 (k0_pay98 g7) (k0_pay704 s) (k0_pay710 s l) (k0_pay711 Y))

/-- are the scales. -/
theorem tab1280_eq (g0 g1 g2 g3 g4 g5 g6 g7 : Vec Ideal S1x128x128 .f32) (s l : Vec Ideal S128x128 .f32) (Y : Vec Ideal S128x128 .i32) :
    tab1280 g0 g1 g2 g3 g4 g5 g6 g7 s l Y = p9 g0 g1 g2 g3 g4 g5 g6 g7 s l Y := rfl

/-- The table's rows 1152 to 1279, as the kernel computes them, -/
def tab1152 (g0 g1 g2 g3 g4 g5 g6 g7 : Vec Ideal S1x128x128 .f32) (s l : Vec Ideal S128x128 .f32) (Y : Vec Ideal S128x128 .i32) : FVec Ideal S128x8 .f32 :=
  k0_pay703 (F := Ideal) (k0_pay702 (iota Kind.tc S128x128 32 [1] iota_S128x128_d1_w32) (k0_pay697 (iota Kind.tc S128x128 32 [1] iota_S128x128_d1_w32)
  (k0_pay690 (iota Kind.tc S128x128 32 [1] iota_S128x128_d1_w32) (k0_pay684 (iota Kind.tc S128x128 32 [1] iota_S128x128_d1_w32) (k0_pay680 (iota
  Kind.tc S128x128 32 [1] iota_S128x128_d1_w32) (k0_pay676 (iota Kind.tc S128x128 32 [1] iota_S128x128_d1_w32) (k0_pay670 (iota Kind.tc S128x128 32
  [1] iota_S128x128_d1_w32) (k0_pay665 (iota Kind.tc S128x128 32 [1] iota_S128x128_d1_w32) k0_pay659 (k0_pay660 (k0_pay82 g0) (k0_pay651 s) (k0_pay657
  s l) Y) (k0_pay661 (k0_pay82 g0) (k0_pay651 s) (k0_pay657 s l) Y) k0_pay662) (k0_pay666 (k0_pay83 g1) (k0_pay651 s) (k0_pay657 s l) (k0_pay658 Y))
  (k0_pay667 (k0_pay83 g1) (k0_pay651 s) (k0_pay657 s l) (k0_pay658 Y))) (k0_pay671 (k0_pay85 (k0_pay84 g2)) (k0_pay651 s) (k0_pay657 s l) (k0_pay658
  Y)) (k0_pay672 (k0_pay85 (k0_pay84 g2)) (k0_pay651 s) (k0_pay657 s l) (k0_pay658 Y)) (k0_pay673 (k0_pay85 (k0_pay84 g2)) (k0_pay651 s) (k0_pay657 s
  l) (k0_pay658 Y)) 23#32) (k0_pay678 (k0_pay677 (k0_pay86 g3) (k0_pay651 s) (k0_pay657 s l) (k0_pay658 Y)))) (k0_pay681 (k0_pay87 g4) (k0_pay651 s)
  (k0_pay657 s l) (k0_pay658 Y))) (k0_pay686 (k0_pay88 g5) (k0_pay651 s) (k0_pay657 s l) (k0_pay658 Y)) (k0_pay687 (k0_pay88 g5) (k0_pay651 s)
  (k0_pay657 s l) (k0_pay658 Y)) 127#32) (k0_pay691 (k0_pay89 g6) (k0_pay651 s) (k0_pay657 s l) (k0_pay658 Y)) (k0_pay692 (k0_pay89 g6) (k0_pay651 s)
  (k0_pay657 s l) (k0_pay658 Y)) (k0_pay693 (k0_pay89 g6) (k0_pay651 s) (k0_pay657 s l) (k0_pay658 Y)) (k0_pay694 (k0_pay89 g6) (k0_pay651 s)
  (k0_pay657 s l) (k0_pay658 Y))) (k0_pay698 (k0_pay90 g7) (k0_pay651 s) (k0_pay657 s l) (k0_pay658 Y)) (k0_pay699 (k0_pay90 g7) (k0_pay651 s)
  (k0_pay657 s l) (k0_pay658 Y)))

/-- are the scales. -/
theorem tab1152_eq (g0 g1 g2 g3 g4 g5 g6 g7 : Vec Ideal S1x128x128 .f32) (s l : Vec Ideal S128x128 .f32) (Y : Vec Ideal S128x128 .i32) :
    tab1152 g0 g1 g2 g3 g4 g5 g6 g7 s l Y = p9 g0 g1 g2 g3 g4 g5 g6 g7 s l Y := rfl

/-- The table's rows 1024 to 1151, as the kernel computes them, -/
def tab1024 (g0 g1 g2 g3 g4 g5 g6 g7 : Vec Ideal S1x128x128 .f32) (s l : Vec Ideal S128x128 .f32) (Y : Vec Ideal S128x128 .i32) : FVec Ideal S128x8 .f32 :=
  k0_pay650 (F := Ideal) (iota Kind.tc S128x128 32 [1] iota_S128x128_d1_w32) (k0_pay645 (iota Kind.tc S128x128 32 [1] iota_S128x128_d1_w32) (k0_pay639
  (iota Kind.tc S128x128 32 [1] iota_S128x128_d1_w32) (k0_pay631 (iota Kind.tc S128x128 32 [1] iota_S128x128_d1_w32) (k0_pay625 (iota Kind.tc S128x128
  32 [1] iota_S128x128_d1_w32) (k0_pay620 (iota Kind.tc S128x128 32 [1] iota_S128x128_d1_w32) (k0_pay614 (iota Kind.tc S128x128 32 [1]
  iota_S128x128_d1_w32) (k0_pay608 (iota Kind.tc S128x128 32 [1] iota_S128x128_d1_w32) k0_pay602 (k0_pay603 (k0_pay74 g0) (k0_pay594 s) (k0_pay595 l)
  (k0_pay596 s) (k0_pay597 l) Y) (k0_pay604 (k0_pay74 g0) (k0_pay594 s) (k0_pay595 l) (k0_pay596 s) (k0_pay597 l) Y) k0_pay605) (k0_pay609 (k0_pay75
  g1) (k0_pay594 s) (k0_pay600 (k0_pay595 l) (k0_pay596 s) (k0_pay597 l)) (k0_pay601 Y)) (k0_pay610 (k0_pay75 g1) (k0_pay594 s) (k0_pay600 (k0_pay595
  l) (k0_pay596 s) (k0_pay597 l)) (k0_pay601 Y)) (k0_pay611 (k0_pay75 g1) (k0_pay594 s) (k0_pay600 (k0_pay595 l) (k0_pay596 s) (k0_pay597 l))
  (k0_pay601 Y))) (k0_pay617 (k0_pay615 (k0_pay76 g2) (k0_pay594 s) (k0_pay600 (k0_pay595 l) (k0_pay596 s) (k0_pay597 l)) (k0_pay601 Y)) k0_pay616)
  k0_pay619) (k0_pay621 (k0_pay77 g3) (k0_pay594 s) (k0_pay600 (k0_pay595 l) (k0_pay596 s) (k0_pay597 l)) (k0_pay601 Y)) k0_pay622) (k0_pay627
  (k0_pay78 g4) (k0_pay594 s) (k0_pay600 (k0_pay595 l) (k0_pay596 s) (k0_pay597 l)) (k0_pay601 Y)) (k0_pay628 (k0_pay78 g4) (k0_pay594 s) (k0_pay600
  (k0_pay595 l) (k0_pay596 s) (k0_pay597 l)) (k0_pay601 Y))) (k0_pay632 (k0_pay79 g5) (k0_pay594 s) (k0_pay600 (k0_pay595 l) (k0_pay596 s) (k0_pay597
  l)) (k0_pay601 Y)) (k0_pay633 (k0_pay79 g5) (k0_pay594 s) (k0_pay600 (k0_pay595 l) (k0_pay596 s) (k0_pay597 l)) (k0_pay601 Y)) (k0_pay634 (k0_pay79
  g5) (k0_pay594 s) (k0_pay600 (k0_pay595 l) (k0_pay596 s) (k0_pay597 l)) (k0_pay601 Y)) (k0_pay635 (k0_pay79 g5) (k0_pay594 s) (k0_pay600 (k0_pay595
  l) (k0_pay596 s) (k0_pay597 l)) (k0_pay601 Y)) k0_pay636) (k0_pay640 (k0_pay80 g6) (k0_pay594 s) (k0_pay600 (k0_pay595 l) (k0_pay596 s) (k0_pay597
  l)) (k0_pay601 Y)) (k0_pay641 (k0_pay80 g6) (k0_pay594 s) (k0_pay600 (k0_pay595 l) (k0_pay596 s) (k0_pay597 l)) (k0_pay601 Y)) k0_pay642) (k0_pay647
  (k0_pay600 (k0_pay595 l) (k0_pay596 s) (k0_pay597 l)) (k0_pay601 Y) (k0_pay646 (k0_pay81 g7) (k0_pay594 s)) 7#32)

/-- are the scales. -/
theorem tab1024_eq (g0 g1 g2 g3 g4 g5 g6 g7 : Vec Ideal S1x128x128 .f32) (s l : Vec Ideal S128x128 .f32) (Y : Vec Ideal S128x128 .i32) :
    tab1024 g0 g1 g2 g3 g4 g5 g6 g7 s l Y = p9 g0 g1 g2 g3 g4 g5 g6 g7 s l Y := rfl

/-- The table's rows 896 to 1023, as the kernel computes them, -/
def tab896 (g0 g1 g2 g3 g4 g5 g6 g7 : Vec Ideal S1x128x128 .f32) (s l : Vec Ideal S128x128 .f32) (Y : Vec Ideal S128x128 .i32) : FVec Ideal S128x8 .f32 :=
  k0_pay593 (F := Ideal) (iota Kind.tc S128x128 32 [1] iota_S128x128_d1_w32) (k0_pay588 (iota Kind.tc S128x128 32 [1] iota_S128x128_d1_w32) (k0_pay583
  (iota Kind.tc S128x128 32 [1] iota_S128x128_d1_w32) (k0_pay578 (iota Kind.tc S128x128 32 [1] iota_S128x128_d1_w32) (k0_pay569 (iota Kind.tc S128x128
  32 [1] iota_S128x128_d1_w32) (k0_pay562 (iota Kind.tc S128x128 32 [1] iota_S128x128_d1_w32) (k0_pay558 (iota Kind.tc S128x128 32 [1]
  iota_S128x128_d1_w32) (k0_pay553 (iota Kind.tc S128x128 32 [1] iota_S128x128_d1_w32) k0_pay546 (k0_pay547 (k0_pay65 g0) (k0_pay538 s) (k0_pay539 l)
  (k0_pay540 s) (k0_pay541 l) Y) (k0_pay548 (k0_pay65 g0) (k0_pay538 s) (k0_pay539 l) (k0_pay540 s) (k0_pay541 l) Y) (k0_pay549 (k0_pay65 g0)
  (k0_pay538 s) (k0_pay539 l) (k0_pay540 s) (k0_pay541 l) Y) (k0_pay550 (k0_pay65 g0) (k0_pay538 s) (k0_pay539 l) (k0_pay540 s) (k0_pay541 l) Y))
  (k0_pay554 (k0_pay66 g1) (k0_pay538 s) (k0_pay544 (k0_pay539 l) (k0_pay540 s) (k0_pay541 l)) (k0_pay545 Y)) (k0_pay555 (k0_pay66 g1) (k0_pay538 s)
  (k0_pay544 (k0_pay539 l) (k0_pay540 s) (k0_pay541 l)) (k0_pay545 Y))) (k0_pay559 (k0_pay67 g2) (k0_pay538 s) (k0_pay544 (k0_pay539 l) (k0_pay540 s)
  (k0_pay541 l)) (k0_pay545 Y)) 23#32) (k0_pay564 (k0_pay69 (k0_pay68 g3)) (k0_pay538 s) (k0_pay544 (k0_pay539 l) (k0_pay540 s) (k0_pay541 l))
  (k0_pay545 Y)) (k0_pay565 (k0_pay69 (k0_pay68 g3)) (k0_pay538 s) (k0_pay544 (k0_pay539 l) (k0_pay540 s) (k0_pay541 l)) (k0_pay545 Y)) k0_pay566)
  (k0_pay570 (k0_pay70 g4) (k0_pay538 s) (k0_pay544 (k0_pay539 l) (k0_pay540 s) (k0_pay541 l)) (k0_pay545 Y)) (k0_pay571 (k0_pay70 g4) (k0_pay538 s)
  (k0_pay544 (k0_pay539 l) (k0_pay540 s) (k0_pay541 l)) (k0_pay545 Y)) (k0_pay573 (k0_pay70 g4) (k0_pay538 s) (k0_pay544 (k0_pay539 l) (k0_pay540 s)
  (k0_pay541 l)) (k0_pay545 Y)) (k0_pay574 (k0_pay70 g4) (k0_pay538 s) (k0_pay544 (k0_pay539 l) (k0_pay540 s) (k0_pay541 l)) (k0_pay545 Y)) (k0_pay575
  (k0_pay70 g4) (k0_pay538 s) (k0_pay544 (k0_pay539 l) (k0_pay540 s) (k0_pay541 l)) (k0_pay545 Y))) (k0_pay579 (k0_pay71 g5) (k0_pay538 s) (k0_pay544
  (k0_pay539 l) (k0_pay540 s) (k0_pay541 l)) (k0_pay545 Y)) (k0_pay580 (k0_pay71 g5) (k0_pay538 s) (k0_pay544 (k0_pay539 l) (k0_pay540 s) (k0_pay541
  l)) (k0_pay545 Y))) (k0_pay586 (k0_pay544 (k0_pay539 l) (k0_pay540 s) (k0_pay541 l)) (k0_pay584 (k0_pay72 g6) (k0_pay538 s)) (k0_pay585 (k0_pay545
  Y)))) (k0_pay589 (k0_pay73 g7) (k0_pay538 s) (k0_pay544 (k0_pay539 l) (k0_pay540 s) (k0_pay541 l)) (k0_pay545 Y)) (k0_pay590 (k0_pay73 g7)
  (k0_pay538 s) (k0_pay544 (k0_pay539 l) (k0_pay540 s) (k0_pay541 l)) (k0_pay545 Y))

/-- are the scales. -/
theorem tab896_eq (g0 g1 g2 g3 g4 g5 g6 g7 : Vec Ideal S1x128x128 .f32) (s l : Vec Ideal S128x128 .f32) (Y : Vec Ideal S128x128 .i32) :
    tab896 g0 g1 g2 g3 g4 g5 g6 g7 s l Y = p9 g0 g1 g2 g3 g4 g5 g6 g7 s l Y := rfl

/-- The table's rows 768 to 895, as the kernel computes them, -/
def tab768 (g0 g1 g2 g3 g4 g5 g6 g7 : Vec Ideal S1x128x128 .f32) (s l : Vec Ideal S128x128 .f32) (Y : Vec Ideal S128x128 .i32) : FVec Ideal S128x8 .f32 :=
  k0_pay537 (F := Ideal) (iota Kind.tc S128x128 32 [1] iota_S128x128_d1_w32) (k0_pay532 (iota Kind.tc S128x128 32 [1] iota_S128x128_d1_w32) (k0_pay526
  (iota Kind.tc S128x128 32 [1] iota_S128x128_d1_w32) (k0_pay520 (iota Kind.tc S128x128 32 [1] iota_S128x128_d1_w32) (k0_pay515 (iota Kind.tc S128x128
  32 [1] iota_S128x128_d1_w32) (k0_pay506 (iota Kind.tc S128x128 32 [1] iota_S128x128_d1_w32) (k0_pay502 (iota Kind.tc S128x128 32 [1]
  iota_S128x128_d1_w32) (k0_pay497 (iota Kind.tc S128x128 32 [1] iota_S128x128_d1_w32) k0_pay491 (k0_pay492 (k0_pay57 g0) (k0_pay483 s) l Y)
  (k0_pay493 (k0_pay57 g0) (k0_pay483 s) l Y) k0_pay494) (k0_pay499 (k0_pay489 (k0_pay483 s) l) (k0_pay490 Y) (k0_pay498 (k0_pay58 g1) (k0_pay483 s))
  1#32)) (k0_pay503 (k0_pay59 g2) (k0_pay483 s) (k0_pay489 (k0_pay483 s) l) (k0_pay490 Y)) 0#32) (k0_pay507 (k0_pay60 g3) (k0_pay483 s) (k0_pay489
  (k0_pay483 s) l) (k0_pay490 Y)) (k0_pay508 (k0_pay60 g3) (k0_pay483 s) (k0_pay489 (k0_pay483 s) l) (k0_pay490 Y)) (k0_pay510 (k0_pay60 g3)
  (k0_pay483 s) (k0_pay489 (k0_pay483 s) l) (k0_pay490 Y)) (k0_pay511 (k0_pay60 g3) (k0_pay483 s) (k0_pay489 (k0_pay483 s) l) (k0_pay490 Y))
  (k0_pay512 (k0_pay60 g3) (k0_pay483 s) (k0_pay489 (k0_pay483 s) l) (k0_pay490 Y)) 1#32) (k0_pay516 (k0_pay61 g4) (k0_pay483 s) (k0_pay489 (k0_pay483
  s) l) (k0_pay490 Y)) (k0_pay517 (k0_pay61 g4) (k0_pay483 s) (k0_pay489 (k0_pay483 s) l) (k0_pay490 Y))) (k0_pay524 (k0_pay521 (k0_pay62 g5)
  (k0_pay483 s)) (k0_pay522 (k0_pay490 Y)) (k0_pay523 (k0_pay62 g5) (k0_pay483 s) (k0_pay489 (k0_pay483 s) l)))) (k0_pay527 (k0_pay63 g6) (k0_pay483
  s) (k0_pay489 (k0_pay483 s) l) (k0_pay490 Y)) (k0_pay528 (k0_pay63 g6) (k0_pay483 s) (k0_pay489 (k0_pay483 s) l) (k0_pay490 Y)) k0_pay529)
  (k0_pay533 (k0_pay64 g7) (k0_pay483 s) (k0_pay489 (k0_pay483 s) l) (k0_pay490 Y)) (k0_pay534 (k0_pay64 g7) (k0_pay483 s) (k0_pay489 (k0_pay483 s) l)
  (k0_pay490 Y))

/-- are the scales. -/
theorem tab768_eq (g0 g1 g2 g3 g4 g5 g6 g7 : Vec Ideal S1x128x128 .f32) (s l : Vec Ideal S128x128 .f32) (Y : Vec Ideal S128x128 .i32) :
    tab768 g0 g1 g2 g3 g4 g5 g6 g7 s l Y = p9 g0 g1 g2 g3 g4 g5 g6 g7 s l Y := rfl

/-- The table's rows 640 to 767, as the kernel computes them, -/
def tab640 (g0 g1 g2 g3 g4 g5 g6 g7 : Vec Ideal S1x128x128 .f32) (s l : Vec Ideal S128x128 .f32) (Y : Vec Ideal S128x128 .i32) : FVec Ideal S128x8 .f32 :=
  k0_pay482 (F := Ideal) (iota Kind.tc S128x128 32 [1] iota_S128x128_d1_w32) (k0_pay476 (iota Kind.tc S128x128 32 [1] iota_S128x128_d1_w32) (k0_pay470
  (iota Kind.tc S128x128 32 [1] iota_S128x128_d1_w32) (k0_pay464 (iota Kind.tc S128x128 32 [1] iota_S128x128_d1_w32) (k0_pay457 (iota Kind.tc S128x128
  32 [1] iota_S128x128_d1_w32) (k0_pay451 (iota Kind.tc S128x128 32 [1] iota_S128x128_d1_w32) (k0_pay441 (iota Kind.tc S128x128 32 [1]
  iota_S128x128_d1_w32) (k0_pay436 (iota Kind.tc S128x128 32 [1] iota_S128x128_d1_w32) k0_pay431 (k0_pay434 (k0_pay429 s l) (k0_pay432 (k0_pay48 g0)
  s) (k0_pay433 Y))) (k0_pay437 (k0_pay49 g1) (k0_pay423 s) (k0_pay429 s l) (k0_pay430 Y)) (k0_pay438 (k0_pay49 g1) (k0_pay423 s) (k0_pay429 s l)
  (k0_pay430 Y))) (k0_pay442 (k0_pay50 g2) (k0_pay423 s) (k0_pay429 s l) (k0_pay430 Y)) (k0_pay443 (k0_pay50 g2) (k0_pay423 s) (k0_pay429 s l)
  (k0_pay430 Y)) (k0_pay445 (k0_pay50 g2) (k0_pay423 s) (k0_pay429 s l) (k0_pay430 Y)) (k0_pay446 (k0_pay50 g2) (k0_pay423 s) (k0_pay429 s l)
  (k0_pay430 Y)) (k0_pay447 (k0_pay50 g2) (k0_pay423 s) (k0_pay429 s l) (k0_pay430 Y)) (k0_pay448 (k0_pay50 g2) (k0_pay423 s) (k0_pay429 s l)
  (k0_pay430 Y))) (k0_pay452 (k0_pay51 g3) (k0_pay423 s) (k0_pay429 s l) (k0_pay430 Y)) (k0_pay453 (k0_pay51 g3) (k0_pay423 s) (k0_pay429 s l)
  (k0_pay430 Y)) k0_pay454) (k0_pay462 (k0_pay459 (k0_pay430 Y)) (k0_pay460 (k0_pay53 (k0_pay52 g4)) (k0_pay423 s) (k0_pay429 s l)) (k0_pay461
  (k0_pay53 (k0_pay52 g4)) (k0_pay423 s)))) (k0_pay466 (k0_pay54 g5) (k0_pay423 s) (k0_pay429 s l) (k0_pay430 Y)) (k0_pay467 (k0_pay54 g5) (k0_pay423
  s) (k0_pay429 s l) (k0_pay430 Y)) 0#32) (k0_pay471 (k0_pay55 g6) (k0_pay423 s) (k0_pay429 s l) (k0_pay430 Y)) (k0_pay472 (k0_pay55 g6) (k0_pay423 s)
  (k0_pay429 s l) (k0_pay430 Y)) k0_pay473) (k0_pay477 (k0_pay56 g7) (k0_pay423 s) (k0_pay429 s l) (k0_pay430 Y)) (k0_pay478 (k0_pay56 g7) (k0_pay423
  s) (k0_pay429 s l) (k0_pay430 Y)) (k0_pay479 (k0_pay56 g7) (k0_pay423 s) (k0_pay429 s l) (k0_pay430 Y))

/-- are the scales. -/
theorem tab640_eq (g0 g1 g2 g3 g4 g5 g6 g7 : Vec Ideal S1x128x128 .f32) (s l : Vec Ideal S128x128 .f32) (Y : Vec Ideal S128x128 .i32) :
    tab640 g0 g1 g2 g3 g4 g5 g6 g7 s l Y = p9 g0 g1 g2 g3 g4 g5 g6 g7 s l Y := rfl

/-- The table's rows 512 to 639, as the kernel computes them, -/
def tab512 (g0 g1 g2 g3 g4 g5 g6 g7 : Vec Ideal S1x128x128 .f32) (s l : Vec Ideal S128x128 .f32) (Y : Vec Ideal S128x128 .i32) : FVec Ideal S128x8 .f32 :=
  k0_pay422 (F := Ideal) (k0_pay421 (iota Kind.tc S128x128 32 [1] iota_S128x128_d1_w32) (k0_pay416 (iota Kind.tc S128x128 32 [1] iota_S128x128_d1_w32)
  (k0_pay409 (iota Kind.tc S128x128 32 [1] iota_S128x128_d1_w32) (k0_pay403 (iota Kind.tc S128x128 32 [1] iota_S128x128_d1_w32) (k0_pay399 (iota
  Kind.tc S128x128 32 [1] iota_S128x128_d1_w32) (k0_pay395 (iota Kind.tc S128x128 32 [1] iota_S128x128_d1_w32) (k0_pay389 (iota Kind.tc S128x128 32
  [1] iota_S128x128_d1_w32) (k0_pay384 (iota Kind.tc S128x128 32 [1] iota_S128x128_d1_w32) k0_pay378 (k0_pay379 (k0_pay40 g0) (k0_pay370 s) (k0_pay376
  s l) Y) (k0_pay380 (k0_pay40 g0) (k0_pay370 s) (k0_pay376 s l) Y) k0_pay381) (k0_pay385 (k0_pay41 g1) (k0_pay370 s) (k0_pay376 s l) (k0_pay377 Y))
  (k0_pay386 (k0_pay41 g1) (k0_pay370 s) (k0_pay376 s l) (k0_pay377 Y))) (k0_pay390 (k0_pay42 g2) (k0_pay370 s) (k0_pay376 s l) (k0_pay377 Y))
  (k0_pay391 (k0_pay42 g2) (k0_pay370 s) (k0_pay376 s l) (k0_pay377 Y)) (k0_pay392 (k0_pay42 g2) (k0_pay370 s) (k0_pay376 s l) (k0_pay377 Y)) 23#32)
  (k0_pay397 (k0_pay396 (k0_pay43 g3) (k0_pay370 s) (k0_pay376 s l) (k0_pay377 Y)))) (k0_pay400 (k0_pay44 g4) (k0_pay370 s) (k0_pay376 s l) (k0_pay377
  Y))) (k0_pay405 (k0_pay45 g5) (k0_pay370 s) (k0_pay376 s l) (k0_pay377 Y)) (k0_pay406 (k0_pay45 g5) (k0_pay370 s) (k0_pay376 s l) (k0_pay377 Y))
  127#32) (k0_pay410 (k0_pay46 g6) (k0_pay370 s) (k0_pay376 s l) (k0_pay377 Y)) (k0_pay411 (k0_pay46 g6) (k0_pay370 s) (k0_pay376 s l) (k0_pay377 Y))
  (k0_pay412 (k0_pay46 g6) (k0_pay370 s) (k0_pay376 s l) (k0_pay377 Y)) (k0_pay413 (k0_pay46 g6) (k0_pay370 s) (k0_pay376 s l) (k0_pay377 Y)))
  (k0_pay417 (k0_pay47 g7) (k0_pay370 s) (k0_pay376 s l) (k0_pay377 Y)) (k0_pay418 (k0_pay47 g7) (k0_pay370 s) (k0_pay376 s l) (k0_pay377 Y)))

/-- are the scales. -/
theorem tab512_eq (g0 g1 g2 g3 g4 g5 g6 g7 : Vec Ideal S1x128x128 .f32) (s l : Vec Ideal S128x128 .f32) (Y : Vec Ideal S128x128 .i32) :
    tab512 g0 g1 g2 g3 g4 g5 g6 g7 s l Y = p9 g0 g1 g2 g3 g4 g5 g6 g7 s l Y := rfl

/-- The table's rows 384 to 511, as the kernel computes them, -/
def tab384 (g0 g1 g2 g3 g4 g5 g6 g7 : Vec Ideal S1x128x128 .f32) (s l : Vec Ideal S128x128 .f32) (Y : Vec Ideal S128x128 .i32) : FVec Ideal S128x8 .f32 :=
  k0_pay369 (F := Ideal) (iota Kind.tc S128x128 32 [1] iota_S128x128_d1_w32) (k0_pay364 (iota Kind.tc S128x128 32 [1] iota_S128x128_d1_w32) (k0_pay358
  (iota Kind.tc S128x128 32 [1] iota_S128x128_d1_w32) (k0_pay350 (iota Kind.tc S128x128 32 [1] iota_S128x128_d1_w32) (k0_pay344 (iota Kind.tc S128x128
  32 [1] iota_S128x128_d1_w32) (k0_pay339 (iota Kind.tc S128x128 32 [1] iota_S128x128_d1_w32) (k0_pay333 (iota Kind.tc S128x128 32 [1]
  iota_S128x128_d1_w32) (k0_pay327 (iota Kind.tc S128x128 32 [1] iota_S128x128_d1_w32) k0_pay321 (k0_pay322 (k0_pay31 g0) (k0_pay313 s) (k0_pay314 l)
  (k0_pay315 s) (k0_pay316 l) Y) (k0_pay323 (k0_pay31 g0) (k0_pay313 s) (k0_pay314 l) (k0_pay315 s) (k0_pay316 l) Y) k0_pay324) (k0_pay328 (k0_pay32
  g1) (k0_pay313 s) (k0_pay319 (k0_pay314 l) (k0_pay315 s) (k0_pay316 l)) (k0_pay320 Y)) (k0_pay329 (k0_pay32 g1) (k0_pay313 s) (k0_pay319 (k0_pay314
  l) (k0_pay315 s) (k0_pay316 l)) (k0_pay320 Y)) (k0_pay330 (k0_pay32 g1) (k0_pay313 s) (k0_pay319 (k0_pay314 l) (k0_pay315 s) (k0_pay316 l))
  (k0_pay320 Y))) (k0_pay336 (k0_pay334 (k0_pay33 g2) (k0_pay313 s) (k0_pay319 (k0_pay314 l) (k0_pay315 s) (k0_pay316 l)) (k0_pay320 Y)) k0_pay335)
  k0_pay338) (k0_pay340 (k0_pay34 g3) (k0_pay313 s) (k0_pay319 (k0_pay314 l) (k0_pay315 s) (k0_pay316 l)) (k0_pay320 Y)) k0_pay341) (k0_pay346
  (k0_pay35 g4) (k0_pay313 s) (k0_pay319 (k0_pay314 l) (k0_pay315 s) (k0_pay316 l)) (k0_pay320 Y)) (k0_pay347 (k0_pay35 g4) (k0_pay313 s) (k0_pay319
  (k0_pay314 l) (k0_pay315 s) (k0_pay316 l)) (k0_pay320 Y))) (k0_pay351 (k0_pay37 (k0_pay36 g5)) (k0_pay313 s) (k0_pay319 (k0_pay314 l) (k0_pay315 s)
  (k0_pay316 l)) (k0_pay320 Y)) (k0_pay352 (k0_pay37 (k0_pay36 g5)) (k0_pay313 s) (k0_pay319 (k0_pay314 l) (k0_pay315 s) (k0_pay316 l)) (k0_pay320 Y))
  (k0_pay353 (k0_pay37 (k0_pay36 g5)) (k0_pay313 s) (k0_pay319 (k0_pay314 l) (k0_pay315 s) (k0_pay316 l)) (k0_pay320 Y)) (k0_pay354 (k0_pay37
  (k0_pay36 g5)) (k0_pay313 s) (k0_pay319 (k0_pay314 l) (k0_pay315 s) (k0_pay316 l)) (k0_pay320 Y)) k0_pay355) (k0_pay359 (k0_pay38 g6) (k0_pay313 s)
  (k0_pay319 (k0_pay314 l) (k0_pay315 s) (k0_pay316 l)) (k0_pay320 Y)) (k0_pay360 (k0_pay38 g6) (k0_pay313 s) (k0_pay319 (k0_pay314 l) (k0_pay315 s)
  (k0_pay316 l)) (k0_pay320 Y)) k0_pay361) (k0_pay366 (k0_pay319 (k0_pay314 l) (k0_pay315 s) (k0_pay316 l)) (k0_pay320 Y) (k0_pay365 (k0_pay39 g7)
  (k0_pay313 s)) 7#32)

/-- are the scales. -/
theorem tab384_eq (g0 g1 g2 g3 g4 g5 g6 g7 : Vec Ideal S1x128x128 .f32) (s l : Vec Ideal S128x128 .f32) (Y : Vec Ideal S128x128 .i32) :
    tab384 g0 g1 g2 g3 g4 g5 g6 g7 s l Y = p9 g0 g1 g2 g3 g4 g5 g6 g7 s l Y := rfl

/-- The table's rows 256 to 383, as the kernel computes them, -/
def tab256 (g0 g1 g2 g3 g4 g5 g6 g7 : Vec Ideal S1x128x128 .f32) (s l : Vec Ideal S128x128 .f32) (Y : Vec Ideal S128x128 .i32) : FVec Ideal S128x8 .f32 :=
  k0_pay312 (F := Ideal) (iota Kind.tc S128x128 32 [1] iota_S128x128_d1_w32) (k0_pay307 (iota Kind.tc S128x128 32 [1] iota_S128x128_d1_w32) (k0_pay302
  (iota Kind.tc S128x128 32 [1] iota_S128x128_d1_w32) (k0_pay297 (iota Kind.tc S128x128 32 [1] iota_S128x128_d1_w32) (k0_pay288 (iota Kind.tc S128x128
  32 [1] iota_S128x128_d1_w32) (k0_pay281 (iota Kind.tc S128x128 32 [1] iota_S128x128_d1_w32) (k0_pay277 (iota Kind.tc S128x128 32 [1]
  iota_S128x128_d1_w32) (k0_pay272 (iota Kind.tc S128x128 32 [1] iota_S128x128_d1_w32) k0_pay265 (k0_pay266 (k0_pay23 g0) (k0_pay257 s) (k0_pay258 l)
  (k0_pay259 s) (k0_pay260 l) Y) (k0_pay267 (k0_pay23 g0) (k0_pay257 s) (k0_pay258 l) (k0_pay259 s) (k0_pay260 l) Y) (k0_pay268 (k0_pay23 g0)
  (k0_pay257 s) (k0_pay258 l) (k0_pay259 s) (k0_pay260 l) Y) (k0_pay269 (k0_pay23 g0) (k0_pay257 s) (k0_pay258 l) (k0_pay259 s) (k0_pay260 l) Y))
  (k0_pay273 (k0_pay24 g1) (k0_pay257 s) (k0_pay263 (k0_pay258 l) (k0_pay259 s) (k0_pay260 l)) (k0_pay264 Y)) (k0_pay274 (k0_pay24 g1) (k0_pay257 s)
  (k0_pay263 (k0_pay258 l) (k0_pay259 s) (k0_pay260 l)) (k0_pay264 Y))) (k0_pay278 (k0_pay25 g2) (k0_pay257 s) (k0_pay263 (k0_pay258 l) (k0_pay259 s)
  (k0_pay260 l)) (k0_pay264 Y)) 23#32) (k0_pay283 (k0_pay26 g3) (k0_pay257 s) (k0_pay263 (k0_pay258 l) (k0_pay259 s) (k0_pay260 l)) (k0_pay264 Y))
  (k0_pay284 (k0_pay26 g3) (k0_pay257 s) (k0_pay263 (k0_pay258 l) (k0_pay259 s) (k0_pay260 l)) (k0_pay264 Y)) k0_pay285) (k0_pay289 (k0_pay27 g4)
  (k0_pay257 s) (k0_pay263 (k0_pay258 l) (k0_pay259 s) (k0_pay260 l)) (k0_pay264 Y)) (k0_pay290 (k0_pay27 g4) (k0_pay257 s) (k0_pay263 (k0_pay258 l)
  (k0_pay259 s) (k0_pay260 l)) (k0_pay264 Y)) (k0_pay292 (k0_pay27 g4) (k0_pay257 s) (k0_pay263 (k0_pay258 l) (k0_pay259 s) (k0_pay260 l)) (k0_pay264
  Y)) (k0_pay293 (k0_pay27 g4) (k0_pay257 s) (k0_pay263 (k0_pay258 l) (k0_pay259 s) (k0_pay260 l)) (k0_pay264 Y)) (k0_pay294 (k0_pay27 g4) (k0_pay257
  s) (k0_pay263 (k0_pay258 l) (k0_pay259 s) (k0_pay260 l)) (k0_pay264 Y))) (k0_pay298 (k0_pay28 g5) (k0_pay257 s) (k0_pay263 (k0_pay258 l) (k0_pay259
  s) (k0_pay260 l)) (k0_pay264 Y)) (k0_pay299 (k0_pay28 g5) (k0_pay257 s) (k0_pay263 (k0_pay258 l) (k0_pay259 s) (k0_pay260 l)) (k0_pay264 Y)))
  (k0_pay305 (k0_pay263 (k0_pay258 l) (k0_pay259 s) (k0_pay260 l)) (k0_pay303 (k0_pay29 g6) (k0_pay257 s)) (k0_pay304 (k0_pay264 Y)))) (k0_pay308
  (k0_pay30 g7) (k0_pay257 s) (k0_pay263 (k0_pay258 l) (k0_pay259 s) (k0_pay260 l)) (k0_pay264 Y)) (k0_pay309 (k0_pay30 g7) (k0_pay257 s) (k0_pay263
  (k0_pay258 l) (k0_pay259 s) (k0_pay260 l)) (k0_pay264 Y))

/-- are the scales. -/
theorem tab256_eq (g0 g1 g2 g3 g4 g5 g6 g7 : Vec Ideal S1x128x128 .f32) (s l : Vec Ideal S128x128 .f32) (Y : Vec Ideal S128x128 .i32) :
    tab256 g0 g1 g2 g3 g4 g5 g6 g7 s l Y = p9 g0 g1 g2 g3 g4 g5 g6 g7 s l Y := rfl

/-- The table's rows 128 to 255, as the kernel computes them, -/
def tab128 (g0 g1 g2 g3 g4 g5 g6 g7 : Vec Ideal S1x128x128 .f32) (s l : Vec Ideal S128x128 .f32) (Y : Vec Ideal S128x128 .i32) : FVec Ideal S128x8 .f32 :=
  k0_pay256 (F := Ideal) (iota Kind.tc S128x128 32 [1] iota_S128x128_d1_w32) (k0_pay251 (iota Kind.tc S128x128 32 [1] iota_S128x128_d1_w32) (k0_pay245
  (iota Kind.tc S128x128 32 [1] iota_S128x128_d1_w32) (k0_pay239 (iota Kind.tc S128x128 32 [1] iota_S128x128_d1_w32) (k0_pay234 (iota Kind.tc S128x128
  32 [1] iota_S128x128_d1_w32) (k0_pay225 (iota Kind.tc S128x128 32 [1] iota_S128x128_d1_w32) (k0_pay221 (iota Kind.tc S128x128 32 [1]
  iota_S128x128_d1_w32) (k0_pay216 (iota Kind.tc S128x128 32 [1] iota_S128x128_d1_w32) k0_pay210 (k0_pay211 (k0_pay14 g0) (k0_pay202 s) l Y)
  (k0_pay212 (k0_pay14 g0) (k0_pay202 s) l Y) k0_pay213) (k0_pay218 (k0_pay208 (k0_pay202 s) l) (k0_pay209 Y) (k0_pay217 (k0_pay15 g1) (k0_pay202 s))
  1#32)) (k0_pay222 (k0_pay16 g2) (k0_pay202 s) (k0_pay208 (k0_pay202 s) l) (k0_pay209 Y)) 0#32) (k0_pay226 (k0_pay17 g3) (k0_pay202 s) (k0_pay208
  (k0_pay202 s) l) (k0_pay209 Y)) (k0_pay227 (k0_pay17 g3) (k0_pay202 s) (k0_pay208 (k0_pay202 s) l) (k0_pay209 Y)) (k0_pay229 (k0_pay17 g3)
  (k0_pay202 s) (k0_pay208 (k0_pay202 s) l) (k0_pay209 Y)) (k0_pay230 (k0_pay17 g3) (k0_pay202 s) (k0_pay208 (k0_pay202 s) l) (k0_pay209 Y))
  (k0_pay231 (k0_pay17 g3) (k0_pay202 s) (k0_pay208 (k0_pay202 s) l) (k0_pay209 Y)) 1#32) (k0_pay235 (k0_pay18 g4) (k0_pay202 s) (k0_pay208 (k0_pay202
  s) l) (k0_pay209 Y)) (k0_pay236 (k0_pay18 g4) (k0_pay202 s) (k0_pay208 (k0_pay202 s) l) (k0_pay209 Y))) (k0_pay243 (k0_pay240 (k0_pay19 g5)
  (k0_pay202 s)) (k0_pay241 (k0_pay209 Y)) (k0_pay242 (k0_pay19 g5) (k0_pay202 s) (k0_pay208 (k0_pay202 s) l)))) (k0_pay246 (k0_pay21 (k0_pay20 g6))
  (k0_pay202 s) (k0_pay208 (k0_pay202 s) l) (k0_pay209 Y)) (k0_pay247 (k0_pay21 (k0_pay20 g6)) (k0_pay202 s) (k0_pay208 (k0_pay202 s) l) (k0_pay209
  Y)) k0_pay248) (k0_pay252 (k0_pay22 g7) (k0_pay202 s) (k0_pay208 (k0_pay202 s) l) (k0_pay209 Y)) (k0_pay253 (k0_pay22 g7) (k0_pay202 s) (k0_pay208
  (k0_pay202 s) l) (k0_pay209 Y))

/-- are the scales. -/
theorem tab128_eq (g0 g1 g2 g3 g4 g5 g6 g7 : Vec Ideal S1x128x128 .f32) (s l : Vec Ideal S128x128 .f32) (Y : Vec Ideal S128x128 .i32) :
    tab128 g0 g1 g2 g3 g4 g5 g6 g7 s l Y = p9 g0 g1 g2 g3 g4 g5 g6 g7 s l Y := rfl

/-- The table's rows 0 to 127, as the kernel computes them, -/
def tab0 (g0 g1 g2 g3 g4 g5 g6 g7 : Vec Ideal S1x128x128 .f32) (s l : Vec Ideal S128x128 .f32) (Y : Vec Ideal S128x128 .i32) : FVec Ideal S128x8 .f32 :=
  k0_pay201 (F := Ideal) (iota Kind.tc S128x128 32 [1] iota_S128x128_d1_w32) (k0_pay195 (iota Kind.tc S128x128 32 [1] iota_S128x128_d1_w32) (k0_pay189
  (iota Kind.tc S128x128 32 [1] iota_S128x128_d1_w32) (k0_pay183 (iota Kind.tc S128x128 32 [1] iota_S128x128_d1_w32) (k0_pay176 (iota Kind.tc S128x128
  32 [1] iota_S128x128_d1_w32) (k0_pay170 (iota Kind.tc S128x128 32 [1] iota_S128x128_d1_w32) (k0_pay160 (iota Kind.tc S128x128 32 [1]
  iota_S128x128_d1_w32) (k0_pay155 (iota Kind.tc S128x128 32 [1] iota_S128x128_d1_w32) k0_pay150 (k0_pay153 (k0_pay148 s l) (k0_pay151 (k0_pay6 g0) s)
  (k0_pay152 Y))) (k0_pay156 (k0_pay7 g1) (k0_pay142 s) (k0_pay148 s l) (k0_pay149 Y)) (k0_pay157 (k0_pay7 g1) (k0_pay142 s) (k0_pay148 s l)
  (k0_pay149 Y))) (k0_pay161 (k0_pay8 g2) (k0_pay142 s) (k0_pay148 s l) (k0_pay149 Y)) (k0_pay162 (k0_pay8 g2) (k0_pay142 s) (k0_pay148 s l)
  (k0_pay149 Y)) (k0_pay164 (k0_pay8 g2) (k0_pay142 s) (k0_pay148 s l) (k0_pay149 Y)) (k0_pay165 (k0_pay8 g2) (k0_pay142 s) (k0_pay148 s l) (k0_pay149
  Y)) (k0_pay166 (k0_pay8 g2) (k0_pay142 s) (k0_pay148 s l) (k0_pay149 Y)) (k0_pay167 (k0_pay8 g2) (k0_pay142 s) (k0_pay148 s l) (k0_pay149 Y)))
  (k0_pay171 (k0_pay9 g3) (k0_pay142 s) (k0_pay148 s l) (k0_pay149 Y)) (k0_pay172 (k0_pay9 g3) (k0_pay142 s) (k0_pay148 s l) (k0_pay149 Y)) k0_pay173)
  (k0_pay181 (k0_pay178 (k0_pay149 Y)) (k0_pay179 (k0_pay10 g4) (k0_pay142 s) (k0_pay148 s l)) (k0_pay180 (k0_pay10 g4) (k0_pay142 s)))) (k0_pay185
  (k0_pay11 g5) (k0_pay142 s) (k0_pay148 s l) (k0_pay149 Y)) (k0_pay186 (k0_pay11 g5) (k0_pay142 s) (k0_pay148 s l) (k0_pay149 Y)) 0#32) (k0_pay190
  (k0_pay12 g6) (k0_pay142 s) (k0_pay148 s l) (k0_pay149 Y)) (k0_pay191 (k0_pay12 g6) (k0_pay142 s) (k0_pay148 s l) (k0_pay149 Y)) k0_pay192)
  (k0_pay196 (k0_pay13 g7) (k0_pay142 s) (k0_pay148 s l) (k0_pay149 Y)) (k0_pay197 (k0_pay13 g7) (k0_pay142 s) (k0_pay148 s l) (k0_pay149 Y))
  (k0_pay198 (k0_pay13 g7) (k0_pay142 s) (k0_pay148 s l) (k0_pay149 Y))

/-- are the scales. -/
theorem tab0_eq (g0 g1 g2 g3 g4 g5 g6 g7 : Vec Ideal S1x128x128 .f32) (s l : Vec Ideal S128x128 .f32) (Y : Vec Ideal S128x128 .i32) :
    tab0 g0 g1 g2 g3 g4 g5 g6 g7 s l Y = p9 g0 g1 g2 g3 g4 g5 g6 g7 s l Y := rfl

/-- Everything stored to the table of scales, newest first. -/
def gsdL : List (View.Piece (Elt Ideal) S2048x8 .f32) := [
  ⟨Rect.unit ![1920, 0] ![128, 8] inb_S2048x8_S128x8_1920_0, tab1920 (View.ld G (Rect.unit (s := S8x2048x128) ![0, 1920, 0] ![1, 128, 128]
  inb_S8x2048x128_S1x128x128_0_1920_0)) (View.ld G (Rect.unit (s := S8x2048x128) ![1, 1920, 0] ![1, 128, 128] inb_S8x2048x128_S1x128x128_1_1920_0))
  (View.ld G (Rect.unit (s := S8x2048x128) ![2, 1920, 0] ![1, 128, 128] inb_S8x2048x128_S1x128x128_2_1920_0)) (View.ld G (Rect.unit (s := S8x2048x128)
  ![3, 1920, 0] ![1, 128, 128] inb_S8x2048x128_S1x128x128_3_1920_0)) (View.ld G (Rect.unit (s := S8x2048x128) ![4, 1920, 0] ![1, 128, 128]
  inb_S8x2048x128_S1x128x128_4_1920_0)) (View.ld G (Rect.unit (s := S8x2048x128) ![5, 1920, 0] ![1, 128, 128] inb_S8x2048x128_S1x128x128_5_1920_0))
  (View.ld G (Rect.unit (s := S8x2048x128) ![6, 1920, 0] ![1, 128, 128] inb_S8x2048x128_S1x128x128_6_1920_0)) (View.ld G (Rect.unit (s := S8x2048x128)
  ![7, 1920, 0] ![1, 128, 128] inb_S8x2048x128_S1x128x128_7_1920_0)) (View.ld S (Rect.unit (s := S2048x128) ![1920, 0] ![128, 128]
  inb_S2048x128_S128x128_1920_0)) (View.ld TL (Rect.unit (s := S2048x128) ![1920, 0] ![128, 128] inb_S2048x128_S128x128_1920_0)) (View.ld Y (Rect.unit
  (s := S2048x128) ![1920, 0] ![128, 128] inb_S2048x128_S128x128_1920_0))⟩,
  ⟨Rect.unit ![1792, 0] ![128, 8] inb_S2048x8_S128x8_1792_0, tab1792 (View.ld G (Rect.unit (s := S8x2048x128) ![0, 1792, 0] ![1, 128, 128]
  inb_S8x2048x128_S1x128x128_0_1792_0)) (View.ld G (Rect.unit (s := S8x2048x128) ![1, 1792, 0] ![1, 128, 128] inb_S8x2048x128_S1x128x128_1_1792_0))
  (View.ld G (Rect.unit (s := S8x2048x128) ![2, 1792, 0] ![1, 128, 128] inb_S8x2048x128_S1x128x128_2_1792_0)) (View.ld G (Rect.unit (s := S8x2048x128)
  ![3, 1792, 0] ![1, 128, 128] inb_S8x2048x128_S1x128x128_3_1792_0)) (View.ld G (Rect.unit (s := S8x2048x128) ![4, 1792, 0] ![1, 128, 128]
  inb_S8x2048x128_S1x128x128_4_1792_0)) (View.ld G (Rect.unit (s := S8x2048x128) ![5, 1792, 0] ![1, 128, 128] inb_S8x2048x128_S1x128x128_5_1792_0))
  (View.ld G (Rect.unit (s := S8x2048x128) ![6, 1792, 0] ![1, 128, 128] inb_S8x2048x128_S1x128x128_6_1792_0)) (View.ld G (Rect.unit (s := S8x2048x128)
  ![7, 1792, 0] ![1, 128, 128] inb_S8x2048x128_S1x128x128_7_1792_0)) (View.ld S (Rect.unit (s := S2048x128) ![1792, 0] ![128, 128]
  inb_S2048x128_S128x128_1792_0)) (View.ld TL (Rect.unit (s := S2048x128) ![1792, 0] ![128, 128] inb_S2048x128_S128x128_1792_0)) (View.ld Y (Rect.unit
  (s := S2048x128) ![1792, 0] ![128, 128] inb_S2048x128_S128x128_1792_0))⟩,
  ⟨Rect.unit ![1664, 0] ![128, 8] inb_S2048x8_S128x8_1664_0, tab1664 (View.ld G (Rect.unit (s := S8x2048x128) ![0, 1664, 0] ![1, 128, 128]
  inb_S8x2048x128_S1x128x128_0_1664_0)) (View.ld G (Rect.unit (s := S8x2048x128) ![1, 1664, 0] ![1, 128, 128] inb_S8x2048x128_S1x128x128_1_1664_0))
  (View.ld G (Rect.unit (s := S8x2048x128) ![2, 1664, 0] ![1, 128, 128] inb_S8x2048x128_S1x128x128_2_1664_0)) (View.ld G (Rect.unit (s := S8x2048x128)
  ![3, 1664, 0] ![1, 128, 128] inb_S8x2048x128_S1x128x128_3_1664_0)) (View.ld G (Rect.unit (s := S8x2048x128) ![4, 1664, 0] ![1, 128, 128]
  inb_S8x2048x128_S1x128x128_4_1664_0)) (View.ld G (Rect.unit (s := S8x2048x128) ![5, 1664, 0] ![1, 128, 128] inb_S8x2048x128_S1x128x128_5_1664_0))
  (View.ld G (Rect.unit (s := S8x2048x128) ![6, 1664, 0] ![1, 128, 128] inb_S8x2048x128_S1x128x128_6_1664_0)) (View.ld G (Rect.unit (s := S8x2048x128)
  ![7, 1664, 0] ![1, 128, 128] inb_S8x2048x128_S1x128x128_7_1664_0)) (View.ld S (Rect.unit (s := S2048x128) ![1664, 0] ![128, 128]
  inb_S2048x128_S128x128_1664_0)) (View.ld TL (Rect.unit (s := S2048x128) ![1664, 0] ![128, 128] inb_S2048x128_S128x128_1664_0)) (View.ld Y (Rect.unit
  (s := S2048x128) ![1664, 0] ![128, 128] inb_S2048x128_S128x128_1664_0))⟩,
  ⟨Rect.unit ![1536, 0] ![128, 8] inb_S2048x8_S128x8_1536_0, tab1536 (View.ld G (Rect.unit (s := S8x2048x128) ![0, 1536, 0] ![1, 128, 128]
  inb_S8x2048x128_S1x128x128_0_1536_0)) (View.ld G (Rect.unit (s := S8x2048x128) ![1, 1536, 0] ![1, 128, 128] inb_S8x2048x128_S1x128x128_1_1536_0))
  (View.ld G (Rect.unit (s := S8x2048x128) ![2, 1536, 0] ![1, 128, 128] inb_S8x2048x128_S1x128x128_2_1536_0)) (View.ld G (Rect.unit (s := S8x2048x128)
  ![3, 1536, 0] ![1, 128, 128] inb_S8x2048x128_S1x128x128_3_1536_0)) (View.ld G (Rect.unit (s := S8x2048x128) ![4, 1536, 0] ![1, 128, 128]
  inb_S8x2048x128_S1x128x128_4_1536_0)) (View.ld G (Rect.unit (s := S8x2048x128) ![5, 1536, 0] ![1, 128, 128] inb_S8x2048x128_S1x128x128_5_1536_0))
  (View.ld G (Rect.unit (s := S8x2048x128) ![6, 1536, 0] ![1, 128, 128] inb_S8x2048x128_S1x128x128_6_1536_0)) (View.ld G (Rect.unit (s := S8x2048x128)
  ![7, 1536, 0] ![1, 128, 128] inb_S8x2048x128_S1x128x128_7_1536_0)) (View.ld S (Rect.unit (s := S2048x128) ![1536, 0] ![128, 128]
  inb_S2048x128_S128x128_1536_0)) (View.ld TL (Rect.unit (s := S2048x128) ![1536, 0] ![128, 128] inb_S2048x128_S128x128_1536_0)) (View.ld Y (Rect.unit
  (s := S2048x128) ![1536, 0] ![128, 128] inb_S2048x128_S128x128_1536_0))⟩,
  ⟨Rect.unit ![1408, 0] ![128, 8] inb_S2048x8_S128x8_1408_0, tab1408 (View.ld G (Rect.unit (s := S8x2048x128) ![0, 1408, 0] ![1, 128, 128]
  inb_S8x2048x128_S1x128x128_0_1408_0)) (View.ld G (Rect.unit (s := S8x2048x128) ![1, 1408, 0] ![1, 128, 128] inb_S8x2048x128_S1x128x128_1_1408_0))
  (View.ld G (Rect.unit (s := S8x2048x128) ![2, 1408, 0] ![1, 128, 128] inb_S8x2048x128_S1x128x128_2_1408_0)) (View.ld G (Rect.unit (s := S8x2048x128)
  ![3, 1408, 0] ![1, 128, 128] inb_S8x2048x128_S1x128x128_3_1408_0)) (View.ld G (Rect.unit (s := S8x2048x128) ![4, 1408, 0] ![1, 128, 128]
  inb_S8x2048x128_S1x128x128_4_1408_0)) (View.ld G (Rect.unit (s := S8x2048x128) ![5, 1408, 0] ![1, 128, 128] inb_S8x2048x128_S1x128x128_5_1408_0))
  (View.ld G (Rect.unit (s := S8x2048x128) ![6, 1408, 0] ![1, 128, 128] inb_S8x2048x128_S1x128x128_6_1408_0)) (View.ld G (Rect.unit (s := S8x2048x128)
  ![7, 1408, 0] ![1, 128, 128] inb_S8x2048x128_S1x128x128_7_1408_0)) (View.ld S (Rect.unit (s := S2048x128) ![1408, 0] ![128, 128]
  inb_S2048x128_S128x128_1408_0)) (View.ld TL (Rect.unit (s := S2048x128) ![1408, 0] ![128, 128] inb_S2048x128_S128x128_1408_0)) (View.ld Y (Rect.unit
  (s := S2048x128) ![1408, 0] ![128, 128] inb_S2048x128_S128x128_1408_0))⟩,
  ⟨Rect.unit ![1280, 0] ![128, 8] inb_S2048x8_S128x8_1280_0, tab1280 (View.ld G (Rect.unit (s := S8x2048x128) ![0, 1280, 0] ![1, 128, 128]
  inb_S8x2048x128_S1x128x128_0_1280_0)) (View.ld G (Rect.unit (s := S8x2048x128) ![1, 1280, 0] ![1, 128, 128] inb_S8x2048x128_S1x128x128_1_1280_0))
  (View.ld G (Rect.unit (s := S8x2048x128) ![2, 1280, 0] ![1, 128, 128] inb_S8x2048x128_S1x128x128_2_1280_0)) (View.ld G (Rect.unit (s := S8x2048x128)
  ![3, 1280, 0] ![1, 128, 128] inb_S8x2048x128_S1x128x128_3_1280_0)) (View.ld G (Rect.unit (s := S8x2048x128) ![4, 1280, 0] ![1, 128, 128]
  inb_S8x2048x128_S1x128x128_4_1280_0)) (View.ld G (Rect.unit (s := S8x2048x128) ![5, 1280, 0] ![1, 128, 128] inb_S8x2048x128_S1x128x128_5_1280_0))
  (View.ld G (Rect.unit (s := S8x2048x128) ![6, 1280, 0] ![1, 128, 128] inb_S8x2048x128_S1x128x128_6_1280_0)) (View.ld G (Rect.unit (s := S8x2048x128)
  ![7, 1280, 0] ![1, 128, 128] inb_S8x2048x128_S1x128x128_7_1280_0)) (View.ld S (Rect.unit (s := S2048x128) ![1280, 0] ![128, 128]
  inb_S2048x128_S128x128_1280_0)) (View.ld TL (Rect.unit (s := S2048x128) ![1280, 0] ![128, 128] inb_S2048x128_S128x128_1280_0)) (View.ld Y (Rect.unit
  (s := S2048x128) ![1280, 0] ![128, 128] inb_S2048x128_S128x128_1280_0))⟩,
  ⟨Rect.unit ![1152, 0] ![128, 8] inb_S2048x8_S128x8_1152_0, tab1152 (View.ld G (Rect.unit (s := S8x2048x128) ![0, 1152, 0] ![1, 128, 128]
  inb_S8x2048x128_S1x128x128_0_1152_0)) (View.ld G (Rect.unit (s := S8x2048x128) ![1, 1152, 0] ![1, 128, 128] inb_S8x2048x128_S1x128x128_1_1152_0))
  (View.ld G (Rect.unit (s := S8x2048x128) ![2, 1152, 0] ![1, 128, 128] inb_S8x2048x128_S1x128x128_2_1152_0)) (View.ld G (Rect.unit (s := S8x2048x128)
  ![3, 1152, 0] ![1, 128, 128] inb_S8x2048x128_S1x128x128_3_1152_0)) (View.ld G (Rect.unit (s := S8x2048x128) ![4, 1152, 0] ![1, 128, 128]
  inb_S8x2048x128_S1x128x128_4_1152_0)) (View.ld G (Rect.unit (s := S8x2048x128) ![5, 1152, 0] ![1, 128, 128] inb_S8x2048x128_S1x128x128_5_1152_0))
  (View.ld G (Rect.unit (s := S8x2048x128) ![6, 1152, 0] ![1, 128, 128] inb_S8x2048x128_S1x128x128_6_1152_0)) (View.ld G (Rect.unit (s := S8x2048x128)
  ![7, 1152, 0] ![1, 128, 128] inb_S8x2048x128_S1x128x128_7_1152_0)) (View.ld S (Rect.unit (s := S2048x128) ![1152, 0] ![128, 128]
  inb_S2048x128_S128x128_1152_0)) (View.ld TL (Rect.unit (s := S2048x128) ![1152, 0] ![128, 128] inb_S2048x128_S128x128_1152_0)) (View.ld Y (Rect.unit
  (s := S2048x128) ![1152, 0] ![128, 128] inb_S2048x128_S128x128_1152_0))⟩,
  ⟨Rect.unit ![1024, 0] ![128, 8] inb_S2048x8_S128x8_1024_0, tab1024 (View.ld G (Rect.unit (s := S8x2048x128) ![0, 1024, 0] ![1, 128, 128]
  inb_S8x2048x128_S1x128x128_0_1024_0)) (View.ld G (Rect.unit (s := S8x2048x128) ![1, 1024, 0] ![1, 128, 128] inb_S8x2048x128_S1x128x128_1_1024_0))
  (View.ld G (Rect.unit (s := S8x2048x128) ![2, 1024, 0] ![1, 128, 128] inb_S8x2048x128_S1x128x128_2_1024_0)) (View.ld G (Rect.unit (s := S8x2048x128)
  ![3, 1024, 0] ![1, 128, 128] inb_S8x2048x128_S1x128x128_3_1024_0)) (View.ld G (Rect.unit (s := S8x2048x128) ![4, 1024, 0] ![1, 128, 128]
  inb_S8x2048x128_S1x128x128_4_1024_0)) (View.ld G (Rect.unit (s := S8x2048x128) ![5, 1024, 0] ![1, 128, 128] inb_S8x2048x128_S1x128x128_5_1024_0))
  (View.ld G (Rect.unit (s := S8x2048x128) ![6, 1024, 0] ![1, 128, 128] inb_S8x2048x128_S1x128x128_6_1024_0)) (View.ld G (Rect.unit (s := S8x2048x128)
  ![7, 1024, 0] ![1, 128, 128] inb_S8x2048x128_S1x128x128_7_1024_0)) (View.ld S (Rect.unit (s := S2048x128) ![1024, 0] ![128, 128]
  inb_S2048x128_S128x128_1024_0)) (View.ld TL (Rect.unit (s := S2048x128) ![1024, 0] ![128, 128] inb_S2048x128_S128x128_1024_0)) (View.ld Y (Rect.unit
  (s := S2048x128) ![1024, 0] ![128, 128] inb_S2048x128_S128x128_1024_0))⟩,
  ⟨Rect.unit ![896, 0] ![128, 8] inb_S2048x8_S128x8_896_0, tab896 (View.ld G (Rect.unit (s := S8x2048x128) ![0, 896, 0] ![1, 128, 128]
  inb_S8x2048x128_S1x128x128_0_896_0)) (View.ld G (Rect.unit (s := S8x2048x128) ![1, 896, 0] ![1, 128, 128] inb_S8x2048x128_S1x128x128_1_896_0))
  (View.ld G (Rect.unit (s := S8x2048x128) ![2, 896, 0] ![1, 128, 128] inb_S8x2048x128_S1x128x128_2_896_0)) (View.ld G (Rect.unit (s := S8x2048x128)
  ![3, 896, 0] ![1, 128, 128] inb_S8x2048x128_S1x128x128_3_896_0)) (View.ld G (Rect.unit (s := S8x2048x128) ![4, 896, 0] ![1, 128, 128]
  inb_S8x2048x128_S1x128x128_4_896_0)) (View.ld G (Rect.unit (s := S8x2048x128) ![5, 896, 0] ![1, 128, 128] inb_S8x2048x128_S1x128x128_5_896_0))
  (View.ld G (Rect.unit (s := S8x2048x128) ![6, 896, 0] ![1, 128, 128] inb_S8x2048x128_S1x128x128_6_896_0)) (View.ld G (Rect.unit (s := S8x2048x128)
  ![7, 896, 0] ![1, 128, 128] inb_S8x2048x128_S1x128x128_7_896_0)) (View.ld S (Rect.unit (s := S2048x128) ![896, 0] ![128, 128]
  inb_S2048x128_S128x128_896_0)) (View.ld TL (Rect.unit (s := S2048x128) ![896, 0] ![128, 128] inb_S2048x128_S128x128_896_0)) (View.ld Y (Rect.unit (s
  := S2048x128) ![896, 0] ![128, 128] inb_S2048x128_S128x128_896_0))⟩,
  ⟨Rect.unit ![768, 0] ![128, 8] inb_S2048x8_S128x8_768_0, tab768 (View.ld G (Rect.unit (s := S8x2048x128) ![0, 768, 0] ![1, 128, 128]
  inb_S8x2048x128_S1x128x128_0_768_0)) (View.ld G (Rect.unit (s := S8x2048x128) ![1, 768, 0] ![1, 128, 128] inb_S8x2048x128_S1x128x128_1_768_0))
  (View.ld G (Rect.unit (s := S8x2048x128) ![2, 768, 0] ![1, 128, 128] inb_S8x2048x128_S1x128x128_2_768_0)) (View.ld G (Rect.unit (s := S8x2048x128)
  ![3, 768, 0] ![1, 128, 128] inb_S8x2048x128_S1x128x128_3_768_0)) (View.ld G (Rect.unit (s := S8x2048x128) ![4, 768, 0] ![1, 128, 128]
  inb_S8x2048x128_S1x128x128_4_768_0)) (View.ld G (Rect.unit (s := S8x2048x128) ![5, 768, 0] ![1, 128, 128] inb_S8x2048x128_S1x128x128_5_768_0))
  (View.ld G (Rect.unit (s := S8x2048x128) ![6, 768, 0] ![1, 128, 128] inb_S8x2048x128_S1x128x128_6_768_0)) (View.ld G (Rect.unit (s := S8x2048x128)
  ![7, 768, 0] ![1, 128, 128] inb_S8x2048x128_S1x128x128_7_768_0)) (View.ld S (Rect.unit (s := S2048x128) ![768, 0] ![128, 128]
  inb_S2048x128_S128x128_768_0)) (View.ld TL (Rect.unit (s := S2048x128) ![768, 0] ![128, 128] inb_S2048x128_S128x128_768_0)) (View.ld Y (Rect.unit (s
  := S2048x128) ![768, 0] ![128, 128] inb_S2048x128_S128x128_768_0))⟩,
  ⟨Rect.unit ![640, 0] ![128, 8] inb_S2048x8_S128x8_640_0, tab640 (View.ld G (Rect.unit (s := S8x2048x128) ![0, 640, 0] ![1, 128, 128]
  inb_S8x2048x128_S1x128x128_0_640_0)) (View.ld G (Rect.unit (s := S8x2048x128) ![1, 640, 0] ![1, 128, 128] inb_S8x2048x128_S1x128x128_1_640_0))
  (View.ld G (Rect.unit (s := S8x2048x128) ![2, 640, 0] ![1, 128, 128] inb_S8x2048x128_S1x128x128_2_640_0)) (View.ld G (Rect.unit (s := S8x2048x128)
  ![3, 640, 0] ![1, 128, 128] inb_S8x2048x128_S1x128x128_3_640_0)) (View.ld G (Rect.unit (s := S8x2048x128) ![4, 640, 0] ![1, 128, 128]
  inb_S8x2048x128_S1x128x128_4_640_0)) (View.ld G (Rect.unit (s := S8x2048x128) ![5, 640, 0] ![1, 128, 128] inb_S8x2048x128_S1x128x128_5_640_0))
  (View.ld G (Rect.unit (s := S8x2048x128) ![6, 640, 0] ![1, 128, 128] inb_S8x2048x128_S1x128x128_6_640_0)) (View.ld G (Rect.unit (s := S8x2048x128)
  ![7, 640, 0] ![1, 128, 128] inb_S8x2048x128_S1x128x128_7_640_0)) (View.ld S (Rect.unit (s := S2048x128) ![640, 0] ![128, 128]
  inb_S2048x128_S128x128_640_0)) (View.ld TL (Rect.unit (s := S2048x128) ![640, 0] ![128, 128] inb_S2048x128_S128x128_640_0)) (View.ld Y (Rect.unit (s
  := S2048x128) ![640, 0] ![128, 128] inb_S2048x128_S128x128_640_0))⟩,
  ⟨Rect.unit ![512, 0] ![128, 8] inb_S2048x8_S128x8_512_0, tab512 (View.ld G (Rect.unit (s := S8x2048x128) ![0, 512, 0] ![1, 128, 128]
  inb_S8x2048x128_S1x128x128_0_512_0)) (View.ld G (Rect.unit (s := S8x2048x128) ![1, 512, 0] ![1, 128, 128] inb_S8x2048x128_S1x128x128_1_512_0))
  (View.ld G (Rect.unit (s := S8x2048x128) ![2, 512, 0] ![1, 128, 128] inb_S8x2048x128_S1x128x128_2_512_0)) (View.ld G (Rect.unit (s := S8x2048x128)
  ![3, 512, 0] ![1, 128, 128] inb_S8x2048x128_S1x128x128_3_512_0)) (View.ld G (Rect.unit (s := S8x2048x128) ![4, 512, 0] ![1, 128, 128]
  inb_S8x2048x128_S1x128x128_4_512_0)) (View.ld G (Rect.unit (s := S8x2048x128) ![5, 512, 0] ![1, 128, 128] inb_S8x2048x128_S1x128x128_5_512_0))
  (View.ld G (Rect.unit (s := S8x2048x128) ![6, 512, 0] ![1, 128, 128] inb_S8x2048x128_S1x128x128_6_512_0)) (View.ld G (Rect.unit (s := S8x2048x128)
  ![7, 512, 0] ![1, 128, 128] inb_S8x2048x128_S1x128x128_7_512_0)) (View.ld S (Rect.unit (s := S2048x128) ![512, 0] ![128, 128]
  inb_S2048x128_S128x128_512_0)) (View.ld TL (Rect.unit (s := S2048x128) ![512, 0] ![128, 128] inb_S2048x128_S128x128_512_0)) (View.ld Y (Rect.unit (s
  := S2048x128) ![512, 0] ![128, 128] inb_S2048x128_S128x128_512_0))⟩,
  ⟨Rect.unit ![384, 0] ![128, 8] inb_S2048x8_S128x8_384_0, tab384 (View.ld G (Rect.unit (s := S8x2048x128) ![0, 384, 0] ![1, 128, 128]
  inb_S8x2048x128_S1x128x128_0_384_0)) (View.ld G (Rect.unit (s := S8x2048x128) ![1, 384, 0] ![1, 128, 128] inb_S8x2048x128_S1x128x128_1_384_0))
  (View.ld G (Rect.unit (s := S8x2048x128) ![2, 384, 0] ![1, 128, 128] inb_S8x2048x128_S1x128x128_2_384_0)) (View.ld G (Rect.unit (s := S8x2048x128)
  ![3, 384, 0] ![1, 128, 128] inb_S8x2048x128_S1x128x128_3_384_0)) (View.ld G (Rect.unit (s := S8x2048x128) ![4, 384, 0] ![1, 128, 128]
  inb_S8x2048x128_S1x128x128_4_384_0)) (View.ld G (Rect.unit (s := S8x2048x128) ![5, 384, 0] ![1, 128, 128] inb_S8x2048x128_S1x128x128_5_384_0))
  (View.ld G (Rect.unit (s := S8x2048x128) ![6, 384, 0] ![1, 128, 128] inb_S8x2048x128_S1x128x128_6_384_0)) (View.ld G (Rect.unit (s := S8x2048x128)
  ![7, 384, 0] ![1, 128, 128] inb_S8x2048x128_S1x128x128_7_384_0)) (View.ld S (Rect.unit (s := S2048x128) ![384, 0] ![128, 128]
  inb_S2048x128_S128x128_384_0)) (View.ld TL (Rect.unit (s := S2048x128) ![384, 0] ![128, 128] inb_S2048x128_S128x128_384_0)) (View.ld Y (Rect.unit (s
  := S2048x128) ![384, 0] ![128, 128] inb_S2048x128_S128x128_384_0))⟩,
  ⟨Rect.unit ![256, 0] ![128, 8] inb_S2048x8_S128x8_256_0, tab256 (View.ld G (Rect.unit (s := S8x2048x128) ![0, 256, 0] ![1, 128, 128]
  inb_S8x2048x128_S1x128x128_0_256_0)) (View.ld G (Rect.unit (s := S8x2048x128) ![1, 256, 0] ![1, 128, 128] inb_S8x2048x128_S1x128x128_1_256_0))
  (View.ld G (Rect.unit (s := S8x2048x128) ![2, 256, 0] ![1, 128, 128] inb_S8x2048x128_S1x128x128_2_256_0)) (View.ld G (Rect.unit (s := S8x2048x128)
  ![3, 256, 0] ![1, 128, 128] inb_S8x2048x128_S1x128x128_3_256_0)) (View.ld G (Rect.unit (s := S8x2048x128) ![4, 256, 0] ![1, 128, 128]
  inb_S8x2048x128_S1x128x128_4_256_0)) (View.ld G (Rect.unit (s := S8x2048x128) ![5, 256, 0] ![1, 128, 128] inb_S8x2048x128_S1x128x128_5_256_0))
  (View.ld G (Rect.unit (s := S8x2048x128) ![6, 256, 0] ![1, 128, 128] inb_S8x2048x128_S1x128x128_6_256_0)) (View.ld G (Rect.unit (s := S8x2048x128)
  ![7, 256, 0] ![1, 128, 128] inb_S8x2048x128_S1x128x128_7_256_0)) (View.ld S (Rect.unit (s := S2048x128) ![256, 0] ![128, 128]
  inb_S2048x128_S128x128_256_0)) (View.ld TL (Rect.unit (s := S2048x128) ![256, 0] ![128, 128] inb_S2048x128_S128x128_256_0)) (View.ld Y (Rect.unit (s
  := S2048x128) ![256, 0] ![128, 128] inb_S2048x128_S128x128_256_0))⟩,
  ⟨Rect.unit ![128, 0] ![128, 8] inb_S2048x8_S128x8_128_0, tab128 (View.ld G (Rect.unit (s := S8x2048x128) ![0, 128, 0] ![1, 128, 128]
  inb_S8x2048x128_S1x128x128_0_128_0)) (View.ld G (Rect.unit (s := S8x2048x128) ![1, 128, 0] ![1, 128, 128] inb_S8x2048x128_S1x128x128_1_128_0))
  (View.ld G (Rect.unit (s := S8x2048x128) ![2, 128, 0] ![1, 128, 128] inb_S8x2048x128_S1x128x128_2_128_0)) (View.ld G (Rect.unit (s := S8x2048x128)
  ![3, 128, 0] ![1, 128, 128] inb_S8x2048x128_S1x128x128_3_128_0)) (View.ld G (Rect.unit (s := S8x2048x128) ![4, 128, 0] ![1, 128, 128]
  inb_S8x2048x128_S1x128x128_4_128_0)) (View.ld G (Rect.unit (s := S8x2048x128) ![5, 128, 0] ![1, 128, 128] inb_S8x2048x128_S1x128x128_5_128_0))
  (View.ld G (Rect.unit (s := S8x2048x128) ![6, 128, 0] ![1, 128, 128] inb_S8x2048x128_S1x128x128_6_128_0)) (View.ld G (Rect.unit (s := S8x2048x128)
  ![7, 128, 0] ![1, 128, 128] inb_S8x2048x128_S1x128x128_7_128_0)) (View.ld S (Rect.unit (s := S2048x128) ![128, 0] ![128, 128]
  inb_S2048x128_S128x128_128_0)) (View.ld TL (Rect.unit (s := S2048x128) ![128, 0] ![128, 128] inb_S2048x128_S128x128_128_0)) (View.ld Y (Rect.unit (s
  := S2048x128) ![128, 0] ![128, 128] inb_S2048x128_S128x128_128_0))⟩,
  ⟨Rect.unit ![0, 0] ![128, 8] inb_S2048x8_S128x8_0_0, tab0 (View.ld G (Rect.unit (s := S8x2048x128) ![0, 0, 0] ![1, 128, 128]
  inb_S8x2048x128_S1x128x128_0_0_0)) (View.ld G (Rect.unit (s := S8x2048x128) ![1, 0, 0] ![1, 128, 128] inb_S8x2048x128_S1x128x128_1_0_0)) (View.ld G
  (Rect.unit (s := S8x2048x128) ![2, 0, 0] ![1, 128, 128] inb_S8x2048x128_S1x128x128_2_0_0)) (View.ld G (Rect.unit (s := S8x2048x128) ![3, 0, 0] ![1,
  128, 128] inb_S8x2048x128_S1x128x128_3_0_0)) (View.ld G (Rect.unit (s := S8x2048x128) ![4, 0, 0] ![1, 128, 128] inb_S8x2048x128_S1x128x128_4_0_0))
  (View.ld G (Rect.unit (s := S8x2048x128) ![5, 0, 0] ![1, 128, 128] inb_S8x2048x128_S1x128x128_5_0_0)) (View.ld G (Rect.unit (s := S8x2048x128) ![6,
  0, 0] ![1, 128, 128] inb_S8x2048x128_S1x128x128_6_0_0)) (View.ld G (Rect.unit (s := S8x2048x128) ![7, 0, 0] ![1, 128, 128]
  inb_S8x2048x128_S1x128x128_7_0_0)) (View.ld S (Rect.unit (s := S2048x128) ![0, 0] ![128, 128] inb_S2048x128_S128x128_0_0)) (View.ld TL (Rect.unit (s
  := S2048x128) ![0, 0] ![128, 128] inb_S2048x128_S128x128_0_0)) (View.ld Y (Rect.unit (s := S2048x128) ![0, 0] ![128, 128]
  inb_S2048x128_S128x128_0_0))⟩]

/-- Each of these pieces is a block of the scales. -/
theorem gsdL_pieces : ∀ p ∈ gsdL S TL Y G, ∀ x, p.2 x = (fun y : S2048x8.Idx => RT S TL Y G (y 1) (y 0) ⟨(y 1).val, Nat.lt_trans (y 1).isLt (by decide)⟩) (p.1.emb x) := by
  unfold gsdL
  refine List.forall_mem_cons.mpr ⟨fun x => (congrFun (tab1920_eq _ _ _ _ _ _ _ _ _ _ _) x).trans (p9_apply S TL Y G 1920 inb_S2048x128_S128x128_1920_0 inb_S2048x8_S128x8_1920_0 inb_S8x2048x128_S1x128x128_0_1920_0 inb_S8x2048x128_S1x128x128_1_1920_0 inb_S8x2048x128_S1x128x128_2_1920_0 inb_S8x2048x128_S1x128x128_3_1920_0 inb_S8x2048x128_S1x128x128_4_1920_0 inb_S8x2048x128_S1x128x128_5_1920_0 inb_S8x2048x128_S1x128x128_6_1920_0 inb_S8x2048x128_S1x128x128_7_1920_0 x), ?_⟩
  refine List.forall_mem_cons.mpr ⟨fun x => (congrFun (tab1792_eq _ _ _ _ _ _ _ _ _ _ _) x).trans (p9_apply S TL Y G 1792 inb_S2048x128_S128x128_1792_0 inb_S2048x8_S128x8_1792_0 inb_S8x2048x128_S1x128x128_0_1792_0 inb_S8x2048x128_S1x128x128_1_1792_0 inb_S8x2048x128_S1x128x128_2_1792_0 inb_S8x2048x128_S1x128x128_3_1792_0 inb_S8x2048x128_S1x128x128_4_1792_0 inb_S8x2048x128_S1x128x128_5_1792_0 inb_S8x2048x128_S1x128x128_6_1792_0 inb_S8x2048x128_S1x128x128_7_1792_0 x), ?_⟩
  refine List.forall_mem_cons.mpr ⟨fun x => (congrFun (tab1664_eq _ _ _ _ _ _ _ _ _ _ _) x).trans (p9_apply S TL Y G 1664 inb_S2048x128_S128x128_1664_0 inb_S2048x8_S128x8_1664_0 inb_S8x2048x128_S1x128x128_0_1664_0 inb_S8x2048x128_S1x128x128_1_1664_0 inb_S8x2048x128_S1x128x128_2_1664_0 inb_S8x2048x128_S1x128x128_3_1664_0 inb_S8x2048x128_S1x128x128_4_1664_0 inb_S8x2048x128_S1x128x128_5_1664_0 inb_S8x2048x128_S1x128x128_6_1664_0 inb_S8x2048x128_S1x128x128_7_1664_0 x), ?_⟩
  refine List.forall_mem_cons.mpr ⟨fun x => (congrFun (tab1536_eq _ _ _ _ _ _ _ _ _ _ _) x).trans (p9_apply S TL Y G 1536 inb_S2048x128_S128x128_1536_0 inb_S2048x8_S128x8_1536_0 inb_S8x2048x128_S1x128x128_0_1536_0 inb_S8x2048x128_S1x128x128_1_1536_0 inb_S8x2048x128_S1x128x128_2_1536_0 inb_S8x2048x128_S1x128x128_3_1536_0 inb_S8x2048x128_S1x128x128_4_1536_0 inb_S8x2048x128_S1x128x128_5_1536_0 inb_S8x2048x128_S1x128x128_6_1536_0 inb_S8x2048x128_S1x128x128_7_1536_0 x), ?_⟩
  refine List.forall_mem_cons.mpr ⟨fun x => (congrFun (tab1408_eq _ _ _ _ _ _ _ _ _ _ _) x).trans (p9_apply S TL Y G 1408 inb_S2048x128_S128x128_1408_0 inb_S2048x8_S128x8_1408_0 inb_S8x2048x128_S1x128x128_0_1408_0 inb_S8x2048x128_S1x128x128_1_1408_0 inb_S8x2048x128_S1x128x128_2_1408_0 inb_S8x2048x128_S1x128x128_3_1408_0 inb_S8x2048x128_S1x128x128_4_1408_0 inb_S8x2048x128_S1x128x128_5_1408_0 inb_S8x2048x128_S1x128x128_6_1408_0 inb_S8x2048x128_S1x128x128_7_1408_0 x), ?_⟩
  refine List.forall_mem_cons.mpr ⟨fun x => (congrFun (tab1280_eq _ _ _ _ _ _ _ _ _ _ _) x).trans (p9_apply S TL Y G 1280 inb_S2048x128_S128x128_1280_0 inb_S2048x8_S128x8_1280_0 inb_S8x2048x128_S1x128x128_0_1280_0 inb_S8x2048x128_S1x128x128_1_1280_0 inb_S8x2048x128_S1x128x128_2_1280_0 inb_S8x2048x128_S1x128x128_3_1280_0 inb_S8x2048x128_S1x128x128_4_1280_0 inb_S8x2048x128_S1x128x128_5_1280_0 inb_S8x2048x128_S1x128x128_6_1280_0 inb_S8x2048x128_S1x128x128_7_1280_0 x), ?_⟩
  refine List.forall_mem_cons.mpr ⟨fun x => (congrFun (tab1152_eq _ _ _ _ _ _ _ _ _ _ _) x).trans (p9_apply S TL Y G 1152 inb_S2048x128_S128x128_1152_0 inb_S2048x8_S128x8_1152_0 inb_S8x2048x128_S1x128x128_0_1152_0 inb_S8x2048x128_S1x128x128_1_1152_0 inb_S8x2048x128_S1x128x128_2_1152_0 inb_S8x2048x128_S1x128x128_3_1152_0 inb_S8x2048x128_S1x128x128_4_1152_0 inb_S8x2048x128_S1x128x128_5_1152_0 inb_S8x2048x128_S1x128x128_6_1152_0 inb_S8x2048x128_S1x128x128_7_1152_0 x), ?_⟩
  refine List.forall_mem_cons.mpr ⟨fun x => (congrFun (tab1024_eq _ _ _ _ _ _ _ _ _ _ _) x).trans (p9_apply S TL Y G 1024 inb_S2048x128_S128x128_1024_0 inb_S2048x8_S128x8_1024_0 inb_S8x2048x128_S1x128x128_0_1024_0 inb_S8x2048x128_S1x128x128_1_1024_0 inb_S8x2048x128_S1x128x128_2_1024_0 inb_S8x2048x128_S1x128x128_3_1024_0 inb_S8x2048x128_S1x128x128_4_1024_0 inb_S8x2048x128_S1x128x128_5_1024_0 inb_S8x2048x128_S1x128x128_6_1024_0 inb_S8x2048x128_S1x128x128_7_1024_0 x), ?_⟩
  refine List.forall_mem_cons.mpr ⟨fun x => (congrFun (tab896_eq _ _ _ _ _ _ _ _ _ _ _) x).trans (p9_apply S TL Y G 896 inb_S2048x128_S128x128_896_0 inb_S2048x8_S128x8_896_0 inb_S8x2048x128_S1x128x128_0_896_0 inb_S8x2048x128_S1x128x128_1_896_0 inb_S8x2048x128_S1x128x128_2_896_0 inb_S8x2048x128_S1x128x128_3_896_0 inb_S8x2048x128_S1x128x128_4_896_0 inb_S8x2048x128_S1x128x128_5_896_0 inb_S8x2048x128_S1x128x128_6_896_0 inb_S8x2048x128_S1x128x128_7_896_0 x), ?_⟩
  refine List.forall_mem_cons.mpr ⟨fun x => (congrFun (tab768_eq _ _ _ _ _ _ _ _ _ _ _) x).trans (p9_apply S TL Y G 768 inb_S2048x128_S128x128_768_0 inb_S2048x8_S128x8_768_0 inb_S8x2048x128_S1x128x128_0_768_0 inb_S8x2048x128_S1x128x128_1_768_0 inb_S8x2048x128_S1x128x128_2_768_0 inb_S8x2048x128_S1x128x128_3_768_0 inb_S8x2048x128_S1x128x128_4_768_0 inb_S8x2048x128_S1x128x128_5_768_0 inb_S8x2048x128_S1x128x128_6_768_0 inb_S8x2048x128_S1x128x128_7_768_0 x), ?_⟩
  refine List.forall_mem_cons.mpr ⟨fun x => (congrFun (tab640_eq _ _ _ _ _ _ _ _ _ _ _) x).trans (p9_apply S TL Y G 640 inb_S2048x128_S128x128_640_0 inb_S2048x8_S128x8_640_0 inb_S8x2048x128_S1x128x128_0_640_0 inb_S8x2048x128_S1x128x128_1_640_0 inb_S8x2048x128_S1x128x128_2_640_0 inb_S8x2048x128_S1x128x128_3_640_0 inb_S8x2048x128_S1x128x128_4_640_0 inb_S8x2048x128_S1x128x128_5_640_0 inb_S8x2048x128_S1x128x128_6_640_0 inb_S8x2048x128_S1x128x128_7_640_0 x), ?_⟩
  refine List.forall_mem_cons.mpr ⟨fun x => (congrFun (tab512_eq _ _ _ _ _ _ _ _ _ _ _) x).trans (p9_apply S TL Y G 512 inb_S2048x128_S128x128_512_0 inb_S2048x8_S128x8_512_0 inb_S8x2048x128_S1x128x128_0_512_0 inb_S8x2048x128_S1x128x128_1_512_0 inb_S8x2048x128_S1x128x128_2_512_0 inb_S8x2048x128_S1x128x128_3_512_0 inb_S8x2048x128_S1x128x128_4_512_0 inb_S8x2048x128_S1x128x128_5_512_0 inb_S8x2048x128_S1x128x128_6_512_0 inb_S8x2048x128_S1x128x128_7_512_0 x), ?_⟩
  refine List.forall_mem_cons.mpr ⟨fun x => (congrFun (tab384_eq _ _ _ _ _ _ _ _ _ _ _) x).trans (p9_apply S TL Y G 384 inb_S2048x128_S128x128_384_0 inb_S2048x8_S128x8_384_0 inb_S8x2048x128_S1x128x128_0_384_0 inb_S8x2048x128_S1x128x128_1_384_0 inb_S8x2048x128_S1x128x128_2_384_0 inb_S8x2048x128_S1x128x128_3_384_0 inb_S8x2048x128_S1x128x128_4_384_0 inb_S8x2048x128_S1x128x128_5_384_0 inb_S8x2048x128_S1x128x128_6_384_0 inb_S8x2048x128_S1x128x128_7_384_0 x), ?_⟩
  refine List.forall_mem_cons.mpr ⟨fun x => (congrFun (tab256_eq _ _ _ _ _ _ _ _ _ _ _) x).trans (p9_apply S TL Y G 256 inb_S2048x128_S128x128_256_0 inb_S2048x8_S128x8_256_0 inb_S8x2048x128_S1x128x128_0_256_0 inb_S8x2048x128_S1x128x128_1_256_0 inb_S8x2048x128_S1x128x128_2_256_0 inb_S8x2048x128_S1x128x128_3_256_0 inb_S8x2048x128_S1x128x128_4_256_0 inb_S8x2048x128_S1x128x128_5_256_0 inb_S8x2048x128_S1x128x128_6_256_0 inb_S8x2048x128_S1x128x128_7_256_0 x), ?_⟩
  refine List.forall_mem_cons.mpr ⟨fun x => (congrFun (tab128_eq _ _ _ _ _ _ _ _ _ _ _) x).trans (p9_apply S TL Y G 128 inb_S2048x128_S128x128_128_0 inb_S2048x8_S128x8_128_0 inb_S8x2048x128_S1x128x128_0_128_0 inb_S8x2048x128_S1x128x128_1_128_0 inb_S8x2048x128_S1x128x128_2_128_0 inb_S8x2048x128_S1x128x128_3_128_0 inb_S8x2048x128_S1x128x128_4_128_0 inb_S8x2048x128_S1x128x128_5_128_0 inb_S8x2048x128_S1x128x128_6_128_0 inb_S8x2048x128_S1x128x128_7_128_0 x), ?_⟩
  refine List.forall_mem_cons.mpr ⟨fun x => (congrFun (tab0_eq _ _ _ _ _ _ _ _ _ _ _) x).trans (p9_apply S TL Y G 0 inb_S2048x128_S128x128_0_0 inb_S2048x8_S128x8_0_0 inb_S8x2048x128_S1x128x128_0_0_0 inb_S8x2048x128_S1x128x128_1_0_0 inb_S8x2048x128_S1x128x128_2_0_0 inb_S8x2048x128_S1x128x128_3_0_0 inb_S8x2048x128_S1x128x128_4_0_0 inb_S8x2048x128_S1x128x128_5_0_0 inb_S8x2048x128_S1x128x128_6_0_0 inb_S8x2048x128_S1x128x128_7_0_0 x), ?_⟩
  exact fun p hp => absurd hp List.not_mem_nil

/-- The table holds the scales. -/
theorem gsdL_canon (y : S2048x8.Idx) :
    View.canon (Val := Elt Ideal) (gsdL S TL Y G) y = RT S TL Y G (y 1) (y 0) ⟨(y 1).val, Nat.lt_trans (y 1).isLt (by decide)⟩ :=
  View.canon_apply_of_pieces (Val := Elt Ideal) (e := .f32) (fun y : S2048x8.Idx => RT S TL Y G (y 1) (y 0) ⟨(y 1).val, Nat.lt_trans (y 1).isLt (by decide)⟩) (gsdL S TL Y G) (gsdL_pieces S TL Y G) y
    (View.cover_of_tiledL (gsdL S TL Y G) ![128, 8] (by sl_kernel_rfl) y)

end Cert.FwdIdeal.Hand

end
-- ==== Proof.FwdFinal.lean ====
module

public import proofs.«01_k».proof.Proof.FwdRun
public import proofs.«01_k».proof.Proof.FwdOut
public import proofs.«01_k».proof.Proof.FwdGs
public import proofs.«01_k».proof.Proof.FwdGsd
public import Idealize.ShloMosaic.Lib.Pipeline.ValueKit

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-! # What the last point leaves, and so the results -/

/-- The sums the last point leaves, -/
theorem s_last (c : Dev nD) (t : Fin cfg0.N) (h1 : t.val = 31) (y : S2048x128.Idx) :
    sNew (iblk m c 0 t) (iblk m c 1 t) (iblk m c 2 t) (iblk m c 3 t)
      (outsAt0 (F := Ideal) m c (t.val - 1) (Nat.lt_of_le_of_lt (Nat.sub_le _ _) t.isLt)).2.2.2.2.2.1 y = eS (RW m c (y 0)) (y 1).val 128 := by
  refine (s_step m c t _ y ?_).trans (by rw [h1])
  rw [s_inv m c (t.val - 1) _ (by omega) y, show 4 * (t.val - 1 + 1) = 4 * t.val by omega]

/-- the labels' values, -/
theorem l_last (c : Dev nD) (t : Fin cfg0.N) (h1 : t.val = 31) (y : S2048x128.Idx) :
    lNew (grid0.coords t) (iblk m c 0 t) (iblk m c 1 t) (iblk m c 2 t) (iblk m c 3 t) (iblk m c 4 t)
      (outsAt0 (F := Ideal) m c (t.val - 1) (Nat.lt_of_le_of_lt (Nat.sub_le _ _) t.isLt)).2.2.2.2.2.2 y
      = eL (RW m c (y 0)) (LB m c (y 0)) (y 1).val 128 := by
  refine (l_step m c t _ y ?_).trans (by rw [h1])
  rw [l_inv m c (t.val - 1) _ (by omega) y, show 4 * (t.val - 1 + 1) = 4 * t.val by omega]

/-- and the maxima. -/
theorem g_last (c : Dev nD) (t : Fin cfg0.N) (h1 : t.val = 31) (y : S8x2048x128.Idx) :
    gAfter m c t (outsAt0 (F := Ideal) m c (t.val - 1) (Nat.lt_of_le_of_lt (Nat.sub_le _ _) t.isLt)).2.2.1 y
      = eM (RW m c (y 1)) (LB m c (y 1)) (y 0).val (y 2).val 128 := by
  refine (gAfter_step m c t _ (fun y => ?_) y).trans (by rw [h1])
  rw [g_inv m c (t.val - 1) _ (by omega) y, show 4 * (t.val - 1 + 1) = 4 * t.val by omega]

/-- A row's scale in a group, from what the last point leaves. -/
theorem RT_last (c : Dev nD) (t : Fin cfg0.N) (h1 : t.val = 31) (G : Vec Ideal S8x2048x128 .f32)
    (hG : G = gAfter m c t (outsAt0 (F := Ideal) m c (t.val - 1) (Nat.lt_of_le_of_lt (Nat.sub_le _ _) t.isLt)).2.2.1)
    (q : Fin 8) (r : Fin 2048) (l : Fin 128) :
    RT (sNew (iblk m c 0 t) (iblk m c 1 t) (iblk m c 2 t) (iblk m c 3 t)
        (outsAt0 (F := Ideal) m c (t.val - 1) (Nat.lt_of_le_of_lt (Nat.sub_le _ _) t.isLt)).2.2.2.2.2.1)
      (lNew (grid0.coords t) (iblk m c 0 t) (iblk m c 1 t) (iblk m c 2 t) (iblk m c 3 t) (iblk m c 4 t)
        (outsAt0 (F := Ideal) m c (t.val - 1) (Nat.lt_of_le_of_lt (Nat.sub_le _ _) t.isLt)).2.2.2.2.2.2) (iblk m c 4 t) G q r l
      = scaleK (kA (RW m c r) (LB m c r) q.val * CInv) := by
  subst hG
  have e1 : (fun k : Fin 128 => gAfter m c t (outsAt0 (F := Ideal) m c (t.val - 1) (Nat.lt_of_le_of_lt (Nat.sub_le _ _) t.isLt)).2.2.1 (ix3 q r k))
      = fun k : Fin 128 => eM (RW m c r) (LB m c r) q.val k.val 128 := funext fun k => g_last m c t h1 (ix3 q r k)
  have e2 := Finset.sum_congr (rfl : (Finset.univ : Finset (Fin 128)) = Finset.univ) fun k _ => s_last m c t h1 (ix2 r k)
  have e3 := Finset.sum_congr (rfl : (Finset.univ : Finset (Fin 128)) = Finset.univ) fun k _ => l_last m c t h1 (ix2 r k)
  have e4 := lab_block m c t r l
  have e : ∀ (f : Fin 128 → EReal) (s l' : EReal) (b : BitVec 32), f = (fun k : Fin 128 => eM (RW m c r) (LB m c r) q.val k.val 128) →
      s = ∑ k : Fin 128, eS (RW m c r) k.val 128 → l' = ∑ k : Fin 128, eL (RW m c r) (LB m c r) k.val 128 →
      b = (m ((c : Thread nD τ).loc main_arg4)) (ix2 r 0) →
      outV (BitVec.ofNat 32 q.val) (Finset.fold max NInf f Finset.univ) s l' b = scaleK (kA (RW m c r) (LB m c r) q.val * CInv) := by
    rintro f s l' b rfl rfl rfl rfl
    unfold outV
    rw [sel_group q.val q.isLt]
    rfl
  exact e _ _ _ _ e1 e2 e3 e4

/-- The log-sum-exps are the reference's. -/
theorem final6 (c : Dev nD) : (dats m 0 c).arrAt 6 (cfgs 0).N
    = Cert.RefFwdIdeal.Hand.G6 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h31 : t.val % 32 = 31 := (flush0_6 t).mp hf
  have ht := (idx t).2.2.2.2.2.2.2.2.2.2.2
  have h1 : t.val = 31 := by omega
  have h0 : ¬ t.val % 32 = 0 := by omega
  blk_simp
  rw [after0_6]
  have e := Cert.RefFwdIdeal.Hand.ref6 (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y)
  have ey : ((cfg0.win 6).blk t).view.emb y = y := by
    funext a; apply Fin.ext; fin_cases a <;> blk_simp [idx t]
  rw [ey] at e
  rw [ey]
  refine Eq.trans ?_ e.symm
  rw [outsAt0_C m c t h0 h31]; frame_out
  simp only [readCov_ld, s_canon, l_canon (grid0.coords t) (iblk m c 0 t) (iblk m c 1 t) (iblk m c 2 t) (iblk m c 3 t) (iblk m c 4 t), read_unread_whole]
  refine (lse_canon _ y).trans (congrArg Ideal.log (Finset.sum_congr rfl fun l _ => (s_last m c t h1 (ix2 (y 0) l)).trans ?_))
  rfl

/-- The groups' scales are the reference's, -/
theorem final7 (c : Dev nD) : (dats m 0 c).arrAt 7 (cfgs 0).N
    = Cert.RefFwdIdeal.Hand.G7 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have h31 : t.val % 32 = 31 := (flush0_7 t).mp hf
  have ht := (idx t).2.2.2.2.2.2.2.2.2.2.2
  have h1 : t.val = 31 := by omega
  have h0 : ¬ t.val % 32 = 0 := by omega
  blk_simp
  rw [after0_7]
  have e := Cert.RefFwdIdeal.Hand.ref7 (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y)
  have ey : ((cfg0.win 7).blk t).view.emb y = y := by
    funext a; apply Fin.ext; fin_cases a <;> blk_simp [idx t]
  rw [ey] at e
  rw [ey]
  refine Eq.trans ?_ e.symm
  rw [outsAt0_C m c t h0 h31]; frame_out
  simp only [readCov_ld, s_canon, l_canon (grid0.coords t) (iblk m c 0 t) (iblk m c 1 t) (iblk m c 2 t) (iblk m c 3 t) (iblk m c 4 t), read_unread_whole]
  refine Eq.trans (gsL_read _ _ _ _ _ _ _ y) ?_
  exact RT_last m c t h1 _ (g_fun m c t _ _ _ (Memref.IsWhole.read_unread _ _) _ _ _ _) (y 0) (y 1) (y 2)

/-- The losses are the reference's. -/
theorem final8 (c : Dev nD) : (dats m 0 c).arrAt 8 (cfgs 0).N
    = Cert.RefFwdIdeal.Hand.G8 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have h31 : t.val % 32 = 31 := (flush0_8 t).mp hf
  have ht := (idx t).2.2.2.2.2.2.2.2.2.2.2
  have h1 : t.val = 31 := by omega
  have h0 : ¬ t.val % 32 = 0 := by omega
  blk_simp
  rw [after0_8]
  have y0 : (y 0).val < 16 := (y 0).isLt
  have y1 : (y 1).val < 128 := (y 1).isLt
  obtain ⟨r, hr⟩ : ∃ r : Fin 2048, r.val = (y 0).val * 128 + (y 1).val := ⟨⟨(y 0).val * 128 + (y 1).val, by omega⟩, rfl⟩
  have ey : ((cfg0.win 8).blk t).view.emb y = y := by
    funext a; apply Fin.ext; fin_cases a <;> blk_simp [idx t]
  rw [ey]
  have e := Cert.RefFwdIdeal.Hand.ref8 (m ((c : Thread nD τ).loc main_arg0)) (m ((c : Thread nD τ).loc main_arg1)) (m ((c : Thread nD τ).loc main_arg2))
        (m ((c : Thread nD τ).loc main_arg3)) (m ((c : Thread nD τ).loc main_arg4)) y r hr
  refine Eq.trans ?_ e.symm
  rw [outsAt0_C m c t h0 h31]; frame_out
  simp only [readCov_ld, s_canon, l_canon (grid0.coords t) (iblk m c 0 t) (iblk m c 1 t) (iblk m c 2 t) (iblk m c 3 t) (iblk m c 4 t), read_unread_whole]
  have e4 : ∀ a b a' b' : EReal, a = a' → b = b' → Ideal.log a - C30 * b = Ideal.log a' - C30 * b' := by
    rintro _ _ _ _ rfl rfl; rfl
  refine (loss_canon _ _ y r hr).trans ?_
  exact e4 _ _ _ _ (Finset.sum_congr rfl fun k _ => s_last m c t h1 (ix2 r k)) (Finset.sum_congr rfl fun k _ => l_last m c t h1 (ix2 r k))

/-- and the table of them. -/
theorem final9 (c : Dev nD) : (dats m 0 c).arrAt 9 (cfgs 0).N
    = Cert.RefFwdIdeal.Hand.G9 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  have h31 : t.val % 32 = 31 := (flush0_9 t).mp hf
  have ht := (idx t).2.2.2.2.2.2.2.2.2.2.2
  have h1 : t.val = 31 := by omega
  have h0 : ¬ t.val % 32 = 0 := by omega
  blk_simp
  rw [after0_9]
  have e := Cert.RefFwdIdeal.Hand.ref9 (m ((c : Thread nD τ).loc main_arg0)) (m ((c : Thread nD τ).loc main_arg1)) (m ((c : Thread nD τ).loc main_arg2))
        (m ((c : Thread nD τ).loc main_arg3)) (m ((c : Thread nD τ).loc main_arg4)) (y 0) (y 1)
  have ey : ((cfg0.win 9).blk t).view.emb y = ix2 (y 0) (y 1) := by
    funext a; apply Fin.ext; fin_cases a <;> (blk_simp [idx t]; rfl)
  rw [ey]
  refine Eq.trans ?_ e.symm
  rw [outsAt0_C m c t h0 h31]; frame_out
  simp only [readCov_ld, s_canon, l_canon (grid0.coords t) (iblk m c 0 t) (iblk m c 1 t) (iblk m c 2 t) (iblk m c 3 t) (iblk m c 4 t), read_unread_whole]
  refine Eq.trans (gsdL_canon _ _ _ _ y) ?_
  exact RT_last m c t h1 _ (g_fun m c t _ _ _ (Memref.IsWhole.read_unread _ _) _ _ _ _) (y 1) (y 0) _

end Cert.FwdIdeal.Hand

end
-- ==== Proof.lean ====
module

public import proofs.«01_k».proof.Defs
public import proofs.«01_k».proof.Proof.Gen.Dw.Frame
public import proofs.«01_k».proof.Proof.Gen.DwIdeal.Frame
public import proofs.«01_k».proof.Proof.Gen.DwIdeal.Value
public import proofs.«01_k».proof.Proof.Gen.RefDwIdeal.Frame
public import proofs.«01_k».proof.Proof.Gen.RefDwIdeal.Value
public import proofs.«01_k».proof.Proof.DwValue
public import proofs.«01_k».proof.Proof.Gen.Dx.Frame
public import proofs.«01_k».proof.Proof.Gen.DxIdeal.Frame
public import proofs.«01_k».proof.Proof.Gen.DxIdeal.Value
public import proofs.«01_k».proof.Proof.Gen.RefDxIdeal.Frame
public import proofs.«01_k».proof.Proof.Gen.RefDxIdeal.Value
public import proofs.«01_k».proof.Proof.DxValue
public import proofs.«01_k».proof.Proof.Gen.Fwd.Frame
public import proofs.«01_k».proof.Proof.Gen.FwdIdeal.Frame
public import proofs.«01_k».proof.Proof.Gen.FwdIdeal.Value
public import proofs.«01_k».proof.Proof.Gen.RefFwdIdeal.Frame
public import proofs.«01_k».proof.Proof.RefFwdValue
public import proofs.«01_k».proof.Proof.FwdFinal
public import Idealize.ShloMosaic.Adequacy
public import Idealize.ShloMosaic.Init

@[expose] public section

noncomputable section

namespace Cert.Proof

open Idealize.ShloMosaic Idealize.SL.Sem

/-- The weight gradient call and its reference leave the same matrix, from inputs that agree. -/
theorem dw_algebraic : Cert.algebraic_DwIdeal_RefDwIdeal (hDwIdeal := Cert.DwIdeal.Gen.facts) (hRefDwIdeal := Cert.RefDwIdeal.Gen.facts) :=
  fun m g m' g' _ hag => ⟨_, Cert.DwIdeal.Value.run_blocks m g,
    (θ_run _ _ _).mono (fun r h c => ⟨(h c).1.trans (by
      rw [(hag c).1, (hag c).2.1, (hag c).2.2.1, (hag c).2.2.2]; exact (Cert.DwIdeal.Hand.final m c).symm), (h c).2⟩) (Cert.RefDwIdeal.Value.run m' g')⟩

/-- The call for dx and its reference leave the same codes and the same gradient dx, from inputs that agree. -/
theorem dx_algebraic : Cert.algebraic_DxIdeal_RefDxIdeal (hDxIdeal := Cert.DxIdeal.Gen.facts) (hRefDxIdeal := Cert.RefDxIdeal.Gen.facts) :=
  fun m g m' g' _ hag => ⟨_, _, Cert.DxIdeal.Value.run_blocks m g,
    (θ_run _ _ _).mono (fun r h c => ⟨(h c).1.trans (by
      rw [(hag c).1, (hag c).2.2.2.1, (hag c).2.2.2.2.1, (hag c).2.2.2.2.2]; exact (Cert.DxIdeal.Hand.final_codes m c).symm),
      (h c).2.1.trans (by
      rw [(hag c).1, (hag c).2.1, (hag c).2.2.1, (hag c).2.2.2.1, (hag c).2.2.2.2.1, (hag c).2.2.2.2.2]
      exact (Cert.DxIdeal.Hand.final_dx m c).symm), (h c).2.2⟩) (Cert.RefDxIdeal.Value.run m' g')⟩

/-- The forward call and its reference leave the same tanh values, log-sum-exps, group scales and losses, from inputs that agree. -/
theorem fwd_algebraic : Cert.algebraic_FwdIdeal_RefFwdIdeal (hFwdIdeal := Cert.FwdIdeal.Gen.facts) (hRefFwdIdeal := Cert.RefFwdIdeal.Gen.facts) :=
  fun m g m' g' _ hag => ⟨_, _, _, _, _, Cert.FwdIdeal.Value.run_blocks m g,
    (θ_run _ _ _).mono (fun r h c => ⟨(h c).1.trans (by
      rw [(hag c).1, (hag c).2.1, (hag c).2.2.1, (hag c).2.2.2.1, (hag c).2.2.2.2]; exact (Cert.FwdIdeal.Hand.final5 m c).symm),
      (h c).2.1.trans (by
      rw [(hag c).1, (hag c).2.1, (hag c).2.2.1, (hag c).2.2.2.1, (hag c).2.2.2.2]; exact (Cert.FwdIdeal.Hand.final6 m c).symm),
      (h c).2.2.1.trans (by
      rw [(hag c).1, (hag c).2.1, (hag c).2.2.1, (hag c).2.2.2.1, (hag c).2.2.2.2]; exact (Cert.FwdIdeal.Hand.final7 m c).symm),
      (h c).2.2.2.1.trans (by
      rw [(hag c).1, (hag c).2.1, (hag c).2.2.1, (hag c).2.2.2.1, (hag c).2.2.2.2]; exact (Cert.FwdIdeal.Hand.final8 m c).symm),
      (h c).2.2.2.2.1.trans (by
      rw [(hag c).1, (hag c).2.1, (hag c).2.2.1, (hag c).2.2.2.1, (hag c).2.2.2.2]; exact (Cert.FwdIdeal.Hand.final9 m c).symm),
      (h c).2.2.2.2.2⟩) (Cert.RefFwdIdeal.Hand.run m' g')⟩

/-- All the claims of this directory. -/
theorem claim : Cert.Claim :=
  ⟨Cert.Dw.Gen.facts, Cert.DwIdeal.Gen.facts, Cert.RefDwIdeal.Gen.facts,
   Cert.Dx.Gen.facts, Cert.DxIdeal.Gen.facts, Cert.RefDxIdeal.Gen.facts,
   Cert.Fwd.Gen.facts, Cert.FwdIdeal.Gen.facts, Cert.RefFwdIdeal.Gen.facts,
   fun m ρ _ => Cert.Dw.Gen.frame m ρ, fun m ρ _ => Cert.DwIdeal.Gen.frame m ρ, fun m ρ _ => Cert.RefDwIdeal.Gen.frame m ρ,
   fun m ρ _ => Cert.Dx.Gen.frame m ρ, fun m ρ _ => Cert.DxIdeal.Gen.frame m ρ, fun m ρ _ => Cert.RefDxIdeal.Gen.frame m ρ,
   fun m ρ _ => Cert.Fwd.Gen.frame m ρ, fun m ρ _ => Cert.FwdIdeal.Gen.frame m ρ, fun m ρ _ => Cert.RefFwdIdeal.Gen.frame m ρ,
   trivial, dw_algebraic, trivial, dx_algebraic, trivial, fwd_algebraic⟩

end Cert.Proof

end
